-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8386560 : Shape := ⟨1, ![8386560]⟩
abbrev S65520x128 : Shape := ⟨2, ![65520, 128]⟩
abbrev S4096x4096 : Shape := ⟨2, ![4096, 4096]⟩
abbrev S2x2x128 : Shape := ⟨3, ![2, 2, 128]⟩
abbrev S256x256 : Shape := ⟨2, ![256, 256]⟩
abbrev S256x128 : Shape := ⟨2, ![256, 128]⟩
abbrev S2x128 : Shape := ⟨2, ![2, 128]⟩
abbrev S_ : Shape := ⟨0, ![]⟩
abbrev S16 : Shape := ⟨1, ![16]⟩
abbrev S1x16 : Shape := ⟨2, ![1, 16]⟩
abbrev S1x1x16 : Shape := ⟨3, ![1, 1, 16]⟩
abbrev S128x128 : Shape := ⟨2, ![128, 128]⟩
abbrev S1x1x128 : Shape := ⟨3, ![1, 1, 128]⟩
abbrev S128 : Shape := ⟨1, ![128]⟩

abbrev nBuf : Table → Nat
  | .hbm => 3
  | .local .scVector .vmem => 4
  | _ => 0

abbrev bufTy : (tb : Table) → Fin (nBuf tb) → BufTy
  | .hbm, ⟨0, _⟩ => ⟨S8386560, .f32⟩
  | .hbm, ⟨1, _⟩ => ⟨S65520x128, .f32⟩
  | .hbm, ⟨2, _⟩ => ⟨S4096x4096, .f32⟩
  | .local .scVector .vmem, ⟨0, _⟩ => ⟨S2x2x128, .i32⟩
  | .local .scVector .vmem, ⟨1, _⟩ => ⟨S256x256, .f32⟩
  | .local .scVector .vmem, ⟨2, _⟩ => ⟨S256x128, .f32⟩
  | .local .scVector .vmem, ⟨3, _⟩ => ⟨S2x128, .i32⟩
  | _, _ => ⟨S8386560, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c8_i32 : BitVec 32 := 8#32
  let v20 : BitVec 32 := Scalar.addi c0_i32_1 c8_i32
  let c1_i32 : BitVec 32 := 1#32
  ⟨c0_i32_1, v20, c1_i32⟩
def k0_off1 (k0_t1 : Fin k0_t1_loop.trips) : Fin 2 → Nat :=
  let c0_i32_169 : BitVec 32 := 0#32
  let v259 : Index := Scalar.indexCast c0_i32_169
  let c0_i32_1 : BitVec 32 := 0#32
  let c1_i32 : BitVec 32 := 1#32
  let arg12 : BitVec 32 := Scf.iv c0_i32_1 c1_i32 k0_t1
  let c16_i32_168 : BitVec 32 := 16#32
  let v258 : BitVec 32 := Scalar.muli arg12 c16_i32_168
  let v260 : Index := Scalar.indexCast v258
  ![0, v260.toNat]
def k0_off2 (k0_t1 : Fin k0_t1_loop.trips) : Fin 3 → Nat :=
  let c0_i32_171 : BitVec 32 := 0#32
  let v263 : Index := Scalar.indexCast c0_i32_171
  let c0_i32_172 : BitVec 32 := 0#32
  let v264 : Index := Scalar.indexCast c0_i32_172
  let c0_i32_1 : BitVec 32 := 0#32
  let c1_i32 : BitVec 32 := 1#32
  let arg12 : BitVec 32 := Scf.iv c0_i32_1 c1_i32 k0_t1
  let c16_i32_170 : BitVec 32 := 16#32
  let v262 : BitVec 32 := Scalar.muli arg12 c16_i32_170
  let v265 : Index := Scalar.indexCast v262
  ![0, 0, v265.toNat]
def k0_off3 (k0_t1 : Fin k0_t1_loop.trips) : Fin 3 → Nat :=
  let c0_i32_175 : BitVec 32 := 0#32
  let v272 : Index := Scalar.indexCast c0_i32_175
  let c1_i32_176 : BitVec 32 := 1#32
  let v273 : Index := Scalar.indexCast c1_i32_176
  let c0_i32_1 : BitVec 32 := 0#32
  let c1_i32 : BitVec 32 := 1#32
  let arg12 : BitVec 32 := Scf.iv c0_i32_1 c1_i32 k0_t1
  let c16_i32_174 : BitVec 32 := 16#32
  let v271 : BitVec 32 := Scalar.muli arg12 c16_i32_174
  let v274 : Index := Scalar.indexCast v271
  ![0, 1, v274.toNat]
@[reducible] def k0_t2_loop : Scf.Loop 32 :=
  let c0_i32_39 : BitVec 32 := 0#32
  let c128_i32_40 : BitVec 32 := 128#32
  let v53 : BitVec 32 := Scalar.addi c0_i32_39 c128_i32_40
  let c1_i32_41 : BitVec 32 := 1#32
  ⟨c0_i32_39, v53, c1_i32_41⟩

def k0_chk1 (v251 : IVec S16 32) (v255 : IVec S16 32) : Prop :=
  (∀ a x, ((![v251, v255] : Fin 2 → IVec S16 32) a x).toNat < S256x256.size a)
theorem k0_idx1_inb : ∀ (v251 : IVec S16 32) (v255 : IVec S16 32) (k0_hw1 : k0_chk1 v251 v255), ∀ a x, ((![v251, v255] : Fin 2 → IVec S16 32) a x).toNat < S256x256.size a := fun v251 v255 k0_hw1 => k0_hw1

def k0_chk2 (v258 : IVec S16 32) (v262 : IVec S16 32) : Prop :=
  (∀ a x, ((![v258, v262] : Fin 2 → IVec S16 32) a x).toNat < S256x256.size a)
theorem k0_idx2_inb : ∀ (v258 : IVec S16 32) (v262 : IVec S16 32) (k0_hw2 : k0_chk2 v258 v262), ∀ a x, ((![v258, v262] : Fin 2 → IVec S16 32) a x).toNat < S256x256.size a := fun v258 v262 k0_hw2 => k0_hw2
def k0_off4 (k0_t2 : Fin k0_t2_loop.trips) : Fin 2 → Nat :=
  let c0_i32_173 : BitVec 32 := 0#32
  let c0_i32_163 : BitVec 32 := 0#32
  let c0_i32_39 : BitVec 32 := 0#32
  let c1_i32_41 : BitVec 32 := 1#32
  let arg12 : BitVec 32 := Scf.iv c0_i32_39 c1_i32_41 k0_t2
  let c1_i32_162 : BitVec 32 := 1#32
  let v235 : BitVec 32 := Scalar.muli arg12 c1_i32_162
  let v236 : BitVec 32 := Scalar.addi c0_i32_163 v235
  let v271 : BitVec 32 := Scalar.addi c0_i32_173 v236
  let v272 : Index := Scalar.indexCast v271
  let c0_174 : Index := 0#32
  ![v272.toNat, 0]

def k0_chk3 (v251 : IVec S16 32) (v277 : IVec S16 32) : Prop :=
  (∀ a x, ((![v251, v277] : Fin 2 → IVec S16 32) a x).toNat < S256x256.size a)
theorem k0_idx3_inb : ∀ (v251 : IVec S16 32) (v277 : IVec S16 32) (k0_hw3 : k0_chk3 v251 v277), ∀ a x, ((![v251, v277] : Fin 2 → IVec S16 32) a x).toNat < S256x256.size a := fun v251 v277 k0_hw3 => k0_hw3

def k0_chk4 (v280 : IVec S16 32) (v284 : IVec S16 32) : Prop :=
  (∀ a x, ((![v280, v284] : Fin 2 → IVec S16 32) a x).toNat < S256x256.size a)
theorem k0_idx4_inb : ∀ (v280 : IVec S16 32) (v284 : IVec S16 32) (k0_hw4 : k0_chk4 v280 v284), ∀ a x, ((![v280, v284] : Fin 2 → IVec S16 32) a x).toNat < S256x256.size a := fun v280 v284 k0_hw4 => k0_hw4
def k0_off5 (k0_t2 : Fin k0_t2_loop.trips) : Fin 2 → Nat :=
  let c0_i32_179 : BitVec 32 := 0#32
  let c0_i32_163 : BitVec 32 := 0#32
  let c0_i32_39 : BitVec 32 := 0#32
  let c1_i32_41 : BitVec 32 := 1#32
  let arg12 : BitVec 32 := Scf.iv c0_i32_39 c1_i32_41 k0_t2
  let c1_i32_162 : BitVec 32 := 1#32
  let v235 : BitVec 32 := Scalar.muli arg12 c1_i32_162
  let v236 : BitVec 32 := Scalar.addi c0_i32_163 v235
  let v293 : BitVec 32 := Scalar.addi c0_i32_179 v236
  let v294 : Index := Scalar.indexCast v293
  let c16_180 : Index := 16#32
  ![v294.toNat, 16]

def k0_chk5 (v251 : IVec S16 32) (v299 : IVec S16 32) : Prop :=
  (∀ a x, ((![v251, v299] : Fin 2 → IVec S16 32) a x).toNat < S256x256.size a)
theorem k0_idx5_inb : ∀ (v251 : IVec S16 32) (v299 : IVec S16 32) (k0_hw5 : k0_chk5 v251 v299), ∀ a x, ((![v251, v299] : Fin 2 → IVec S16 32) a x).toNat < S256x256.size a := fun v251 v299 k0_hw5 => k0_hw5

def k0_chk6 (v302 : IVec S16 32) (v306 : IVec S16 32) : Prop :=
  (∀ a x, ((![v302, v306] : Fin 2 → IVec S16 32) a x).toNat < S256x256.size a)
theorem k0_idx6_inb : ∀ (v302 : IVec S16 32) (v306 : IVec S16 32) (k0_hw6 : k0_chk6 v302 v306), ∀ a x, ((![v302, v306] : Fin 2 → IVec S16 32) a x).toNat < S256x256.size a := fun v302 v306 k0_hw6 => k0_hw6
def k0_off6 (k0_t2 : Fin k0_t2_loop.trips) : Fin 2 → Nat :=
  let c0_i32_185 : BitVec 32 := 0#32
  let c0_i32_163 : BitVec 32 := 0#32
  let c0_i32_39 : BitVec 32 := 0#32
  let c1_i32_41 : BitVec 32 := 1#32
  let arg12 : BitVec 32 := Scf.iv c0_i32_39 c1_i32_41 k0_t2
  let c1_i32_162 : BitVec 32 := 1#32
  let v235 : BitVec 32 := Scalar.muli arg12 c1_i32_162
  let v236 : BitVec 32 := Scalar.addi c0_i32_163 v235
  let v315 : BitVec 32 := Scalar.addi c0_i32_185 v236
  let v316 : Index := Scalar.indexCast v315
  let c32_186 : Index := 32#32
  ![v316.toNat, 32]

def k0_chk7 (v251 : IVec S16 32) (v321 : IVec S16 32) : Prop :=
  (∀ a x, ((![v251, v321] : Fin 2 → IVec S16 32) a x).toNat < S256x256.size a)
theorem k0_idx7_inb : ∀ (v251 : IVec S16 32) (v321 : IVec S16 32) (k0_hw7 : k0_chk7 v251 v321), ∀ a x, ((![v251, v321] : Fin 2 → IVec S16 32) a x).toNat < S256x256.size a := fun v251 v321 k0_hw7 => k0_hw7

def k0_chk8 (v324 : IVec S16 32) (v328 : IVec S16 32) : Prop :=
  (∀ a x, ((![v324, v328] : Fin 2 → IVec S16 32) a x).toNat < S256x256.size a)
theorem k0_idx8_inb : ∀ (v324 : IVec S16 32) (v328 : IVec S16 32) (k0_hw8 : k0_chk8 v324 v328), ∀ a x, ((![v324, v328] : Fin 2 → IVec S16 32) a x).toNat < S256x256.size a := fun v324 v328 k0_hw8 => k0_hw8
def k0_off7 (k0_t2 : Fin k0_t2_loop.trips) : Fin 2 → Nat :=
  let c0_i32_191 : BitVec 32 := 0#32
  let c0_i32_163 : BitVec 32 := 0#32
  let c0_i32_39 : BitVec 32 := 0#32
  let c1_i32_41 : BitVec 32 := 1#32
  let arg12 : BitVec 32 := Scf.iv c0_i32_39 c1_i32_41 k0_t2
  let c1_i32_162 : BitVec 32 := 1#32
  let v235 : BitVec 32 := Scalar.muli arg12 c1_i32_162
  let v236 : BitVec 32 := Scalar.addi c0_i32_163 v235
  let v337 : BitVec 32 := Scalar.addi c0_i32_191 v236
  let v338 : Index := Scalar.indexCast v337
  let c48_192 : Index := 48#32
  ![v338.toNat, 48]

def k0_chk9 (v251 : IVec S16 32) (v343 : IVec S16 32) : Prop :=
  (∀ a x, ((![v251, v343] : Fin 2 → IVec S16 32) a x).toNat < S256x256.size a)
theorem k0_idx9_inb : ∀ (v251 : IVec S16 32) (v343 : IVec S16 32) (k0_hw9 : k0_chk9 v251 v343), ∀ a x, ((![v251, v343] : Fin 2 → IVec S16 32) a x).toNat < S256x256.size a := fun v251 v343 k0_hw9 => k0_hw9

def k0_chk10 (v346 : IVec S16 32) (v350 : IVec S16 32) : Prop :=
  (∀ a x, ((![v346, v350] : Fin 2 → IVec S16 32) a x).toNat < S256x256.size a)
theorem k0_idx10_inb : ∀ (v346 : IVec S16 32) (v350 : IVec S16 32) (k0_hw10 : k0_chk10 v346 v350), ∀ a x, ((![v346, v350] : Fin 2 → IVec S16 32) a x).toNat < S256x256.size a := fun v346 v350 k0_hw10 => k0_hw10
def k0_off8 (k0_t2 : Fin k0_t2_loop.trips) : Fin 2 → Nat :=
  let c0_i32_197 : BitVec 32 := 0#32
  let c0_i32_163 : BitVec 32 := 0#32
  let c0_i32_39 : BitVec 32 := 0#32
  let c1_i32_41 : BitVec 32 := 1#32
  let arg12 : BitVec 32 := Scf.iv c0_i32_39 c1_i32_41 k0_t2
  let c1_i32_162 : BitVec 32 := 1#32
  let v235 : BitVec 32 := Scalar.muli arg12 c1_i32_162
  let v236 : BitVec 32 := Scalar.addi c0_i32_163 v235
  let v359 : BitVec 32 := Scalar.addi c0_i32_197 v236
  let v360 : Index := Scalar.indexCast v359
  let c64_198 : Index := 64#32
  ![v360.toNat, 64]

def k0_chk11 (v251 : IVec S16 32) (v365 : IVec S16 32) : Prop :=
  (∀ a x, ((![v251, v365] : Fin 2 → IVec S16 32) a x).toNat < S256x256.size a)
theorem k0_idx11_inb : ∀ (v251 : IVec S16 32) (v365 : IVec S16 32) (k0_hw11 : k0_chk11 v251 v365), ∀ a x, ((![v251, v365] : Fin 2 → IVec S16 32) a x).toNat < S256x256.size a := fun v251 v365 k0_hw11 => k0_hw11

def k0_chk12 (v368 : IVec S16 32) (v372 : IVec S16 32) : Prop :=
  (∀ a x, ((![v368, v372] : Fin 2 → IVec S16 32) a x).toNat < S256x256.size a)
theorem k0_idx12_inb : ∀ (v368 : IVec S16 32) (v372 : IVec S16 32) (k0_hw12 : k0_chk12 v368 v372), ∀ a x, ((![v368, v372] : Fin 2 → IVec S16 32) a x).toNat < S256x256.size a := fun v368 v372 k0_hw12 => k0_hw12
def k0_off9 (k0_t2 : Fin k0_t2_loop.trips) : Fin 2 → Nat :=
  let c0_i32_203 : BitVec 32 := 0#32
  let c0_i32_163 : BitVec 32 := 0#32
  let c0_i32_39 : BitVec 32 := 0#32
  let c1_i32_41 : BitVec 32 := 1#32
  let arg12 : BitVec 32 := Scf.iv c0_i32_39 c1_i32_41 k0_t2
  let c1_i32_162 : BitVec 32 := 1#32
  let v235 : BitVec 32 := Scalar.muli arg12 c1_i32_162
  let v236 : BitVec 32 := Scalar.addi c0_i32_163 v235
  let v381 : BitVec 32 := Scalar.addi c0_i32_203 v236
  let v382 : Index := Scalar.indexCast v381
  let c80_204 : Index := 80#32
  ![v382.toNat, 80]

def k0_chk13 (v251 : IVec S16 32) (v387 : IVec S16 32) : Prop :=
  (∀ a x, ((![v251, v387] : Fin 2 → IVec S16 32) a x).toNat < S256x256.size a)
theorem k0_idx13_inb : ∀ (v251 : IVec S16 32) (v387 : IVec S16 32) (k0_hw13 : k0_chk13 v251 v387), ∀ a x, ((![v251, v387] : Fin 2 → IVec S16 32) a x).toNat < S256x256.size a := fun v251 v387 k0_hw13 => k0_hw13

def k0_chk14 (v390 : IVec S16 32) (v394 : IVec S16 32) : Prop :=
  (∀ a x, ((![v390, v394] : Fin 2 → IVec S16 32) a x).toNat < S256x256.size a)
theorem k0_idx14_inb : ∀ (v390 : IVec S16 32) (v394 : IVec S16 32) (k0_hw14 : k0_chk14 v390 v394), ∀ a x, ((![v390, v394] : Fin 2 → IVec S16 32) a x).toNat < S256x256.size a := fun v390 v394 k0_hw14 => k0_hw14
def k0_off10 (k0_t2 : Fin k0_t2_loop.trips) : Fin 2 → Nat :=
  let c0_i32_209 : BitVec 32 := 0#32
  let c0_i32_163 : BitVec 32 := 0#32
  let c0_i32_39 : BitVec 32 := 0#32
  let c1_i32_41 : BitVec 32 := 1#32
  let arg12 : BitVec 32 := Scf.iv c0_i32_39 c1_i32_41 k0_t2
  let c1_i32_162 : BitVec 32 := 1#32
  let v235 : BitVec 32 := Scalar.muli arg12 c1_i32_162
  let v236 : BitVec 32 := Scalar.addi c0_i32_163 v235
  let v403 : BitVec 32 := Scalar.addi c0_i32_209 v236
  let v404 : Index := Scalar.indexCast v403
  let c96_210 : Index := 96#32
  ![v404.toNat, 96]

def k0_chk15 (v251 : IVec S16 32) (v409 : IVec S16 32) : Prop :=
  (∀ a x, ((![v251, v409] : Fin 2 → IVec S16 32) a x).toNat < S256x256.size a)
theorem k0_idx15_inb : ∀ (v251 : IVec S16 32) (v409 : IVec S16 32) (k0_hw15 : k0_chk15 v251 v409), ∀ a x, ((![v251, v409] : Fin 2 → IVec S16 32) a x).toNat < S256x256.size a := fun v251 v409 k0_hw15 => k0_hw15

def k0_chk16 (v412 : IVec S16 32) (v416 : IVec S16 32) : Prop :=
  (∀ a x, ((![v412, v416] : Fin 2 → IVec S16 32) a x).toNat < S256x256.size a)
theorem k0_idx16_inb : ∀ (v412 : IVec S16 32) (v416 : IVec S16 32) (k0_hw16 : k0_chk16 v412 v416), ∀ a x, ((![v412, v416] : Fin 2 → IVec S16 32) a x).toNat < S256x256.size a := fun v412 v416 k0_hw16 => k0_hw16
def k0_off11 (k0_t2 : Fin k0_t2_loop.trips) : Fin 2 → Nat :=
  let c0_i32_215 : BitVec 32 := 0#32
  let c0_i32_163 : BitVec 32 := 0#32
  let c0_i32_39 : BitVec 32 := 0#32
  let c1_i32_41 : BitVec 32 := 1#32
  let arg12 : BitVec 32 := Scf.iv c0_i32_39 c1_i32_41 k0_t2
  let c1_i32_162 : BitVec 32 := 1#32
  let v235 : BitVec 32 := Scalar.muli arg12 c1_i32_162
  let v236 : BitVec 32 := Scalar.addi c0_i32_163 v235
  let v425 : BitVec 32 := Scalar.addi c0_i32_215 v236
  let v426 : Index := Scalar.indexCast v425
  let c112_216 : Index := 112#32
  ![v426.toNat, 112]
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v19 : BitVec 32 := Scalar.muli v1 c128_i32
  ![v19.toNat, v19.toNat]
@[reducible] def k0_t3_loop : Scf.Loop 32 :=
  let c0_i32_67 : BitVec 32 := 0#32
  let c8_i32_68 : BitVec 32 := 8#32
  let v108 : BitVec 32 := Scalar.addi c0_i32_67 c8_i32_68
  let c1_i32_69 : BitVec 32 := 1#32
  ⟨c0_i32_67, v108, c1_i32_69⟩
def k0_off13 (k0_t3 : Fin k0_t3_loop.trips) : Fin 2 → Nat :=
  let c0_i32_169 : BitVec 32 := 0#32
  let v259 : Index := Scalar.indexCast c0_i32_169
  let c0_i32_67 : BitVec 32 := 0#32
  let c1_i32_69 : BitVec 32 := 1#32
  let arg12 : BitVec 32 := Scf.iv c0_i32_67 c1_i32_69 k0_t3
  let c16_i32_168 : BitVec 32 := 16#32
  let v258 : BitVec 32 := Scalar.muli arg12 c16_i32_168
  let v260 : Index := Scalar.indexCast v258
  ![0, v260.toNat]
def k0_off14 (k0_t3 : Fin k0_t3_loop.trips) : Fin 3 → Nat :=
  let c0_i32_171 : BitVec 32 := 0#32
  let v263 : Index := Scalar.indexCast c0_i32_171
  let c0_i32_172 : BitVec 32 := 0#32
  let v264 : Index := Scalar.indexCast c0_i32_172
  let c0_i32_67 : BitVec 32 := 0#32
  let c1_i32_69 : BitVec 32 := 1#32
  let arg12 : BitVec 32 := Scf.iv c0_i32_67 c1_i32_69 k0_t3
  let c16_i32_170 : BitVec 32 := 16#32
  let v262 : BitVec 32 := Scalar.muli arg12 c16_i32_170
  let v265 : Index := Scalar.indexCast v262
  ![0, 0, v265.toNat]
def k0_off15 (k0_t3 : Fin k0_t3_loop.trips) : Fin 3 → Nat :=
  let c0_i32_175 : BitVec 32 := 0#32
  let v272 : Index := Scalar.indexCast c0_i32_175
  let c1_i32_176 : BitVec 32 := 1#32
  let v273 : Index := Scalar.indexCast c1_i32_176
  let c0_i32_67 : BitVec 32 := 0#32
  let c1_i32_69 : BitVec 32 := 1#32
  let arg12 : BitVec 32 := Scf.iv c0_i32_67 c1_i32_69 k0_t3
  let c16_i32_174 : BitVec 32 := 16#32
  let v271 : BitVec 32 := Scalar.muli arg12 c16_i32_174
  let v274 : Index := Scalar.indexCast v271
  ![0, 1, v274.toNat]
@[reducible] def k0_t4_loop : Scf.Loop 32 :=
  let c0_i32_109 : BitVec 32 := 0#32
  let c8_i32_110 : BitVec 32 := 8#32
  let v167 : BitVec 32 := Scalar.addi c0_i32_109 c8_i32_110
  let c1_i32_111 : BitVec 32 := 1#32
  ⟨c0_i32_109, v167, c1_i32_111⟩
def k0_off16 (k0_t4 : Fin k0_t4_loop.trips) : Fin 2 → Nat :=
  let c1_i32_169 : BitVec 32 := 1#32
  let v259 : Index := Scalar.indexCast c1_i32_169
  let c0_i32_109 : BitVec 32 := 0#32
  let c1_i32_111 : BitVec 32 := 1#32
  let arg12 : BitVec 32 := Scf.iv c0_i32_109 c1_i32_111 k0_t4
  let c16_i32_168 : BitVec 32 := 16#32
  let v258 : BitVec 32 := Scalar.muli arg12 c16_i32_168
  let v260 : Index := Scalar.indexCast v258
  ![1, v260.toNat]
def k0_off17 (k0_t4 : Fin k0_t4_loop.trips) : Fin 3 → Nat :=
  let c1_i32_171 : BitVec 32 := 1#32
  let v263 : Index := Scalar.indexCast c1_i32_171
  let c0_i32_172 : BitVec 32 := 0#32
  let v264 : Index := Scalar.indexCast c0_i32_172
  let c0_i32_109 : BitVec 32 := 0#32
  let c1_i32_111 : BitVec 32 := 1#32
  let arg12 : BitVec 32 := Scf.iv c0_i32_109 c1_i32_111 k0_t4
  let c16_i32_170 : BitVec 32 := 16#32
  let v262 : BitVec 32 := Scalar.muli arg12 c16_i32_170
  let v265 : Index := Scalar.indexCast v262
  ![1, 0, v265.toNat]
def k0_off18 (k0_t4 : Fin k0_t4_loop.trips) : Fin 3 → Nat :=
  let c1_i32_175 : BitVec 32 := 1#32
  let v272 : Index := Scalar.indexCast c1_i32_175
  let c1_i32_176 : BitVec 32 := 1#32
  let v273 : Index := Scalar.indexCast c1_i32_176
  let c0_i32_109 : BitVec 32 := 0#32
  let c1_i32_111 : BitVec 32 := 1#32
  let arg12 : BitVec 32 := Scf.iv c0_i32_109 c1_i32_111 k0_t4
  let c16_i32_174 : BitVec 32 := 16#32
  let v271 : BitVec 32 := Scalar.muli arg12 c16_i32_174
  let v274 : Index := Scalar.indexCast v271
  ![1, 1, v274.toNat]
@[reducible] def k0_t5_loop : Scf.Loop 32 :=
  let c0_i32_128 : BitVec 32 := 0#32
  let c8_i32_129 : BitVec 32 := 8#32
  let v176 : BitVec 32 := Scalar.addi c0_i32_128 c8_i32_129
  let c1_i32_130 : BitVec 32 := 1#32
  ⟨c0_i32_128, v176, c1_i32_130⟩
def k0_off19 (i : grid0.Coords) (k0_t5 : Fin k0_t5_loop.trips) (v257 : BitVec 32) (v276 : BitVec 32) : Fin 2 → Nat :=
  let c_m1_i32_173 : BitVec 32 := 4294967295#32
  let v258 : BitVec 32 := Scalar.addi c_m1_i32_173 v257
  let v277 : BitVec 32 := Scalar.addi v258 v276
  let c128_i32_185 : BitVec 32 := 128#32
  let v286 : BitVec 32 := Scalar.muli v277 c128_i32_185
  let c1_i32_184 : BitVec 32 := 1#32
  let v283 : BitVec 32 := Scalar.addi v277 c1_i32_184
  let c2_i32_162 : BitVec 32 := 2#32
  let c0_i32_128 : BitVec 32 := 0#32
  let c1_i32_130 : BitVec 32 := 1#32
  let arg12 : BitVec 32 := Scf.iv c0_i32_128 c1_i32_130 k0_t5
  let v235 : BitVec 32 := Scalar.muli c2_i32_162 arg12
  let c0_i32_163 : BitVec 32 := 0#32
  let v236 : BitVec 32 := Scalar.addi v235 c0_i32_163
  let c32_i32_164 : BitVec 32 := 32#32
  let v237 : BitVec 32 := Scalar.muli v236 c32_i32_164
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v238 : BitVec 32 := Scalar.addi v237 v1
  let c495_i32_165 : BitVec 32 := 495#32
  let v239 : BitVec 32 := Scalar.minsi v238 c495_i32_165
  let c31_i32_181 : BitVec 32 := 31#32
  let v278 : BitVec 32 := Scalar.muli c31_i32_181 v277
  let c1_i32_182 : BitVec 32 := 1#32
  let v279 : BitVec 32 := Scalar.subi v277 c1_i32_182
  let v280 : BitVec 32 := Scalar.muli v277 v279
  let c1_i32_183 : BitVec 32 := 1#32
  let v281 : BitVec 32 := Scalar.shrui v280 c1_i32_183
  let v282 : BitVec 32 := Scalar.subi v278 v281
  let v284 : BitVec 32 := Scalar.subi v239 v282
  let v285 : BitVec 32 := Scalar.addi v283 v284
  let c128_i32_186 : BitVec 32 := 128#32
  let v287 : BitVec 32 := Scalar.muli v285 c128_i32_186
  ![v286.toNat, v287.toNat]

@[reducible] def k0_t6_loop : Scf.Loop 32 :=
  let c0_i32_221 : BitVec 32 := 0#32
  let c128_i32_222 : BitVec 32 := 128#32
  let v316 : BitVec 32 := Scalar.addi c0_i32_221 c128_i32_222
  let c1_i32_223 : BitVec 32 := 1#32
  ⟨c0_i32_221, v316, c1_i32_223⟩

def k0_chk18 (v443 : IVec S16 32) (v445 : IVec S16 32) : Prop :=
  (∀ a x, ((![v443, v445] : Fin 2 → IVec S16 32) a x).toNat < S256x256.size a)
theorem k0_idx17_inb : ∀ (v443 : IVec S16 32) (v445 : IVec S16 32) (k0_hw18 : k0_chk18 v443 v445), ∀ a x, ((![v443, v445] : Fin 2 → IVec S16 32) a x).toNat < S256x256.size a := fun v443 v445 k0_hw18 => k0_hw18
def k0_off20 (k0_t6 : Fin k0_t6_loop.trips) : Fin 2 → Nat :=
  let c0_i32_327 : BitVec 32 := 0#32
  let c0_i32_322 : BitVec 32 := 0#32
  let c0_i32_221 : BitVec 32 := 0#32
  let c1_i32_223 : BitVec 32 := 1#32
  let arg13 : BitVec 32 := Scf.iv c0_i32_221 c1_i32_223 k0_t6
  let c1_i32_321 : BitVec 32 := 1#32
  let v430 : BitVec 32 := Scalar.muli arg13 c1_i32_321
  let v431 : BitVec 32 := Scalar.addi c0_i32_322 v430
  let v447 : BitVec 32 := Scalar.addi c0_i32_327 v431
  let v448 : Index := Scalar.indexCast v447
  let c0_328 : Index := 0#32
  ![v448.toNat, 0]

def k0_chk19 (v443 : IVec S16 32) (v451 : IVec S16 32) : Prop :=
  (∀ a x, ((![v443, v451] : Fin 2 → IVec S16 32) a x).toNat < S256x256.size a)
theorem k0_idx18_inb : ∀ (v443 : IVec S16 32) (v451 : IVec S16 32) (k0_hw19 : k0_chk19 v443 v451), ∀ a x, ((![v443, v451] : Fin 2 → IVec S16 32) a x).toNat < S256x256.size a := fun v443 v451 k0_hw19 => k0_hw19
def k0_off21 (k0_t6 : Fin k0_t6_loop.trips) : Fin 2 → Nat :=
  let c0_i32_329 : BitVec 32 := 0#32
  let c0_i32_322 : BitVec 32 := 0#32
  let c0_i32_221 : BitVec 32 := 0#32
  let c1_i32_223 : BitVec 32 := 1#32
  let arg13 : BitVec 32 := Scf.iv c0_i32_221 c1_i32_223 k0_t6
  let c1_i32_321 : BitVec 32 := 1#32
  let v430 : BitVec 32 := Scalar.muli arg13 c1_i32_321
  let v431 : BitVec 32 := Scalar.addi c0_i32_322 v430
  let v453 : BitVec 32 := Scalar.addi c0_i32_329 v431
  let v454 : Index := Scalar.indexCast v453
  let c16_330 : Index := 16#32
  ![v454.toNat, 16]

def k0_chk20 (v443 : IVec S16 32) (v457 : IVec S16 32) : Prop :=
  (∀ a x, ((![v443, v457] : Fin 2 → IVec S16 32) a x).toNat < S256x256.size a)
theorem k0_idx19_inb : ∀ (v443 : IVec S16 32) (v457 : IVec S16 32) (k0_hw20 : k0_chk20 v443 v457), ∀ a x, ((![v443, v457] : Fin 2 → IVec S16 32) a x).toNat < S256x256.size a := fun v443 v457 k0_hw20 => k0_hw20
def k0_off22 (k0_t6 : Fin k0_t6_loop.trips) : Fin 2 → Nat :=
  let c0_i32_331 : BitVec 32 := 0#32
  let c0_i32_322 : BitVec 32 := 0#32
  let c0_i32_221 : BitVec 32 := 0#32
  let c1_i32_223 : BitVec 32 := 1#32
  let arg13 : BitVec 32 := Scf.iv c0_i32_221 c1_i32_223 k0_t6
  let c1_i32_321 : BitVec 32 := 1#32
  let v430 : BitVec 32 := Scalar.muli arg13 c1_i32_321
  let v431 : BitVec 32 := Scalar.addi c0_i32_322 v430
  let v459 : BitVec 32 := Scalar.addi c0_i32_331 v431
  let v460 : Index := Scalar.indexCast v459
  let c32_332 : Index := 32#32
  ![v460.toNat, 32]

def k0_chk21 (v443 : IVec S16 32) (v463 : IVec S16 32) : Prop :=
  (∀ a x, ((![v443, v463] : Fin 2 → IVec S16 32) a x).toNat < S256x256.size a)
theorem k0_idx20_inb : ∀ (v443 : IVec S16 32) (v463 : IVec S16 32) (k0_hw21 : k0_chk21 v443 v463), ∀ a x, ((![v443, v463] : Fin 2 → IVec S16 32) a x).toNat < S256x256.size a := fun v443 v463 k0_hw21 => k0_hw21
def k0_off23 (k0_t6 : Fin k0_t6_loop.trips) : Fin 2 → Nat :=
  let c0_i32_333 : BitVec 32 := 0#32
  let c0_i32_322 : BitVec 32 := 0#32
  let c0_i32_221 : BitVec 32 := 0#32
  let c1_i32_223 : BitVec 32 := 1#32
  let arg13 : BitVec 32 := Scf.iv c0_i32_221 c1_i32_223 k0_t6
  let c1_i32_321 : BitVec 32 := 1#32
  let v430 : BitVec 32 := Scalar.muli arg13 c1_i32_321
  let v431 : BitVec 32 := Scalar.addi c0_i32_322 v430
  let v465 : BitVec 32 := Scalar.addi c0_i32_333 v431
  let v466 : Index := Scalar.indexCast v465
  let c48_334 : Index := 48#32
  ![v466.toNat, 48]

def k0_chk22 (v443 : IVec S16 32) (v469 : IVec S16 32) : Prop :=
  (∀ a x, ((![v443, v469] : Fin 2 → IVec S16 32) a x).toNat < S256x256.size a)
theorem k0_idx21_inb : ∀ (v443 : IVec S16 32) (v469 : IVec S16 32) (k0_hw22 : k0_chk22 v443 v469), ∀ a x, ((![v443, v469] : Fin 2 → IVec S16 32) a x).toNat < S256x256.size a := fun v443 v469 k0_hw22 => k0_hw22
def k0_off24 (k0_t6 : Fin k0_t6_loop.trips) : Fin 2 → Nat :=
  let c0_i32_335 : BitVec 32 := 0#32
  let c0_i32_322 : BitVec 32 := 0#32
  let c0_i32_221 : BitVec 32 := 0#32
  let c1_i32_223 : BitVec 32 := 1#32
  let arg13 : BitVec 32 := Scf.iv c0_i32_221 c1_i32_223 k0_t6
  let c1_i32_321 : BitVec 32 := 1#32
  let v430 : BitVec 32 := Scalar.muli arg13 c1_i32_321
  let v431 : BitVec 32 := Scalar.addi c0_i32_322 v430
  let v471 : BitVec 32 := Scalar.addi c0_i32_335 v431
  let v472 : Index := Scalar.indexCast v471
  let c64_336 : Index := 64#32
  ![v472.toNat, 64]

def k0_chk23 (v443 : IVec S16 32) (v475 : IVec S16 32) : Prop :=
  (∀ a x, ((![v443, v475] : Fin 2 → IVec S16 32) a x).toNat < S256x256.size a)
theorem k0_idx22_inb : ∀ (v443 : IVec S16 32) (v475 : IVec S16 32) (k0_hw23 : k0_chk23 v443 v475), ∀ a x, ((![v443, v475] : Fin 2 → IVec S16 32) a x).toNat < S256x256.size a := fun v443 v475 k0_hw23 => k0_hw23
def k0_off25 (k0_t6 : Fin k0_t6_loop.trips) : Fin 2 → Nat :=
  let c0_i32_337 : BitVec 32 := 0#32
  let c0_i32_322 : BitVec 32 := 0#32
  let c0_i32_221 : BitVec 32 := 0#32
  let c1_i32_223 : BitVec 32 := 1#32
  let arg13 : BitVec 32 := Scf.iv c0_i32_221 c1_i32_223 k0_t6
  let c1_i32_321 : BitVec 32 := 1#32
  let v430 : BitVec 32 := Scalar.muli arg13 c1_i32_321
  let v431 : BitVec 32 := Scalar.addi c0_i32_322 v430
  let v477 : BitVec 32 := Scalar.addi c0_i32_337 v431
  let v478 : Index := Scalar.indexCast v477
  let c80_338 : Index := 80#32
  ![v478.toNat, 80]

def k0_chk24 (v443 : IVec S16 32) (v481 : IVec S16 32) : Prop :=
  (∀ a x, ((![v443, v481] : Fin 2 → IVec S16 32) a x).toNat < S256x256.size a)
theorem k0_idx23_inb : ∀ (v443 : IVec S16 32) (v481 : IVec S16 32) (k0_hw24 : k0_chk24 v443 v481), ∀ a x, ((![v443, v481] : Fin 2 → IVec S16 32) a x).toNat < S256x256.size a := fun v443 v481 k0_hw24 => k0_hw24
def k0_off26 (k0_t6 : Fin k0_t6_loop.trips) : Fin 2 → Nat :=
  let c0_i32_339 : BitVec 32 := 0#32
  let c0_i32_322 : BitVec 32 := 0#32
  let c0_i32_221 : BitVec 32 := 0#32
  let c1_i32_223 : BitVec 32 := 1#32
  let arg13 : BitVec 32 := Scf.iv c0_i32_221 c1_i32_223 k0_t6
  let c1_i32_321 : BitVec 32 := 1#32
  let v430 : BitVec 32 := Scalar.muli arg13 c1_i32_321
  let v431 : BitVec 32 := Scalar.addi c0_i32_322 v430
  let v483 : BitVec 32 := Scalar.addi c0_i32_339 v431
  let v484 : Index := Scalar.indexCast v483
  let c96_340 : Index := 96#32
  ![v484.toNat, 96]

def k0_chk25 (v443 : IVec S16 32) (v487 : IVec S16 32) : Prop :=
  (∀ a x, ((![v443, v487] : Fin 2 → IVec S16 32) a x).toNat < S256x256.size a)
theorem k0_idx24_inb : ∀ (v443 : IVec S16 32) (v487 : IVec S16 32) (k0_hw25 : k0_chk25 v443 v487), ∀ a x, ((![v443, v487] : Fin 2 → IVec S16 32) a x).toNat < S256x256.size a := fun v443 v487 k0_hw25 => k0_hw25
def k0_off27 (k0_t6 : Fin k0_t6_loop.trips) : Fin 2 → Nat :=
  let c0_i32_341 : BitVec 32 := 0#32
  let c0_i32_322 : BitVec 32 := 0#32
  let c0_i32_221 : BitVec 32 := 0#32
  let c1_i32_223 : BitVec 32 := 1#32
  let arg13 : BitVec 32 := Scf.iv c0_i32_221 c1_i32_223 k0_t6
  let c1_i32_321 : BitVec 32 := 1#32
  let v430 : BitVec 32 := Scalar.muli arg13 c1_i32_321
  let v431 : BitVec 32 := Scalar.addi c0_i32_322 v430
  let v489 : BitVec 32 := Scalar.addi c0_i32_341 v431
  let v490 : Index := Scalar.indexCast v489
  let c112_342 : Index := 112#32
  ![v490.toNat, 112]
def k0_cond1 (k0_t5 : Fin k0_t5_loop.trips) : BitVec 1 :=
  let c0_i32_128 : BitVec 32 := 0#32
  let c1_i32_130 : BitVec 32 := 1#32
  let arg12 : BitVec 32 := Scf.iv c0_i32_128 c1_i32_130 k0_t5
  let c0_i32_229 : BitVec 32 := 0#32
  let v321 : BitVec 1 := Scalar.cmpi .sgt arg12 c0_i32_229
  let v322 : BitVec 32 := Scalar.extui v321
  let c0_i32_230 : BitVec 32 := 0#32
  let v323 : BitVec 1 := Scalar.cmpi .ne v322 c0_i32_230
  v323

def k0_off28 (i : grid0.Coords) (k0_t5 : Fin k0_t5_loop.trips) (v257 : BitVec 32) (v276 : BitVec 32) : Fin 2 → Nat :=
  let c_m1_i32_173 : BitVec 32 := 4294967295#32
  let v258 : BitVec 32 := Scalar.addi c_m1_i32_173 v257
  let v277 : BitVec 32 := Scalar.addi v258 v276
  let c1_i32_184 : BitVec 32 := 1#32
  let v283 : BitVec 32 := Scalar.addi v277 c1_i32_184
  let c2_i32_162 : BitVec 32 := 2#32
  let c0_i32_128 : BitVec 32 := 0#32
  let c1_i32_130 : BitVec 32 := 1#32
  let arg12 : BitVec 32 := Scf.iv c0_i32_128 c1_i32_130 k0_t5
  let v235 : BitVec 32 := Scalar.muli c2_i32_162 arg12
  let c0_i32_163 : BitVec 32 := 0#32
  let v236 : BitVec 32 := Scalar.addi v235 c0_i32_163
  let c32_i32_164 : BitVec 32 := 32#32
  let v237 : BitVec 32 := Scalar.muli v236 c32_i32_164
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v238 : BitVec 32 := Scalar.addi v237 v1
  let c495_i32_165 : BitVec 32 := 495#32
  let v239 : BitVec 32 := Scalar.minsi v238 c495_i32_165
  let c31_i32_181 : BitVec 32 := 31#32
  let v278 : BitVec 32 := Scalar.muli c31_i32_181 v277
  let c1_i32_182 : BitVec 32 := 1#32
  let v279 : BitVec 32 := Scalar.subi v277 c1_i32_182
  let v280 : BitVec 32 := Scalar.muli v277 v279
  let c1_i32_183 : BitVec 32 := 1#32
  let v281 : BitVec 32 := Scalar.shrui v280 c1_i32_183
  let v282 : BitVec 32 := Scalar.subi v278 v281
  let v284 : BitVec 32 := Scalar.subi v239 v282
  let v285 : BitVec 32 := Scalar.addi v283 v284
  let c128_i32_186 : BitVec 32 := 128#32
  let v287 : BitVec 32 := Scalar.muli v285 c128_i32_186
  let c128_i32_185 : BitVec 32 := 128#32
  let v286 : BitVec 32 := Scalar.muli v277 c128_i32_185
  ![v287.toNat, v286.toNat]
@[reducible] def k0_t7_loop : Scf.Loop 32 :=
  let c0_i32_231 : BitVec 32 := 0#32
  let c128_i32_232 : BitVec 32 := 128#32
  let v324 : BitVec 32 := Scalar.addi c0_i32_231 c128_i32_232
  let c1_i32_233 : BitVec 32 := 1#32
  ⟨c0_i32_231, v324, c1_i32_233⟩

def k0_chk26 (v433 : IVec S16 32) (v435 : IVec S16 32) : Prop :=
  (∀ a x, ((![v433, v435] : Fin 2 → IVec S16 32) a x).toNat < S256x256.size a)
theorem k0_idx25_inb : ∀ (v433 : IVec S16 32) (v435 : IVec S16 32) (k0_hw26 : k0_chk26 v433 v435), ∀ a x, ((![v433, v435] : Fin 2 → IVec S16 32) a x).toNat < S256x256.size a := fun v433 v435 k0_hw26 => k0_hw26
def k0_off29 (k0_t7 : Fin k0_t7_loop.trips) : Fin 2 → Nat :=
  let c128_i32_324 : BitVec 32 := 128#32
  let c0_i32_322 : BitVec 32 := 0#32
  let c0_i32_231 : BitVec 32 := 0#32
  let c1_i32_233 : BitVec 32 := 1#32
  let arg13 : BitVec 32 := Scf.iv c0_i32_231 c1_i32_233 k0_t7
  let c1_i32_321 : BitVec 32 := 1#32
  let v430 : BitVec 32 := Scalar.muli arg13 c1_i32_321
  let v431 : BitVec 32 := Scalar.addi c0_i32_322 v430
  let v437 : BitVec 32 := Scalar.addi c128_i32_324 v431
  let v438 : Index := Scalar.indexCast v437
  let c0_325 : Index := 0#32
  ![v438.toNat, 0]

def k0_chk27 (v441 : IVec S16 32) (v443 : IVec S16 32) : Prop :=
  (∀ a x, ((![v441, v443] : Fin 2 → IVec S16 32) a x).toNat < S256x256.size a)
theorem k0_idx26_inb : ∀ (v441 : IVec S16 32) (v443 : IVec S16 32) (k0_hw27 : k0_chk27 v441 v443), ∀ a x, ((![v441, v443] : Fin 2 → IVec S16 32) a x).toNat < S256x256.size a := fun v441 v443 k0_hw27 => k0_hw27
def k0_off30 (k0_t7 : Fin k0_t7_loop.trips) : Fin 2 → Nat :=
  let c128_i32_327 : BitVec 32 := 128#32
  let c0_i32_322 : BitVec 32 := 0#32
  let c0_i32_231 : BitVec 32 := 0#32
  let c1_i32_233 : BitVec 32 := 1#32
  let arg13 : BitVec 32 := Scf.iv c0_i32_231 c1_i32_233 k0_t7
  let c1_i32_321 : BitVec 32 := 1#32
  let v430 : BitVec 32 := Scalar.muli arg13 c1_i32_321
  let v431 : BitVec 32 := Scalar.addi c0_i32_322 v430
  let v445 : BitVec 32 := Scalar.addi c128_i32_327 v431
  let v446 : Index := Scalar.indexCast v445
  let c16_328 : Index := 16#32
  ![v446.toNat, 16]

def k0_chk28 (v449 : IVec S16 32) (v451 : IVec S16 32) : Prop :=
  (∀ a x, ((![v449, v451] : Fin 2 → IVec S16 32) a x).toNat < S256x256.size a)
theorem k0_idx27_inb : ∀ (v449 : IVec S16 32) (v451 : IVec S16 32) (k0_hw28 : k0_chk28 v449 v451), ∀ a x, ((![v449, v451] : Fin 2 → IVec S16 32) a x).toNat < S256x256.size a := fun v449 v451 k0_hw28 => k0_hw28
def k0_off31 (k0_t7 : Fin k0_t7_loop.trips) : Fin 2 → Nat :=
  let c128_i32_330 : BitVec 32 := 128#32
  let c0_i32_322 : BitVec 32 := 0#32
  let c0_i32_231 : BitVec 32 := 0#32
  let c1_i32_233 : BitVec 32 := 1#32
  let arg13 : BitVec 32 := Scf.iv c0_i32_231 c1_i32_233 k0_t7
  let c1_i32_321 : BitVec 32 := 1#32
  let v430 : BitVec 32 := Scalar.muli arg13 c1_i32_321
  let v431 : BitVec 32 := Scalar.addi c0_i32_322 v430
  let v453 : BitVec 32 := Scalar.addi c128_i32_330 v431
  let v454 : Index := Scalar.indexCast v453
  let c32_331 : Index := 32#32
  ![v454.toNat, 32]

def k0_chk29 (v457 : IVec S16 32) (v459 : IVec S16 32) : Prop :=
  (∀ a x, ((![v457, v459] : Fin 2 → IVec S16 32) a x).toNat < S256x256.size a)
theorem k0_idx28_inb : ∀ (v457 : IVec S16 32) (v459 : IVec S16 32) (k0_hw29 : k0_chk29 v457 v459), ∀ a x, ((![v457, v459] : Fin 2 → IVec S16 32) a x).toNat < S256x256.size a := fun v457 v459 k0_hw29 => k0_hw29
def k0_off32 (k0_t7 : Fin k0_t7_loop.trips) : Fin 2 → Nat :=
  let c128_i32_333 : BitVec 32 := 128#32
  let c0_i32_322 : BitVec 32 := 0#32
  let c0_i32_231 : BitVec 32 := 0#32
  let c1_i32_233 : BitVec 32 := 1#32
  let arg13 : BitVec 32 := Scf.iv c0_i32_231 c1_i32_233 k0_t7
  let c1_i32_321 : BitVec 32 := 1#32
  let v430 : BitVec 32 := Scalar.muli arg13 c1_i32_321
  let v431 : BitVec 32 := Scalar.addi c0_i32_322 v430
  let v461 : BitVec 32 := Scalar.addi c128_i32_333 v431
  let v462 : Index := Scalar.indexCast v461
  let c48_334 : Index := 48#32
  ![v462.toNat, 48]

def k0_chk30 (v465 : IVec S16 32) (v467 : IVec S16 32) : Prop :=
  (∀ a x, ((![v465, v467] : Fin 2 → IVec S16 32) a x).toNat < S256x256.size a)
theorem k0_idx29_inb : ∀ (v465 : IVec S16 32) (v467 : IVec S16 32) (k0_hw30 : k0_chk30 v465 v467), ∀ a x, ((![v465, v467] : Fin 2 → IVec S16 32) a x).toNat < S256x256.size a := fun v465 v467 k0_hw30 => k0_hw30
def k0_off33 (k0_t7 : Fin k0_t7_loop.trips) : Fin 2 → Nat :=
  let c128_i32_336 : BitVec 32 := 128#32
  let c0_i32_322 : BitVec 32 := 0#32
  let c0_i32_231 : BitVec 32 := 0#32
  let c1_i32_233 : BitVec 32 := 1#32
  let arg13 : BitVec 32 := Scf.iv c0_i32_231 c1_i32_233 k0_t7
  let c1_i32_321 : BitVec 32 := 1#32
  let v430 : BitVec 32 := Scalar.muli arg13 c1_i32_321
  let v431 : BitVec 32 := Scalar.addi c0_i32_322 v430
  let v469 : BitVec 32 := Scalar.addi c128_i32_336 v431
  let v470 : Index := Scalar.indexCast v469
  let c64_337 : Index := 64#32
  ![v470.toNat, 64]

def k0_chk31 (v473 : IVec S16 32) (v475 : IVec S16 32) : Prop :=
  (∀ a x, ((![v473, v475] : Fin 2 → IVec S16 32) a x).toNat < S256x256.size a)
theorem k0_idx30_inb : ∀ (v473 : IVec S16 32) (v475 : IVec S16 32) (k0_hw31 : k0_chk31 v473 v475), ∀ a x, ((![v473, v475] : Fin 2 → IVec S16 32) a x).toNat < S256x256.size a := fun v473 v475 k0_hw31 => k0_hw31
def k0_off34 (k0_t7 : Fin k0_t7_loop.trips) : Fin 2 → Nat :=
  let c128_i32_339 : BitVec 32 := 128#32
  let c0_i32_322 : BitVec 32 := 0#32
  let c0_i32_231 : BitVec 32 := 0#32
  let c1_i32_233 : BitVec 32 := 1#32
  let arg13 : BitVec 32 := Scf.iv c0_i32_231 c1_i32_233 k0_t7
  let c1_i32_321 : BitVec 32 := 1#32
  let v430 : BitVec 32 := Scalar.muli arg13 c1_i32_321
  let v431 : BitVec 32 := Scalar.addi c0_i32_322 v430
  let v477 : BitVec 32 := Scalar.addi c128_i32_339 v431
  let v478 : Index := Scalar.indexCast v477
  let c80_340 : Index := 80#32
  ![v478.toNat, 80]

def k0_chk32 (v481 : IVec S16 32) (v483 : IVec S16 32) : Prop :=
  (∀ a x, ((![v481, v483] : Fin 2 → IVec S16 32) a x).toNat < S256x256.size a)
theorem k0_idx31_inb : ∀ (v481 : IVec S16 32) (v483 : IVec S16 32) (k0_hw32 : k0_chk32 v481 v483), ∀ a x, ((![v481, v483] : Fin 2 → IVec S16 32) a x).toNat < S256x256.size a := fun v481 v483 k0_hw32 => k0_hw32
def k0_off35 (k0_t7 : Fin k0_t7_loop.trips) : Fin 2 → Nat :=
  let c128_i32_342 : BitVec 32 := 128#32
  let c0_i32_322 : BitVec 32 := 0#32
  let c0_i32_231 : BitVec 32 := 0#32
  let c1_i32_233 : BitVec 32 := 1#32
  let arg13 : BitVec 32 := Scf.iv c0_i32_231 c1_i32_233 k0_t7
  let c1_i32_321 : BitVec 32 := 1#32
  let v430 : BitVec 32 := Scalar.muli arg13 c1_i32_321
  let v431 : BitVec 32 := Scalar.addi c0_i32_322 v430
  let v485 : BitVec 32 := Scalar.addi c128_i32_342 v431
  let v486 : Index := Scalar.indexCast v485
  let c96_343 : Index := 96#32
  ![v486.toNat, 96]

def k0_chk33 (v489 : IVec S16 32) (v491 : IVec S16 32) : Prop :=
  (∀ a x, ((![v489, v491] : Fin 2 → IVec S16 32) a x).toNat < S256x256.size a)
theorem k0_idx32_inb : ∀ (v489 : IVec S16 32) (v491 : IVec S16 32) (k0_hw33 : k0_chk33 v489 v491), ∀ a x, ((![v489, v491] : Fin 2 → IVec S16 32) a x).toNat < S256x256.size a := fun v489 v491 k0_hw33 => k0_hw33
def k0_off36 (k0_t7 : Fin k0_t7_loop.trips) : Fin 2 → Nat :=
  let c128_i32_345 : BitVec 32 := 128#32
  let c0_i32_322 : BitVec 32 := 0#32
  let c0_i32_231 : BitVec 32 := 0#32
  let c1_i32_233 : BitVec 32 := 1#32
  let arg13 : BitVec 32 := Scf.iv c0_i32_231 c1_i32_233 k0_t7
  let c1_i32_321 : BitVec 32 := 1#32
  let v430 : BitVec 32 := Scalar.muli arg13 c1_i32_321
  let v431 : BitVec 32 := Scalar.addi c0_i32_322 v430
  let v493 : BitVec 32 := Scalar.addi c128_i32_345 v431
  let v494 : Index := Scalar.indexCast v493
  let c112_346 : Index := 112#32
  ![v494.toNat, 112]
def k0_off37 (i : grid0.Coords) (k0_t5 : Fin k0_t5_loop.trips) (v257 : BitVec 32) (v276 : BitVec 32) : Fin 2 → Nat :=
  let c_m1_i32_173 : BitVec 32 := 4294967295#32
  let v258 : BitVec 32 := Scalar.addi c_m1_i32_173 v257
  let v277 : BitVec 32 := Scalar.addi v258 v276
  let c1_i32_184 : BitVec 32 := 1#32
  let v283 : BitVec 32 := Scalar.addi v277 c1_i32_184
  let c2_i32_162 : BitVec 32 := 2#32
  let c0_i32_128 : BitVec 32 := 0#32
  let c1_i32_130 : BitVec 32 := 1#32
  let arg12 : BitVec 32 := Scf.iv c0_i32_128 c1_i32_130 k0_t5
  let v235 : BitVec 32 := Scalar.muli c2_i32_162 arg12
  let c0_i32_163 : BitVec 32 := 0#32
  let v236 : BitVec 32 := Scalar.addi v235 c0_i32_163
  let c32_i32_164 : BitVec 32 := 32#32
  let v237 : BitVec 32 := Scalar.muli v236 c32_i32_164
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v238 : BitVec 32 := Scalar.addi v237 v1
  let c495_i32_165 : BitVec 32 := 495#32
  let v239 : BitVec 32 := Scalar.minsi v238 c495_i32_165
  let c31_i32_181 : BitVec 32 := 31#32
  let v278 : BitVec 32 := Scalar.muli c31_i32_181 v277
  let c1_i32_182 : BitVec 32 := 1#32
  let v279 : BitVec 32 := Scalar.subi v277 c1_i32_182
  let v280 : BitVec 32 := Scalar.muli v277 v279
  let c1_i32_183 : BitVec 32 := 1#32
  let v281 : BitVec 32 := Scalar.shrui v280 c1_i32_183
  let v282 : BitVec 32 := Scalar.subi v278 v281
  let v284 : BitVec 32 := Scalar.subi v239 v282
  let v285 : BitVec 32 := Scalar.addi v283 v284
  let c128_i32_186 : BitVec 32 := 128#32
  let v287 : BitVec 32 := Scalar.muli v285 c128_i32_186
  let c128_i32_185 : BitVec 32 := 128#32
  let v286 : BitVec 32 := Scalar.muli v277 c128_i32_185
  ![v287.toNat, v286.toNat]

def k0_chk17 (i : grid0.Coords) (k0_t5 : Fin k0_t5_loop.trips) (v257 : BitVec 32) (v276 : BitVec 32) : Prop :=
  (∀ a, (k0_off19 i k0_t5 v257 v276) a + S128x128.size a ≤ S4096x4096.size a) ∧
  (∀ (k0_h1 : k0_cond1 k0_t5 = 1#1), ∀ a, (k0_off28 i k0_t5 v257 v276) a + S128x128.size a ≤ S4096x4096.size a) ∧
  (∀ a, (k0_off37 i k0_t5 v257 v276) a + S128x128.size a ≤ S4096x4096.size a)
theorem k0_off19_inb : ∀ (i : grid0.Coords) (k0_t5 : Fin k0_t5_loop.trips) (v257 : BitVec 32) (v276 : BitVec 32) (k0_hw17 : k0_chk17 i k0_t5 v257 v276), ∀ a, (k0_off19 i k0_t5 v257 v276) a + S128x128.size a ≤ S4096x4096.size a := fun i k0_t5 v257 v276 k0_hw17 => k0_hw17.1
theorem k0_off28_inb : ∀ (i : grid0.Coords) (k0_t5 : Fin k0_t5_loop.trips) (v257 : BitVec 32) (v276 : BitVec 32) (k0_hw17 : k0_chk17 i k0_t5 v257 v276), ∀ (k0_h1 : k0_cond1 k0_t5 = 1#1), ∀ a, (k0_off28 i k0_t5 v257 v276) a + S128x128.size a ≤ S4096x4096.size a := fun i k0_t5 v257 v276 k0_hw17 k0_h1 => k0_hw17.2.1 k0_h1
theorem k0_off37_inb : ∀ (i : grid0.Coords) (k0_t5 : Fin k0_t5_loop.trips) (v257 : BitVec 32) (v276 : BitVec 32) (k0_hw17 : k0_chk17 i k0_t5 v257 v276), ∀ a, (k0_off37 i k0_t5 v257 v276) a + S128x128.size a ≤ S4096x4096.size a := fun i k0_t5 v257 v276 k0_hw17 => k0_hw17.2.2

def k0_cond2 (k0_t5 : Fin k0_t5_loop.trips) : BitVec 1 :=
  let c0_i32_128 : BitVec 32 := 0#32
  let c1_i32_130 : BitVec 32 := 1#32
  let arg12 : BitVec 32 := Scf.iv c0_i32_128 c1_i32_130 k0_t5
  let c7_i32 : BitVec 32 := 7#32
  let v329 : BitVec 1 := Scalar.cmpi .slt arg12 c7_i32
  let v330 : BitVec 32 := Scalar.extui v329
  let c0_i32_239 : BitVec 32 := 0#32
  let v331 : BitVec 1 := Scalar.cmpi .ne v330 c0_i32_239
  v331

@[reducible] def k0_t8_loop : Scf.Loop 32 :=
  let c0_i32_346 : BitVec 32 := 0#32
  let c8_i32_347 : BitVec 32 := 8#32
  let v482 : BitVec 32 := Scalar.addi c0_i32_346 c8_i32_347
  let c1_i32_348 : BitVec 32 := 1#32
  ⟨c0_i32_346, v482, c1_i32_348⟩
def k0_off38 (k0_t8 : Fin k0_t8_loop.trips) : Fin 2 → Nat :=
  let c0_i32_372 : BitVec 32 := 0#32
  let v515 : Index := Scalar.indexCast c0_i32_372
  let c0_i32_346 : BitVec 32 := 0#32
  let c1_i32_348 : BitVec 32 := 1#32
  let arg13 : BitVec 32 := Scf.iv c0_i32_346 c1_i32_348 k0_t8
  let c16_i32_371 : BitVec 32 := 16#32
  let v514 : BitVec 32 := Scalar.muli arg13 c16_i32_371
  let v516 : Index := Scalar.indexCast v514
  ![0, v516.toNat]
def k0_off39 (k0_t8 : Fin k0_t8_loop.trips) : Fin 3 → Nat :=
  let c0_i32_374 : BitVec 32 := 0#32
  let v519 : Index := Scalar.indexCast c0_i32_374
  let c0_i32_375 : BitVec 32 := 0#32
  let v520 : Index := Scalar.indexCast c0_i32_375
  let c0_i32_346 : BitVec 32 := 0#32
  let c1_i32_348 : BitVec 32 := 1#32
  let arg13 : BitVec 32 := Scf.iv c0_i32_346 c1_i32_348 k0_t8
  let c16_i32_373 : BitVec 32 := 16#32
  let v518 : BitVec 32 := Scalar.muli arg13 c16_i32_373
  let v521 : Index := Scalar.indexCast v518
  ![0, 0, v521.toNat]
def k0_off40 (k0_t8 : Fin k0_t8_loop.trips) : Fin 3 → Nat :=
  let c0_i32_378 : BitVec 32 := 0#32
  let v528 : Index := Scalar.indexCast c0_i32_378
  let c1_i32_379 : BitVec 32 := 1#32
  let v529 : Index := Scalar.indexCast c1_i32_379
  let c0_i32_346 : BitVec 32 := 0#32
  let c1_i32_348 : BitVec 32 := 1#32
  let arg13 : BitVec 32 := Scf.iv c0_i32_346 c1_i32_348 k0_t8
  let c16_i32_377 : BitVec 32 := 16#32
  let v527 : BitVec 32 := Scalar.muli arg13 c16_i32_377
  let v530 : Index := Scalar.indexCast v527
  ![0, 1, v530.toNat]
def k0_off41 (i : grid0.Coords) (k0_t5 : Fin k0_t5_loop.trips) (v354 : BitVec 32) (v373 : BitVec 32) : Fin 2 → Nat :=
  let c_m1_i32_251 : BitVec 32 := 4294967295#32
  let v355 : BitVec 32 := Scalar.addi c_m1_i32_251 v354
  let v374 : BitVec 32 := Scalar.addi v355 v373
  let c128_i32_263 : BitVec 32 := 128#32
  let v383 : BitVec 32 := Scalar.muli v374 c128_i32_263
  let c1_i32_262 : BitVec 32 := 1#32
  let v380 : BitVec 32 := Scalar.addi v374 c1_i32_262
  let c2_i32_240 : BitVec 32 := 2#32
  let c0_i32_128 : BitVec 32 := 0#32
  let c1_i32_130 : BitVec 32 := 1#32
  let arg12 : BitVec 32 := Scf.iv c0_i32_128 c1_i32_130 k0_t5
  let v332 : BitVec 32 := Scalar.muli c2_i32_240 arg12
  let c1_i32_241 : BitVec 32 := 1#32
  let v333 : BitVec 32 := Scalar.addi v332 c1_i32_241
  let c32_i32_242 : BitVec 32 := 32#32
  let v334 : BitVec 32 := Scalar.muli v333 c32_i32_242
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v335 : BitVec 32 := Scalar.addi v334 v1
  let c495_i32_243 : BitVec 32 := 495#32
  let v336 : BitVec 32 := Scalar.minsi v335 c495_i32_243
  let c31_i32_259 : BitVec 32 := 31#32
  let v375 : BitVec 32 := Scalar.muli c31_i32_259 v374
  let c1_i32_260 : BitVec 32 := 1#32
  let v376 : BitVec 32 := Scalar.subi v374 c1_i32_260
  let v377 : BitVec 32 := Scalar.muli v374 v376
  let c1_i32_261 : BitVec 32 := 1#32
  let v378 : BitVec 32 := Scalar.shrui v377 c1_i32_261
  let v379 : BitVec 32 := Scalar.subi v375 v378
  let v381 : BitVec 32 := Scalar.subi v336 v379
  let v382 : BitVec 32 := Scalar.addi v380 v381
  let c128_i32_264 : BitVec 32 := 128#32
  let v384 : BitVec 32 := Scalar.muli v382 c128_i32_264
  ![v383.toNat, v384.toNat]

@[reducible] def k0_t9_loop : Scf.Loop 32 :=
  let c0_i32_299 : BitVec 32 := 0#32
  let c128_i32_300 : BitVec 32 := 128#32
  let v413 : BitVec 32 := Scalar.addi c0_i32_299 c128_i32_300
  let c1_i32_301 : BitVec 32 := 1#32
  ⟨c0_i32_299, v413, c1_i32_301⟩

def k0_chk35 (v443 : IVec S16 32) (v445 : IVec S16 32) : Prop :=
  (∀ a x, ((![v443, v445] : Fin 2 → IVec S16 32) a x).toNat < S256x256.size a)
theorem k0_idx33_inb : ∀ (v443 : IVec S16 32) (v445 : IVec S16 32) (k0_hw35 : k0_chk35 v443 v445), ∀ a x, ((![v443, v445] : Fin 2 → IVec S16 32) a x).toNat < S256x256.size a := fun v443 v445 k0_hw35 => k0_hw35
def k0_off42 (k0_t9 : Fin k0_t9_loop.trips) : Fin 2 → Nat :=
  let c0_i32_327 : BitVec 32 := 0#32
  let c0_i32_322 : BitVec 32 := 0#32
  let c0_i32_299 : BitVec 32 := 0#32
  let c1_i32_301 : BitVec 32 := 1#32
  let arg13 : BitVec 32 := Scf.iv c0_i32_299 c1_i32_301 k0_t9
  let c1_i32_321 : BitVec 32 := 1#32
  let v430 : BitVec 32 := Scalar.muli arg13 c1_i32_321
  let v431 : BitVec 32 := Scalar.addi c0_i32_322 v430
  let v447 : BitVec 32 := Scalar.addi c0_i32_327 v431
  let v448 : Index := Scalar.indexCast v447
  let c0_328 : Index := 0#32
  ![v448.toNat, 0]

def k0_chk36 (v443 : IVec S16 32) (v451 : IVec S16 32) : Prop :=
  (∀ a x, ((![v443, v451] : Fin 2 → IVec S16 32) a x).toNat < S256x256.size a)
theorem k0_idx34_inb : ∀ (v443 : IVec S16 32) (v451 : IVec S16 32) (k0_hw36 : k0_chk36 v443 v451), ∀ a x, ((![v443, v451] : Fin 2 → IVec S16 32) a x).toNat < S256x256.size a := fun v443 v451 k0_hw36 => k0_hw36
def k0_off43 (k0_t9 : Fin k0_t9_loop.trips) : Fin 2 → Nat :=
  let c0_i32_329 : BitVec 32 := 0#32
  let c0_i32_322 : BitVec 32 := 0#32
  let c0_i32_299 : BitVec 32 := 0#32
  let c1_i32_301 : BitVec 32 := 1#32
  let arg13 : BitVec 32 := Scf.iv c0_i32_299 c1_i32_301 k0_t9
  let c1_i32_321 : BitVec 32 := 1#32
  let v430 : BitVec 32 := Scalar.muli arg13 c1_i32_321
  let v431 : BitVec 32 := Scalar.addi c0_i32_322 v430
  let v453 : BitVec 32 := Scalar.addi c0_i32_329 v431
  let v454 : Index := Scalar.indexCast v453
  let c16_330 : Index := 16#32
  ![v454.toNat, 16]

def k0_chk37 (v443 : IVec S16 32) (v457 : IVec S16 32) : Prop :=
  (∀ a x, ((![v443, v457] : Fin 2 → IVec S16 32) a x).toNat < S256x256.size a)
theorem k0_idx35_inb : ∀ (v443 : IVec S16 32) (v457 : IVec S16 32) (k0_hw37 : k0_chk37 v443 v457), ∀ a x, ((![v443, v457] : Fin 2 → IVec S16 32) a x).toNat < S256x256.size a := fun v443 v457 k0_hw37 => k0_hw37
def k0_off44 (k0_t9 : Fin k0_t9_loop.trips) : Fin 2 → Nat :=
  let c0_i32_331 : BitVec 32 := 0#32
  let c0_i32_322 : BitVec 32 := 0#32
  let c0_i32_299 : BitVec 32 := 0#32
  let c1_i32_301 : BitVec 32 := 1#32
  let arg13 : BitVec 32 := Scf.iv c0_i32_299 c1_i32_301 k0_t9
  let c1_i32_321 : BitVec 32 := 1#32
  let v430 : BitVec 32 := Scalar.muli arg13 c1_i32_321
  let v431 : BitVec 32 := Scalar.addi c0_i32_322 v430
  let v459 : BitVec 32 := Scalar.addi c0_i32_331 v431
  let v460 : Index := Scalar.indexCast v459
  let c32_332 : Index := 32#32
  ![v460.toNat, 32]

def k0_chk38 (v443 : IVec S16 32) (v463 : IVec S16 32) : Prop :=
  (∀ a x, ((![v443, v463] : Fin 2 → IVec S16 32) a x).toNat < S256x256.size a)
theorem k0_idx36_inb : ∀ (v443 : IVec S16 32) (v463 : IVec S16 32) (k0_hw38 : k0_chk38 v443 v463), ∀ a x, ((![v443, v463] : Fin 2 → IVec S16 32) a x).toNat < S256x256.size a := fun v443 v463 k0_hw38 => k0_hw38
def k0_off45 (k0_t9 : Fin k0_t9_loop.trips) : Fin 2 → Nat :=
  let c0_i32_333 : BitVec 32 := 0#32
  let c0_i32_322 : BitVec 32 := 0#32
  let c0_i32_299 : BitVec 32 := 0#32
  let c1_i32_301 : BitVec 32 := 1#32
  let arg13 : BitVec 32 := Scf.iv c0_i32_299 c1_i32_301 k0_t9
  let c1_i32_321 : BitVec 32 := 1#32
  let v430 : BitVec 32 := Scalar.muli arg13 c1_i32_321
  let v431 : BitVec 32 := Scalar.addi c0_i32_322 v430
  let v465 : BitVec 32 := Scalar.addi c0_i32_333 v431
  let v466 : Index := Scalar.indexCast v465
  let c48_334 : Index := 48#32
  ![v466.toNat, 48]

def k0_chk39 (v443 : IVec S16 32) (v469 : IVec S16 32) : Prop :=
  (∀ a x, ((![v443, v469] : Fin 2 → IVec S16 32) a x).toNat < S256x256.size a)
theorem k0_idx37_inb : ∀ (v443 : IVec S16 32) (v469 : IVec S16 32) (k0_hw39 : k0_chk39 v443 v469), ∀ a x, ((![v443, v469] : Fin 2 → IVec S16 32) a x).toNat < S256x256.size a := fun v443 v469 k0_hw39 => k0_hw39
def k0_off46 (k0_t9 : Fin k0_t9_loop.trips) : Fin 2 → Nat :=
  let c0_i32_335 : BitVec 32 := 0#32
  let c0_i32_322 : BitVec 32 := 0#32
  let c0_i32_299 : BitVec 32 := 0#32
  let c1_i32_301 : BitVec 32 := 1#32
  let arg13 : BitVec 32 := Scf.iv c0_i32_299 c1_i32_301 k0_t9
  let c1_i32_321 : BitVec 32 := 1#32
  let v430 : BitVec 32 := Scalar.muli arg13 c1_i32_321
  let v431 : BitVec 32 := Scalar.addi c0_i32_322 v430
  let v471 : BitVec 32 := Scalar.addi c0_i32_335 v431
  let v472 : Index := Scalar.indexCast v471
  let c64_336 : Index := 64#32
  ![v472.toNat, 64]

def k0_chk40 (v443 : IVec S16 32) (v475 : IVec S16 32) : Prop :=
  (∀ a x, ((![v443, v475] : Fin 2 → IVec S16 32) a x).toNat < S256x256.size a)
theorem k0_idx38_inb : ∀ (v443 : IVec S16 32) (v475 : IVec S16 32) (k0_hw40 : k0_chk40 v443 v475), ∀ a x, ((![v443, v475] : Fin 2 → IVec S16 32) a x).toNat < S256x256.size a := fun v443 v475 k0_hw40 => k0_hw40
def k0_off47 (k0_t9 : Fin k0_t9_loop.trips) : Fin 2 → Nat :=
  let c0_i32_337 : BitVec 32 := 0#32
  let c0_i32_322 : BitVec 32 := 0#32
  let c0_i32_299 : BitVec 32 := 0#32
  let c1_i32_301 : BitVec 32 := 1#32
  let arg13 : BitVec 32 := Scf.iv c0_i32_299 c1_i32_301 k0_t9
  let c1_i32_321 : BitVec 32 := 1#32
  let v430 : BitVec 32 := Scalar.muli arg13 c1_i32_321
  let v431 : BitVec 32 := Scalar.addi c0_i32_322 v430
  let v477 : BitVec 32 := Scalar.addi c0_i32_337 v431
  let v478 : Index := Scalar.indexCast v477
  let c80_338 : Index := 80#32
  ![v478.toNat, 80]

def k0_chk41 (v443 : IVec S16 32) (v481 : IVec S16 32) : Prop :=
  (∀ a x, ((![v443, v481] : Fin 2 → IVec S16 32) a x).toNat < S256x256.size a)
theorem k0_idx39_inb : ∀ (v443 : IVec S16 32) (v481 : IVec S16 32) (k0_hw41 : k0_chk41 v443 v481), ∀ a x, ((![v443, v481] : Fin 2 → IVec S16 32) a x).toNat < S256x256.size a := fun v443 v481 k0_hw41 => k0_hw41
def k0_off48 (k0_t9 : Fin k0_t9_loop.trips) : Fin 2 → Nat :=
  let c0_i32_339 : BitVec 32 := 0#32
  let c0_i32_322 : BitVec 32 := 0#32
  let c0_i32_299 : BitVec 32 := 0#32
  let c1_i32_301 : BitVec 32 := 1#32
  let arg13 : BitVec 32 := Scf.iv c0_i32_299 c1_i32_301 k0_t9
  let c1_i32_321 : BitVec 32 := 1#32
  let v430 : BitVec 32 := Scalar.muli arg13 c1_i32_321
  let v431 : BitVec 32 := Scalar.addi c0_i32_322 v430
  let v483 : BitVec 32 := Scalar.addi c0_i32_339 v431
  let v484 : Index := Scalar.indexCast v483
  let c96_340 : Index := 96#32
  ![v484.toNat, 96]

def k0_chk42 (v443 : IVec S16 32) (v487 : IVec S16 32) : Prop :=
  (∀ a x, ((![v443, v487] : Fin 2 → IVec S16 32) a x).toNat < S256x256.size a)
theorem k0_idx40_inb : ∀ (v443 : IVec S16 32) (v487 : IVec S16 32) (k0_hw42 : k0_chk42 v443 v487), ∀ a x, ((![v443, v487] : Fin 2 → IVec S16 32) a x).toNat < S256x256.size a := fun v443 v487 k0_hw42 => k0_hw42
def k0_off49 (k0_t9 : Fin k0_t9_loop.trips) : Fin 2 → Nat :=
  let c0_i32_341 : BitVec 32 := 0#32
  let c0_i32_322 : BitVec 32 := 0#32
  let c0_i32_299 : BitVec 32 := 0#32
  let c1_i32_301 : BitVec 32 := 1#32
  let arg13 : BitVec 32 := Scf.iv c0_i32_299 c1_i32_301 k0_t9
  let c1_i32_321 : BitVec 32 := 1#32
  let v430 : BitVec 32 := Scalar.muli arg13 c1_i32_321
  let v431 : BitVec 32 := Scalar.addi c0_i32_322 v430
  let v489 : BitVec 32 := Scalar.addi c0_i32_341 v431
  let v490 : Index := Scalar.indexCast v489
  let c112_342 : Index := 112#32
  ![v490.toNat, 112]
def k0_off50 (i : grid0.Coords) (k0_t5 : Fin k0_t5_loop.trips) (v354 : BitVec 32) (v373 : BitVec 32) : Fin 2 → Nat :=
  let c_m1_i32_251 : BitVec 32 := 4294967295#32
  let v355 : BitVec 32 := Scalar.addi c_m1_i32_251 v354
  let v374 : BitVec 32 := Scalar.addi v355 v373
  let c1_i32_262 : BitVec 32 := 1#32
  let v380 : BitVec 32 := Scalar.addi v374 c1_i32_262
  let c2_i32_240 : BitVec 32 := 2#32
  let c0_i32_128 : BitVec 32 := 0#32
  let c1_i32_130 : BitVec 32 := 1#32
  let arg12 : BitVec 32 := Scf.iv c0_i32_128 c1_i32_130 k0_t5
  let v332 : BitVec 32 := Scalar.muli c2_i32_240 arg12
  let c1_i32_241 : BitVec 32 := 1#32
  let v333 : BitVec 32 := Scalar.addi v332 c1_i32_241
  let c32_i32_242 : BitVec 32 := 32#32
  let v334 : BitVec 32 := Scalar.muli v333 c32_i32_242
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v335 : BitVec 32 := Scalar.addi v334 v1
  let c495_i32_243 : BitVec 32 := 495#32
  let v336 : BitVec 32 := Scalar.minsi v335 c495_i32_243
  let c31_i32_259 : BitVec 32 := 31#32
  let v375 : BitVec 32 := Scalar.muli c31_i32_259 v374
  let c1_i32_260 : BitVec 32 := 1#32
  let v376 : BitVec 32 := Scalar.subi v374 c1_i32_260
  let v377 : BitVec 32 := Scalar.muli v374 v376
  let c1_i32_261 : BitVec 32 := 1#32
  let v378 : BitVec 32 := Scalar.shrui v377 c1_i32_261
  let v379 : BitVec 32 := Scalar.subi v375 v378
  let v381 : BitVec 32 := Scalar.subi v336 v379
  let v382 : BitVec 32 := Scalar.addi v380 v381
  let c128_i32_264 : BitVec 32 := 128#32
  let v384 : BitVec 32 := Scalar.muli v382 c128_i32_264
  let c128_i32_263 : BitVec 32 := 128#32
  let v383 : BitVec 32 := Scalar.muli v374 c128_i32_263
  ![v384.toNat, v383.toNat]

def k0_chk34 (i : grid0.Coords) (k0_t5 : Fin k0_t5_loop.trips) (v354 : BitVec 32) (v373 : BitVec 32) : Prop :=
  (∀ a, (k0_off41 i k0_t5 v354 v373) a + S128x128.size a ≤ S4096x4096.size a) ∧
  (∀ a, (k0_off50 i k0_t5 v354 v373) a + S128x128.size a ≤ S4096x4096.size a)
theorem k0_off41_inb : ∀ (i : grid0.Coords) (k0_t5 : Fin k0_t5_loop.trips) (v354 : BitVec 32) (v373 : BitVec 32) (k0_hw34 : k0_chk34 i k0_t5 v354 v373), ∀ a, (k0_off41 i k0_t5 v354 v373) a + S128x128.size a ≤ S4096x4096.size a := fun i k0_t5 v354 v373 k0_hw34 => k0_hw34.1
theorem k0_off50_inb : ∀ (i : grid0.Coords) (k0_t5 : Fin k0_t5_loop.trips) (v354 : BitVec 32) (v373 : BitVec 32) (k0_hw34 : k0_chk34 i k0_t5 v354 v373), ∀ a, (k0_off50 i k0_t5 v354 v373) a + S128x128.size a ≤ S4096x4096.size a := fun i k0_t5 v354 v373 k0_hw34 => k0_hw34.2

@[reducible] def k0_t10_loop : Scf.Loop 32 :=
  let c0_i32_311 : BitVec 32 := 0#32
  let c128_i32_312 : BitVec 32 := 128#32
  let v422 : BitVec 32 := Scalar.addi c0_i32_311 c128_i32_312
  let c1_i32_313 : BitVec 32 := 1#32
  ⟨c0_i32_311, v422, c1_i32_313⟩

def k0_chk43 (v433 : IVec S16 32) (v435 : IVec S16 32) : Prop :=
  (∀ a x, ((![v433, v435] : Fin 2 → IVec S16 32) a x).toNat < S256x256.size a)
theorem k0_idx41_inb : ∀ (v433 : IVec S16 32) (v435 : IVec S16 32) (k0_hw43 : k0_chk43 v433 v435), ∀ a x, ((![v433, v435] : Fin 2 → IVec S16 32) a x).toNat < S256x256.size a := fun v433 v435 k0_hw43 => k0_hw43
def k0_off51 (k0_t10 : Fin k0_t10_loop.trips) : Fin 2 → Nat :=
  let c128_i32_324 : BitVec 32 := 128#32
  let c0_i32_322 : BitVec 32 := 0#32
  let c0_i32_311 : BitVec 32 := 0#32
  let c1_i32_313 : BitVec 32 := 1#32
  let arg13 : BitVec 32 := Scf.iv c0_i32_311 c1_i32_313 k0_t10
  let c1_i32_321 : BitVec 32 := 1#32
  let v430 : BitVec 32 := Scalar.muli arg13 c1_i32_321
  let v431 : BitVec 32 := Scalar.addi c0_i32_322 v430
  let v437 : BitVec 32 := Scalar.addi c128_i32_324 v431
  let v438 : Index := Scalar.indexCast v437
  let c0_325 : Index := 0#32
  ![v438.toNat, 0]

def k0_chk44 (v441 : IVec S16 32) (v443 : IVec S16 32) : Prop :=
  (∀ a x, ((![v441, v443] : Fin 2 → IVec S16 32) a x).toNat < S256x256.size a)
theorem k0_idx42_inb : ∀ (v441 : IVec S16 32) (v443 : IVec S16 32) (k0_hw44 : k0_chk44 v441 v443), ∀ a x, ((![v441, v443] : Fin 2 → IVec S16 32) a x).toNat < S256x256.size a := fun v441 v443 k0_hw44 => k0_hw44
def k0_off52 (k0_t10 : Fin k0_t10_loop.trips) : Fin 2 → Nat :=
  let c128_i32_327 : BitVec 32 := 128#32
  let c0_i32_322 : BitVec 32 := 0#32
  let c0_i32_311 : BitVec 32 := 0#32
  let c1_i32_313 : BitVec 32 := 1#32
  let arg13 : BitVec 32 := Scf.iv c0_i32_311 c1_i32_313 k0_t10
  let c1_i32_321 : BitVec 32 := 1#32
  let v430 : BitVec 32 := Scalar.muli arg13 c1_i32_321
  let v431 : BitVec 32 := Scalar.addi c0_i32_322 v430
  let v445 : BitVec 32 := Scalar.addi c128_i32_327 v431
  let v446 : Index := Scalar.indexCast v445
  let c16_328 : Index := 16#32
  ![v446.toNat, 16]

def k0_chk45 (v449 : IVec S16 32) (v451 : IVec S16 32) : Prop :=
  (∀ a x, ((![v449, v451] : Fin 2 → IVec S16 32) a x).toNat < S256x256.size a)
theorem k0_idx43_inb : ∀ (v449 : IVec S16 32) (v451 : IVec S16 32) (k0_hw45 : k0_chk45 v449 v451), ∀ a x, ((![v449, v451] : Fin 2 → IVec S16 32) a x).toNat < S256x256.size a := fun v449 v451 k0_hw45 => k0_hw45
def k0_off53 (k0_t10 : Fin k0_t10_loop.trips) : Fin 2 → Nat :=
  let c128_i32_330 : BitVec 32 := 128#32
  let c0_i32_322 : BitVec 32 := 0#32
  let c0_i32_311 : BitVec 32 := 0#32
  let c1_i32_313 : BitVec 32 := 1#32
  let arg13 : BitVec 32 := Scf.iv c0_i32_311 c1_i32_313 k0_t10
  let c1_i32_321 : BitVec 32 := 1#32
  let v430 : BitVec 32 := Scalar.muli arg13 c1_i32_321
  let v431 : BitVec 32 := Scalar.addi c0_i32_322 v430
  let v453 : BitVec 32 := Scalar.addi c128_i32_330 v431
  let v454 : Index := Scalar.indexCast v453
  let c32_331 : Index := 32#32
  ![v454.toNat, 32]

def k0_chk46 (v457 : IVec S16 32) (v459 : IVec S16 32) : Prop :=
  (∀ a x, ((![v457, v459] : Fin 2 → IVec S16 32) a x).toNat < S256x256.size a)
theorem k0_idx44_inb : ∀ (v457 : IVec S16 32) (v459 : IVec S16 32) (k0_hw46 : k0_chk46 v457 v459), ∀ a x, ((![v457, v459] : Fin 2 → IVec S16 32) a x).toNat < S256x256.size a := fun v457 v459 k0_hw46 => k0_hw46
def k0_off54 (k0_t10 : Fin k0_t10_loop.trips) : Fin 2 → Nat :=
  let c128_i32_333 : BitVec 32 := 128#32
  let c0_i32_322 : BitVec 32 := 0#32
  let c0_i32_311 : BitVec 32 := 0#32
  let c1_i32_313 : BitVec 32 := 1#32
  let arg13 : BitVec 32 := Scf.iv c0_i32_311 c1_i32_313 k0_t10
  let c1_i32_321 : BitVec 32 := 1#32
  let v430 : BitVec 32 := Scalar.muli arg13 c1_i32_321
  let v431 : BitVec 32 := Scalar.addi c0_i32_322 v430
  let v461 : BitVec 32 := Scalar.addi c128_i32_333 v431
  let v462 : Index := Scalar.indexCast v461
  let c48_334 : Index := 48#32
  ![v462.toNat, 48]

def k0_chk47 (v465 : IVec S16 32) (v467 : IVec S16 32) : Prop :=
  (∀ a x, ((![v465, v467] : Fin 2 → IVec S16 32) a x).toNat < S256x256.size a)
theorem k0_idx45_inb : ∀ (v465 : IVec S16 32) (v467 : IVec S16 32) (k0_hw47 : k0_chk47 v465 v467), ∀ a x, ((![v465, v467] : Fin 2 → IVec S16 32) a x).toNat < S256x256.size a := fun v465 v467 k0_hw47 => k0_hw47
def k0_off55 (k0_t10 : Fin k0_t10_loop.trips) : Fin 2 → Nat :=
  let c128_i32_336 : BitVec 32 := 128#32
  let c0_i32_322 : BitVec 32 := 0#32
  let c0_i32_311 : BitVec 32 := 0#32
  let c1_i32_313 : BitVec 32 := 1#32
  let arg13 : BitVec 32 := Scf.iv c0_i32_311 c1_i32_313 k0_t10
  let c1_i32_321 : BitVec 32 := 1#32
  let v430 : BitVec 32 := Scalar.muli arg13 c1_i32_321
  let v431 : BitVec 32 := Scalar.addi c0_i32_322 v430
  let v469 : BitVec 32 := Scalar.addi c128_i32_336 v431
  let v470 : Index := Scalar.indexCast v469
  let c64_337 : Index := 64#32
  ![v470.toNat, 64]

def k0_chk48 (v473 : IVec S16 32) (v475 : IVec S16 32) : Prop :=
  (∀ a x, ((![v473, v475] : Fin 2 → IVec S16 32) a x).toNat < S256x256.size a)
theorem k0_idx46_inb : ∀ (v473 : IVec S16 32) (v475 : IVec S16 32) (k0_hw48 : k0_chk48 v473 v475), ∀ a x, ((![v473, v475] : Fin 2 → IVec S16 32) a x).toNat < S256x256.size a := fun v473 v475 k0_hw48 => k0_hw48
def k0_off56 (k0_t10 : Fin k0_t10_loop.trips) : Fin 2 → Nat :=
  let c128_i32_339 : BitVec 32 := 128#32
  let c0_i32_322 : BitVec 32 := 0#32
  let c0_i32_311 : BitVec 32 := 0#32
  let c1_i32_313 : BitVec 32 := 1#32
  let arg13 : BitVec 32 := Scf.iv c0_i32_311 c1_i32_313 k0_t10
  let c1_i32_321 : BitVec 32 := 1#32
  let v430 : BitVec 32 := Scalar.muli arg13 c1_i32_321
  let v431 : BitVec 32 := Scalar.addi c0_i32_322 v430
  let v477 : BitVec 32 := Scalar.addi c128_i32_339 v431
  let v478 : Index := Scalar.indexCast v477
  let c80_340 : Index := 80#32
  ![v478.toNat, 80]

def k0_chk49 (v481 : IVec S16 32) (v483 : IVec S16 32) : Prop :=
  (∀ a x, ((![v481, v483] : Fin 2 → IVec S16 32) a x).toNat < S256x256.size a)
theorem k0_idx47_inb : ∀ (v481 : IVec S16 32) (v483 : IVec S16 32) (k0_hw49 : k0_chk49 v481 v483), ∀ a x, ((![v481, v483] : Fin 2 → IVec S16 32) a x).toNat < S256x256.size a := fun v481 v483 k0_hw49 => k0_hw49
def k0_off57 (k0_t10 : Fin k0_t10_loop.trips) : Fin 2 → Nat :=
  let c128_i32_342 : BitVec 32 := 128#32
  let c0_i32_322 : BitVec 32 := 0#32
  let c0_i32_311 : BitVec 32 := 0#32
  let c1_i32_313 : BitVec 32 := 1#32
  let arg13 : BitVec 32 := Scf.iv c0_i32_311 c1_i32_313 k0_t10
  let c1_i32_321 : BitVec 32 := 1#32
  let v430 : BitVec 32 := Scalar.muli arg13 c1_i32_321
  let v431 : BitVec 32 := Scalar.addi c0_i32_322 v430
  let v485 : BitVec 32 := Scalar.addi c128_i32_342 v431
  let v486 : Index := Scalar.indexCast v485
  let c96_343 : Index := 96#32
  ![v486.toNat, 96]

def k0_chk50 (v489 : IVec S16 32) (v491 : IVec S16 32) : Prop :=
  (∀ a x, ((![v489, v491] : Fin 2 → IVec S16 32) a x).toNat < S256x256.size a)
theorem k0_idx48_inb : ∀ (v489 : IVec S16 32) (v491 : IVec S16 32) (k0_hw50 : k0_chk50 v489 v491), ∀ a x, ((![v489, v491] : Fin 2 → IVec S16 32) a x).toNat < S256x256.size a := fun v489 v491 k0_hw50 => k0_hw50
def k0_off58 (k0_t10 : Fin k0_t10_loop.trips) : Fin 2 → Nat :=
  let c128_i32_345 : BitVec 32 := 128#32
  let c0_i32_322 : BitVec 32 := 0#32
  let c0_i32_311 : BitVec 32 := 0#32
  let c1_i32_313 : BitVec 32 := 1#32
  let arg13 : BitVec 32 := Scf.iv c0_i32_311 c1_i32_313 k0_t10
  let c1_i32_321 : BitVec 32 := 1#32
  let v430 : BitVec 32 := Scalar.muli arg13 c1_i32_321
  let v431 : BitVec 32 := Scalar.addi c0_i32_322 v430
  let v493 : BitVec 32 := Scalar.addi c128_i32_345 v431
  let v494 : Index := Scalar.indexCast v493
  let c112_346 : Index := 112#32
  ![v494.toNat, 112]
def k0_cond3 (k0_t5 : Fin k0_t5_loop.trips) : BitVec 1 :=
  let c0_i32_128 : BitVec 32 := 0#32
  let c1_i32_130 : BitVec 32 := 1#32
  let arg12 : BitVec 32 := Scf.iv c0_i32_128 c1_i32_130 k0_t5
  let c7_i32_319 : BitVec 32 := 7#32
  let v427 : BitVec 1 := Scalar.cmpi .slt arg12 c7_i32_319
  let v428 : BitVec 32 := Scalar.extui v427
  let c0_i32_320 : BitVec 32 := 0#32
  let v429 : BitVec 1 := Scalar.cmpi .ne v428 c0_i32_320
  v429

@[reducible] def k0_t11_loop : Scf.Loop 32 :=
  let c0_i32_346 : BitVec 32 := 0#32
  let c8_i32_347 : BitVec 32 := 8#32
  let v482 : BitVec 32 := Scalar.addi c0_i32_346 c8_i32_347
  let c1_i32_348 : BitVec 32 := 1#32
  ⟨c0_i32_346, v482, c1_i32_348⟩
def k0_off59 (k0_t11 : Fin k0_t11_loop.trips) : Fin 2 → Nat :=
  let c1_i32_372 : BitVec 32 := 1#32
  let v515 : Index := Scalar.indexCast c1_i32_372
  let c0_i32_346 : BitVec 32 := 0#32
  let c1_i32_348 : BitVec 32 := 1#32
  let arg13 : BitVec 32 := Scf.iv c0_i32_346 c1_i32_348 k0_t11
  let c16_i32_371 : BitVec 32 := 16#32
  let v514 : BitVec 32 := Scalar.muli arg13 c16_i32_371
  let v516 : Index := Scalar.indexCast v514
  ![1, v516.toNat]
def k0_off60 (k0_t11 : Fin k0_t11_loop.trips) : Fin 3 → Nat :=
  let c1_i32_374 : BitVec 32 := 1#32
  let v519 : Index := Scalar.indexCast c1_i32_374
  let c0_i32_375 : BitVec 32 := 0#32
  let v520 : Index := Scalar.indexCast c0_i32_375
  let c0_i32_346 : BitVec 32 := 0#32
  let c1_i32_348 : BitVec 32 := 1#32
  let arg13 : BitVec 32 := Scf.iv c0_i32_346 c1_i32_348 k0_t11
  let c16_i32_373 : BitVec 32 := 16#32
  let v518 : BitVec 32 := Scalar.muli arg13 c16_i32_373
  let v521 : Index := Scalar.indexCast v518
  ![1, 0, v521.toNat]
def k0_off61 (k0_t11 : Fin k0_t11_loop.trips) : Fin 3 → Nat :=
  let c1_i32_378 : BitVec 32 := 1#32
  let v528 : Index := Scalar.indexCast c1_i32_378
  let c1_i32_379 : BitVec 32 := 1#32
  let v529 : Index := Scalar.indexCast c1_i32_379
  let c0_i32_346 : BitVec 32 := 0#32
  let c1_i32_348 : BitVec 32 := 1#32
  let arg13 : BitVec 32 := Scf.iv c0_i32_346 c1_i32_348 k0_t11
  let c16_i32_377 : BitVec 32 := 16#32
  let v527 : BitVec 32 := Scalar.muli arg13 c16_i32_377
  let v530 : Index := Scalar.indexCast v527
  ![1, 1, v530.toNat]
def k0_off62 (i : grid0.Coords) (v196 : BitVec 32) (v215 : BitVec 32) : Fin 2 → Nat :=
  let c_m1_i32_140 : BitVec 32 := 4294967295#32
  let v197 : BitVec 32 := Scalar.addi c_m1_i32_140 v196
  let v216 : BitVec 32 := Scalar.addi v197 v215
  let c128_i32_152 : BitVec 32 := 128#32
  let v225 : BitVec 32 := Scalar.muli v216 c128_i32_152
  let c1_i32_151 : BitVec 32 := 1#32
  let v222 : BitVec 32 := Scalar.addi v216 c1_i32_151
  let c480_i32 : BitVec 32 := 480#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v177 : BitVec 32 := Scalar.addi c480_i32 v1
  let c495_i32_132 : BitVec 32 := 495#32
  let v178 : BitVec 32 := Scalar.minsi v177 c495_i32_132
  let c31_i32_148 : BitVec 32 := 31#32
  let v217 : BitVec 32 := Scalar.muli c31_i32_148 v216
  let c1_i32_149 : BitVec 32 := 1#32
  let v218 : BitVec 32 := Scalar.subi v216 c1_i32_149
  let v219 : BitVec 32 := Scalar.muli v216 v218
  let c1_i32_150 : BitVec 32 := 1#32
  let v220 : BitVec 32 := Scalar.shrui v219 c1_i32_150
  let v221 : BitVec 32 := Scalar.subi v217 v220
  let v223 : BitVec 32 := Scalar.subi v178 v221
  let v224 : BitVec 32 := Scalar.addi v222 v223
  let c128_i32_153 : BitVec 32 := 128#32
  let v226 : BitVec 32 := Scalar.muli v224 c128_i32_153
  ![v225.toNat, v226.toNat]

def k0_off63 (i : grid0.Coords) (v196 : BitVec 32) (v215 : BitVec 32) : Fin 2 → Nat :=
  let c_m1_i32_140 : BitVec 32 := 4294967295#32
  let v197 : BitVec 32 := Scalar.addi c_m1_i32_140 v196
  let v216 : BitVec 32 := Scalar.addi v197 v215
  let c1_i32_151 : BitVec 32 := 1#32
  let v222 : BitVec 32 := Scalar.addi v216 c1_i32_151
  let c480_i32 : BitVec 32 := 480#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v177 : BitVec 32 := Scalar.addi c480_i32 v1
  let c495_i32_132 : BitVec 32 := 495#32
  let v178 : BitVec 32 := Scalar.minsi v177 c495_i32_132
  let c31_i32_148 : BitVec 32 := 31#32
  let v217 : BitVec 32 := Scalar.muli c31_i32_148 v216
  let c1_i32_149 : BitVec 32 := 1#32
  let v218 : BitVec 32 := Scalar.subi v216 c1_i32_149
  let v219 : BitVec 32 := Scalar.muli v216 v218
  let c1_i32_150 : BitVec 32 := 1#32
  let v220 : BitVec 32 := Scalar.shrui v219 c1_i32_150
  let v221 : BitVec 32 := Scalar.subi v217 v220
  let v223 : BitVec 32 := Scalar.subi v178 v221
  let v224 : BitVec 32 := Scalar.addi v222 v223
  let c128_i32_153 : BitVec 32 := 128#32
  let v226 : BitVec 32 := Scalar.muli v224 c128_i32_153
  let c128_i32_152 : BitVec 32 := 128#32
  let v225 : BitVec 32 := Scalar.muli v216 c128_i32_152
  ![v226.toNat, v225.toNat]

def k0_chk51 (i : grid0.Coords) (v196 : BitVec 32) (v215 : BitVec 32) : Prop :=
  (∀ a, (k0_off62 i v196 v215) a + S128x128.size a ≤ S4096x4096.size a) ∧
  (∀ a, (k0_off63 i v196 v215) a + S128x128.size a ≤ S4096x4096.size a)
theorem k0_off62_inb : ∀ (i : grid0.Coords) (v196 : BitVec 32) (v215 : BitVec 32) (k0_hw51 : k0_chk51 i v196 v215), ∀ a, (k0_off62 i v196 v215) a + S128x128.size a ≤ S4096x4096.size a := fun i v196 v215 k0_hw51 => k0_hw51.1
theorem k0_off63_inb : ∀ (i : grid0.Coords) (v196 : BitVec 32) (v215 : BitVec 32) (k0_hw51 : k0_chk51 i v196 v215), ∀ a, (k0_off63 i v196 v215) a + S128x128.size a ≤ S4096x4096.size a := fun i v196 v215 k0_hw51 => k0_hw51.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8386560 : Shape := ⟨1, ![8386560]⟩
abbrev S4096x4096 : Shape := ⟨2, ![4096, 4096]⟩
abbrev S16777216 : Shape := ⟨1, ![16777216]⟩
abbrev S_ : Shape := ⟨0, ![]⟩
abbrev S4096x4096x1 : Shape := ⟨3, ![4096, 4096, 1]⟩
abbrev S4096 : Shape := ⟨1, ![4096]⟩
abbrev S4096x1 : Shape := ⟨2, ![4096, 1]⟩
abbrev S4096x2 : Shape := ⟨2, ![4096, 2]⟩
abbrev S1x4096 : Shape := ⟨2, ![1, 4096]⟩

abbrev nBuf : Space → Nat
  | .hbm => 61
  | .vmem => 0
  | .smem => 0
  | _ => 0

abbrev bufTy : (tb : Table) → Fin (tcTables nBuf tb) → BufTy
  | .hbm, ⟨0, _⟩ => ⟨S8386560, .f32⟩
  | .hbm, ⟨1, _⟩ => ⟨S4096x4096, .i32⟩
  | .hbm, ⟨2, _⟩ => ⟨S4096x4096, .i32⟩
  | .hbm, ⟨3, _⟩ => ⟨S4096x4096, .i1⟩
  | .hbm, ⟨4, _⟩ => ⟨S16777216, .i1⟩
  | .hbm, ⟨5, _⟩ => ⟨S16777216, .i32⟩
  | .hbm, ⟨6, _⟩ => ⟨S_, .i32⟩
  | .hbm, ⟨7, _⟩ => ⟨S_, .i32⟩
  | .hbm, ⟨8, _⟩ => ⟨S16777216, .i32⟩
  | .hbm, ⟨9, _⟩ => ⟨S4096x4096, .i32⟩
  | .hbm, ⟨10, _⟩ => ⟨S_, .i32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i1⟩
  | .hbm, ⟨19, _⟩ => ⟨S_, .i32⟩
  | .hbm, ⟨20, _⟩ => ⟨S4096x4096, .i32⟩
  | .hbm, ⟨21, _⟩ => ⟨S4096x4096, .i32⟩
  | .hbm, ⟨22, _⟩ => ⟨S4096x4096, .i32⟩
  | .hbm, ⟨23, _⟩ => ⟨S4096x4096x1, .i32⟩
  | .hbm, ⟨24, _⟩ => ⟨S4096x4096, .f32⟩
  | .hbm, ⟨25, _⟩ => ⟨S_, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096, .i32⟩
  | .hbm, ⟨30, _⟩ => ⟨S4096x4096, .f32⟩
  | .hbm, ⟨31, _⟩ => ⟨S4096x4096, .f32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096x1, .i32⟩
  | .hbm, ⟨47, _⟩ => ⟨S4096x1, .i32⟩
  | .hbm, ⟨48, _⟩ => ⟨S4096x2, .i32⟩
  | .hbm, ⟨49, _⟩ => ⟨S4096, .f32⟩
  | .hbm, ⟨50, _⟩ => ⟨S1x4096, .f32⟩
  | .hbm, ⟨51, _⟩ => ⟨S4096x4096, .f32⟩
  | .hbm, ⟨52, _⟩ => ⟨S4096x4096, .f32⟩
  | .hbm, ⟨53, _⟩ => ⟨S4096x4096, .i32⟩
  | .hbm, ⟨54, _⟩ => ⟨S4096x4096, .i32⟩
  | .hbm, ⟨55, _⟩ => ⟨S_, .i32⟩
  | .hbm, ⟨56, _⟩ => ⟨S4096x4096, .i32⟩
  | .hbm, ⟨57, _⟩ => ⟨S4096x4096, .i32⟩
  | .hbm, ⟨58, _⟩ => ⟨S4096x4096, .i1⟩
  | .hbm, ⟨59, _⟩ => ⟨S4096x4096, .f32⟩
  | .hbm, ⟨60, _⟩ => ⟨S4096x4096, .f32⟩
  | _, _ => ⟨S8386560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_call0_call0_c : Ref sig .tc := ⟨.hbm, 6, rfl⟩
abbrev main_call0_call0_v0 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_call1_v0 : Ref sig .tc := ⟨.hbm, 26, rfl⟩
abbrev main_call1_v1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Proof.Base.lean ====
/-
  The program of the certificate as the launch theorem sees it, the algebra its proof keeps its
  state in, and short names for the kernel's buffers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.WriteMode
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Base

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra: the handshakes' rounds, the write mode, the copies' counters -/

abbrev UH : Type := URounds (GSem nD τ sig) ℕ
/-- The write mode's algebra, at the contents of the float values `F`. -/
abbrev UWm (F : FTy → Type) : Type := WmRA nD τ sig (Elt F)
abbrev UU (F : FTy → Type) : Type := UH × (UWm F × Counters)

/-- The machine's assertions over this algebra. -/
abbrev MM (F : FTy → Type) := MT nD τ sig (HIx 1) (Elt F) ℕ (UU F) ℕ

abbrev EH : Emb UH (MM F) := embL

/-- Where the write mode's algebra sits. -/
abbrev wmE : UEmb (UWm F) (UU F) := (UEmb.inl : UEmb (UWm F) (UWm F × Counters)).trans UEmb.inr

/-- The write mode's invariant exists, under some name. -/
abbrev WmI : sProp (MM F) := iprop(∃ ιwm, wmInv (wmE (F := F)) ιwm)

/-! ## The kernel's buffers -/

/-- The packed values, as rows of 128. -/
abbrev xV : Memref sig .scVector .hbm S65520x128 .f32 := Memref.whole main_v0_scv
/-- The matrix. -/
abbrev oV : Memref sig .scVector .hbm S4096x4096 .f32 := Memref.whole main_v1_scv
/-- The row numbers of the gathers. -/
abbrev ixV : Memref sig .scVector .vmem S2x2x128 .i32 := Memref.whole cc0_scratch0
/-- The gathered rows. -/
abbrev sgV : Memref sig .scVector .vmem S256x256 .f32 := Memref.whole cc0_scratch1
/-- The blocks to be written out. -/
abbrev obV : Memref sig .scVector .vmem S256x128 .f32 := Memref.whole cc0_scratch2
/-- The shifts. -/
abbrev shV : Memref sig .scVector .vmem S2x128 .i32 := Memref.whole cc0_scratch3

abbrev xLoc (d : Dev nD) : Loc nD τ sig := (SparseCore.T d).loc main_v0
abbrev oLoc (d : Dev nD) : Loc nD τ sig := (SparseCore.T d).loc main_v1
abbrev aLoc (d : Dev nD) : Loc nD τ sig := (SparseCore.T d).loc main_arg0

abbrev cV (L : grid0.Coords) : Fin τ.nSC := (L 0).castLE hcore0
abbrev jV (L : grid0.Coords) : Fin τ.nSub := (L 1).castLE hsub0

/-- The vector subcore at the grid point `L`. -/
abbrev thr (d : Dev nD) (L : grid0.Coords) : Thread nD τ := V d (cV L) (jV L)

/-- A program of the vector subcore at the grid point `L`. -/
abbrev TProg (F : FTy → Type) (L : grid0.Coords) (α : Type) : Type 1 :=
  Prog (TpuEff nD τ sig (Elt F) Λ₀ (.scVector ((L 0).castLE hcore0) ((L 1).castLE hsub0))) α

/-- Running a program on the vector subcore at the grid point `L`. -/
abbrev WP [FloatOps F] (d : Dev nD) (L : grid0.Coords) {α : Type} (p : TProg F L α) (Q : α → sProp (MM F)) : sProp (MM F) :=
  wp frame (wpE (defs₀ (F := F)) 𝒱₀ (thr d L) none) Set.univ p Q

/-! ## Contents of a tile's buffers -/

abbrev sgLoc (d : Dev nD) (L : grid0.Coords) : Loc nD τ sig := sgV.view.loc (thr d L)
abbrev obLoc (d : Dev nD) (L : grid0.Coords) : Loc nD τ sig := obV.view.loc (thr d L)
abbrev shLoc (d : Dev nD) (L : grid0.Coords) : Loc nD τ sig := shV.view.loc (thr d L)
abbrev ixLoc (d : Dev nD) (L : grid0.Coords) : Loc nD τ sig := ixV.view.loc (thr d L)

/-- The contents of the gathered rows' buffer, and of the outgoing buffer. -/
abbrev SBuf (F : FTy → Type) : Type := S256x256.Idx → Elt F .f32
abbrev OBuf (F : FTy → Type) : Type := S256x128.Idx → Elt F .f32

/-- Half `p` of the gathered rows: rows `128 p` to `128 p + 127`. -/
def half (p : ℕ) : Finset S256x256.Idx := Finset.univ.filter fun e => (e 0).val / 128 = p

/-- Slot `s` of the outgoing buffer: rows `128 s` to `128 s + 127`. -/
def slot (s : ℕ) : Finset S256x128.Idx := Finset.univ.filter fun e => (e 0).val / 128 = s

theorem mem_half {p : ℕ} {e : S256x256.Idx} : e ∈ half p ↔ (e 0).val / 128 = p := by simp [half]
theorem mem_slot {s : ℕ} {e : S256x128.Idx} : e ∈ slot s ↔ (e 0).val / 128 = s := by simp [slot]

theorem half_disjoint {p q : ℕ} (h : p ≠ q) : Disjoint (half p) (half q) :=
  Finset.disjoint_left.mpr fun e h1 h2 => h (by rw [← mem_half.mp h1, mem_half.mp h2])

theorem half_cover {p q : ℕ} (h : p + q = 1) (e : S256x256.Idx) : e ∈ half p ∪ half q := by
  have : (e 0).val < 256 := (e 0).isLt
  rw [Finset.mem_union, mem_half, mem_half]; omega

/-- The first `N` entries of slot `s`, row after row, hold what `G` says. -/
def Filled (G : OBuf F) (s : ℕ) (g : OBuf F) (N : ℕ) : Prop :=
  ∀ e : S256x128.Idx, (e 0).val / 128 = s → (e 0).val % 128 * 128 + (e 1).val < N → g e = G e

theorem filled_zero (G : OBuf F) (s : ℕ) (g : OBuf F) : Filled G s g 0 := fun _ _ h => absurd h (Nat.not_lt_zero _)

/-- A slot all of whose entries are filled holds `G` on the slot. -/
theorem filled_all {G : OBuf F} {s : ℕ} {g : OBuf F} (h : Filled G s g (128 * 128)) : ∀ e ∈ slot s, g e = G e := fun e he =>
  h e (mem_slot.mp he) (by have : (e 1).val < 128 := (e 1).isLt; have := Nat.mod_lt (e 0).val (show 128 > 0 by decide); omega)

abbrev cell (d : Dev nD) (L : grid0.Coords) (s : DmaSems sig S_) : GSem nD τ sig := (thr d L, .dma s.sem)

end Cert.Proof.Base

end
-- ==== Proof.Row.lean ====
/-
  One row of a block, as the kernel writes it: eight pieces of sixteen values. Each piece checks
  its index vectors, loads sixteen values of the gathered rows, and stores them. This module
  writes a piece and a row as short programs and shows that each of the kernel's row loops runs
  such a row.
-/
module

public import proofs.«01_k».proof.Proof.Base

@[expose] public section

noncomputable section

namespace Cert.Proof.Row

open Cert.KernelIdeal Cert.KernelIdeal.Gen
open Cert.Proof.Base
open Idealize.ShloMosaic Idealize.SL.Sem

variable {F : FTy → Type} [FloatOps F]

/-- Both index vectors name elements of the gathered rows' buffer. -/
abbrev InB (v w : IVec S16 32) : Prop := ∀ a x, ((![v, w] : Fin 2 → IVec S16 32) a x).toNat < S256x256.size a

/-- A piece of a row: sixteen gathered values stored as they are. -/
def chunk (L : grid0.Coords) (v w : IVec S16 32) (dec : Decidable (InB v w)) (off : Fin 2 → Nat)
    (inb : ∀ a, off a + S1x16.size a ≤ S256x128.size a) : TProg F L PUnit :=
  .op (.assume (InB v w) dec) fun hw =>
  .op (.load sgV (.whole S256x256) (View.loadsAt_whole (View.loads_vmem h_S256x256))) fun cur =>
  .op (.load obV (Rect.unit (s := S256x128) off S1x16.size inb).toLoadRect (View.loadsAt_vmem h_S1x16)) fun _ =>
  .op (.store obV (Rect.unit (s := S256x128) off S1x16.size inb) (shapeCast S1x16 (loadIdx cur ![v, w] hw.down : Vec F S16 .f32) shapeCasts_S16_S1x16)
    Finset.univ (View.stores_vmem_bits_univ h_S1x16 rfl) (.inl rfl)) fun _ => .ret ⟨⟩

/-- A piece of a row made of two gathers: sixteen values chosen lane by lane among the two and a constant. -/
def chunkDiag (L : grid0.Coords) (v w v' w' : IVec S16 32) (dec : Decidable (InB v w)) (dec' : Decidable (InB v' w')) (off : Fin 2 → Nat)
    (inb : ∀ a, off a + S1x16.size a ≤ S256x128.size a) (sel : Vec F S16 .f32 → Vec F S16 .f32 → Vec F S16 .f32) : TProg F L PUnit :=
  .op (.assume (InB v w) dec) fun hw =>
  .op (.load sgV (.whole S256x256) (View.loadsAt_whole (View.loads_vmem h_S256x256))) fun cur =>
  .op (.assume (InB v' w') dec') fun hw' =>
  .op (.load sgV (.whole S256x256) (View.loadsAt_whole (View.loads_vmem h_S256x256))) fun cur' =>
  .op (.load obV (Rect.unit (s := S256x128) off S1x16.size inb).toLoadRect (View.loadsAt_vmem h_S1x16)) fun _ =>
  .op (.store obV (Rect.unit (s := S256x128) off S1x16.size inb)
    (shapeCast S1x16 (sel (loadIdx cur ![v, w] hw.down) (loadIdx cur' ![v', w'] hw'.down)) shapeCasts_S16_S1x16)
    Finset.univ (View.stores_vmem_bits_univ h_S1x16 rfl) (.inl rfl)) fun _ => .ret ⟨⟩

/-- Eight pieces, one after another. -/
def row8 {L : grid0.Coords} (c0 c1 c2 c3 c4 c5 c6 c7 : TProg F L PUnit) : TProg F L Unit := do
  c0; c1; c2; c3; c4; c5; c6; c7; pure ⟨⟩

/-- The flat position of entry `(g, m)` of the upper triangle, as the kernel computes it. -/
def seg (g m : BitVec 32) : BitVec 32 :=
  Scalar.subi (Scalar.addi (Scalar.subi (Scalar.muli g 4096#32) (Scalar.shrui (Scalar.muli g (Scalar.addi g 1#32)) 1#32)) (Scalar.subi m 1#32)) g

/-- Trip `t` of a loop, as the kernel's word. -/
def rv (t : ℕ) : BitVec 32 := Scalar.addi 0#32 (Scalar.muli (Scf.iv 0#32 1#32 t) 1#32)

/-- The columns of an upper block's row in the gathered rows. -/
def upW (g m : BitVec 32) (q : IVec S16 32) : IVec S16 32 := addi (broadcast S16 (Scalar.andi (seg g m) 127#32)) q

/-- The row of an upper block, in the half of the gathered rows that starts at `b`. -/
def upV (b : BitVec 32) (t : ℕ) : IVec S16 32 := broadcast S16 (Scalar.addi b (rv t))

/-- The rows that a lower block's row reads, one for each lane. -/
def lowV (b : BitVec 32) (q : IVec S16 32) : IVec S16 32 := addi (broadcast S16 b) q

/-- The columns that a lower block's row reads. -/
def lowW (sh : IVec S16 32) (t : ℕ) : IVec S16 32 := addi sh (broadcast S16 (rv t))

/-- The columns that a diagonal block's row reads above the diagonal. -/
def dupW (g m : BitVec 32) (q : IVec S16 32) : IVec S16 32 :=
  maxsi (addi (broadcast S16 (Scalar.subi (seg g m) (Scalar.shli (Scalar.maxsi (Scalar.shrsi (seg g m) 7#32) 0#32) 7#32))) q) (broadcast S16 0#32)

/-- The columns that a diagonal block's row reads below the diagonal. -/
def dlowW (sh : IVec S16 32) (t : ℕ) : IVec S16 32 := maxsi (lowW sh t) (broadcast S16 0#32)

/-- Lane by lane: `x` right of the diagonal, `y` left of it, one on it. -/
def dsel (t : ℕ) (q : IVec S16 32) (x y : Vec F S16 .f32) : Vec F S16 .f32 :=
  select (cmpi .sgt q (broadcast S16 (rv t))) x
    (select (cmpi .slt q (broadcast S16 (rv t))) y (broadcast S16 (Scalar.ofBits .f32 0x3F800000#32) : FVec F S16 .f32))

/-- The pieces of row `r` of the outgoing buffer lie inside it. -/
theorem inb_of {off : Fin 8 → Fin 2 → ℕ} {r : ℕ} (hr : r < 256) (h : ∀ c, off c = ![r, 16 * c.val]) (c : Fin 8) :
    ∀ a, off c a + S1x16.size a ≤ S256x128.size a := by
  rw [h c]
  intro a
  have := c.isLt
  fin_cases a
  · show r + 1 ≤ 256; omega
  · show 16 * c.val + 16 ≤ 128; omega

/-- Whether two index vectors name elements of the buffer is decided by trying all lanes. -/
@[reducible] def inBdec (v w : IVec S16 32) : Decidable (InB v w) := k0_chk18.dec v w

/-- Row `t` of an upper block. -/
def upRow (L : grid0.Coords) (b : BitVec 32) (t : ℕ) (ht : t < 256) (g m : BitVec 32) (q : Fin 8 → IVec S16 32) (off : Fin 8 → Fin 2 → ℕ)
    (h : ∀ c, off c = ![t, 16 * c.val]) : TProg F L Unit :=
  row8
    (chunk L (upV b t) (upW g m (q 0)) (inBdec _ _) (off 0) (inb_of ht h 0))
    (chunk L (upV b t) (upW g m (q 1)) (inBdec _ _) (off 1) (inb_of ht h 1))
    (chunk L (upV b t) (upW g m (q 2)) (inBdec _ _) (off 2) (inb_of ht h 2))
    (chunk L (upV b t) (upW g m (q 3)) (inBdec _ _) (off 3) (inb_of ht h 3))
    (chunk L (upV b t) (upW g m (q 4)) (inBdec _ _) (off 4) (inb_of ht h 4))
    (chunk L (upV b t) (upW g m (q 5)) (inBdec _ _) (off 5) (inb_of ht h 5))
    (chunk L (upV b t) (upW g m (q 6)) (inBdec _ _) (off 6) (inb_of ht h 6))
    (chunk L (upV b t) (upW g m (q 7)) (inBdec _ _) (off 7) (inb_of ht h 7))

/-- Row `t` of a lower block. -/
def lowRow (L : grid0.Coords) (b : BitVec 32) (t : ℕ) (ht : t + 128 < 256) (sh q : Fin 8 → IVec S16 32) (off : Fin 8 → Fin 2 → ℕ)
    (h : ∀ c, off c = ![t + 128, 16 * c.val]) : TProg F L Unit :=
  row8
    (chunk L (lowV b (q 0)) (lowW (sh 0) t) (inBdec _ _) (off 0) (inb_of ht h 0))
    (chunk L (lowV b (q 1)) (lowW (sh 1) t) (inBdec _ _) (off 1) (inb_of ht h 1))
    (chunk L (lowV b (q 2)) (lowW (sh 2) t) (inBdec _ _) (off 2) (inb_of ht h 2))
    (chunk L (lowV b (q 3)) (lowW (sh 3) t) (inBdec _ _) (off 3) (inb_of ht h 3))
    (chunk L (lowV b (q 4)) (lowW (sh 4) t) (inBdec _ _) (off 4) (inb_of ht h 4))
    (chunk L (lowV b (q 5)) (lowW (sh 5) t) (inBdec _ _) (off 5) (inb_of ht h 5))
    (chunk L (lowV b (q 6)) (lowW (sh 6) t) (inBdec _ _) (off 6) (inb_of ht h 6))
    (chunk L (lowV b (q 7)) (lowW (sh 7) t) (inBdec _ _) (off 7) (inb_of ht h 7))

/-- Row `t` of a diagonal block. -/
def diagRow (L : grid0.Coords) (t : ℕ) (ht : t < 256) (g m : BitVec 32) (sh q : Fin 8 → IVec S16 32) (off : Fin 8 → Fin 2 → ℕ)
    (h : ∀ c, off c = ![t, 16 * c.val]) : TProg F L Unit :=
  row8
    (chunkDiag L (upV 0#32 t) (dupW g m (q 0)) (lowV 0#32 (q 0)) (dlowW (sh 0) t) (inBdec _ _) (inBdec _ _) (off 0) (inb_of ht h 0) (dsel t (q 0)))
    (chunkDiag L (upV 0#32 t) (dupW g m (q 1)) (lowV 0#32 (q 1)) (dlowW (sh 1) t) (inBdec _ _) (inBdec _ _) (off 1) (inb_of ht h 1) (dsel t (q 1)))
    (chunkDiag L (upV 0#32 t) (dupW g m (q 2)) (lowV 0#32 (q 2)) (dlowW (sh 2) t) (inBdec _ _) (inBdec _ _) (off 2) (inb_of ht h 2) (dsel t (q 2)))
    (chunkDiag L (upV 0#32 t) (dupW g m (q 3)) (lowV 0#32 (q 3)) (dlowW (sh 3) t) (inBdec _ _) (inBdec _ _) (off 3) (inb_of ht h 3) (dsel t (q 3)))
    (chunkDiag L (upV 0#32 t) (dupW g m (q 4)) (lowV 0#32 (q 4)) (dlowW (sh 4) t) (inBdec _ _) (inBdec _ _) (off 4) (inb_of ht h 4) (dsel t (q 4)))
    (chunkDiag L (upV 0#32 t) (dupW g m (q 5)) (lowV 0#32 (q 5)) (dlowW (sh 5) t) (inBdec _ _) (inBdec _ _) (off 5) (inb_of ht h 5) (dsel t (q 5)))
    (chunkDiag L (upV 0#32 t) (dupW g m (q 6)) (lowV 0#32 (q 6)) (dlowW (sh 6) t) (inBdec _ _) (inBdec _ _) (off 6) (inb_of ht h 6) (dsel t (q 6)))
    (chunkDiag L (upV 0#32 t) (dupW g m (q 7)) (lowV 0#32 (q 7)) (dlowW (sh 7) t) (inBdec _ _) (inBdec _ _) (off 7) (inb_of ht h 7) (dsel t (q 7)))

theorem t2_trips (t : Fin k0_t2_loop.trips) : t.val < 128 := t.isLt

theorem t2_off (t : Fin k0_t2_loop.trips) (c : Fin 8) :
    (![k0_off4 t, k0_off5 t, k0_off6 t, k0_off7 t, k0_off8 t, k0_off9 t, k0_off10 t, k0_off11 t] : Fin 8 → Fin 2 → ℕ) c
      = ![t.val, 16 * c.val] := by
  fin_cases c
  · exact k0_off4_eq t
  · exact k0_off5_eq t
  · exact k0_off6_eq t
  · exact k0_off7_eq t
  · exact k0_off8_eq t
  · exact k0_off9_eq t
  · exact k0_off10_eq t
  · exact k0_off11_eq t

theorem t6_trips (t : Fin k0_t6_loop.trips) : t.val < 128 := t.isLt

theorem t6_off (t : Fin k0_t6_loop.trips) (c : Fin 8) :
    (![k0_off20 t, k0_off21 t, k0_off22 t, k0_off23 t, k0_off24 t, k0_off25 t, k0_off26 t, k0_off27 t] : Fin 8 → Fin 2 → ℕ) c
      = ![t.val, 16 * c.val] := by
  fin_cases c
  · exact k0_off20_eq t
  · exact k0_off21_eq t
  · exact k0_off22_eq t
  · exact k0_off23_eq t
  · exact k0_off24_eq t
  · exact k0_off25_eq t
  · exact k0_off26_eq t
  · exact k0_off27_eq t

theorem t7_trips (t : Fin k0_t7_loop.trips) : t.val < 128 := t.isLt

theorem t7_off (t : Fin k0_t7_loop.trips) (c : Fin 8) :
    (![k0_off29 t, k0_off30 t, k0_off31 t, k0_off32 t, k0_off33 t, k0_off34 t, k0_off35 t, k0_off36 t] : Fin 8 → Fin 2 → ℕ) c
      = ![t.val + 128, 16 * c.val] := by
  fin_cases c
  · exact k0_off29_eq t
  · exact k0_off30_eq t
  · exact k0_off31_eq t
  · exact k0_off32_eq t
  · exact k0_off33_eq t
  · exact k0_off34_eq t
  · exact k0_off35_eq t
  · exact k0_off36_eq t

theorem t9_trips (t : Fin k0_t9_loop.trips) : t.val < 128 := t.isLt

theorem t9_off (t : Fin k0_t9_loop.trips) (c : Fin 8) :
    (![k0_off42 t, k0_off43 t, k0_off44 t, k0_off45 t, k0_off46 t, k0_off47 t, k0_off48 t, k0_off49 t] : Fin 8 → Fin 2 → ℕ) c
      = ![t.val, 16 * c.val] := by
  fin_cases c
  · exact k0_off42_eq t
  · exact k0_off43_eq t
  · exact k0_off44_eq t
  · exact k0_off45_eq t
  · exact k0_off46_eq t
  · exact k0_off47_eq t
  · exact k0_off48_eq t
  · exact k0_off49_eq t

theorem t10_trips (t : Fin k0_t10_loop.trips) : t.val < 128 := t.isLt

theorem t10_off (t : Fin k0_t10_loop.trips) (c : Fin 8) :
    (![k0_off51 t, k0_off52 t, k0_off53 t, k0_off54 t, k0_off55 t, k0_off56 t, k0_off57 t, k0_off58 t] : Fin 8 → Fin 2 → ℕ) c
      = ![t.val + 128, 16 * c.val] := by
  fin_cases c
  · exact k0_off51_eq t
  · exact k0_off52_eq t
  · exact k0_off53_eq t
  · exact k0_off54_eq t
  · exact k0_off55_eq t
  · exact k0_off56_eq t
  · exact k0_off57_eq t
  · exact k0_off58_eq t

set_option maxHeartbeats 4000000 in
set_option maxRecDepth 65536 in
/-- A row of the first upper block's loop. -/
theorem t6_eq (L : grid0.Coords) (v4 v6 v8 v10 v12 v14 v16 v18 : IVec S16 32) (k0_t5 : Fin k0_t5_loop.trips) (arg12 v257 v276 : BitVec 32)
    (hw : k0_chk17 L k0_t5 v257 v276) (v286 v287 : BitVec 32) (v297 v299 v301 : Vec F S16 .i32) (c : BitVec 32) (t : Fin k0_t6_loop.trips) (u : Unit) :
    k0_t6_body (F := F) L xV (Memref.isWhole_whole _) oV (Memref.isWhole_whole _) ixV (Memref.isWhole_whole _) sgV (Memref.isWhole_whole _)
        obV (Memref.isWhole_whole _) shV (Memref.isWhole_whole _) cc0_scratch4 cc0_scratch5 cc0_scratch6 cc0_scratch7
        v4 v6 v8 v10 v12 v14 v16 v18 k0_t5 arg12 v257 v276 hw v286 v287 v297 v299 v301 c t u
      = upRow L 0#32 t (Nat.lt_trans (t6_trips t) (by decide)) (Scalar.addi v286 (rv t)) v287
          ![v4, v6, v8, v10, v12, v14, v16, v18] ![k0_off20 t, k0_off21 t, k0_off22 t, k0_off23 t, k0_off24 t, k0_off25 t, k0_off26 t, k0_off27 t] (t6_off t) := by
  unfold k0_t6_body
  simp only [k0_part8_eq_skeleton]
  rfl

set_option maxHeartbeats 4000000 in
set_option maxRecDepth 65536 in
/-- A row of the first lower block's loop. -/
theorem t7_eq (L : grid0.Coords) (v4 v6 v8 v10 v12 v14 v16 v18 : IVec S16 32) (k0_t5 : Fin k0_t5_loop.trips) (arg12 v257 v276 : BitVec 32)
    (hw : k0_chk17 L k0_t5 v257 v276) (v286 v287 : BitVec 32) (v297 v299 v301 : Vec F S16 .i32) (c : BitVec 32)
    (w3 w4 w5 w6 w7 : Vec F S1x16 .i32) (t : Fin k0_t7_loop.trips) (u : Unit) :
    k0_t7_body (F := F) L xV (Memref.isWhole_whole _) oV (Memref.isWhole_whole _) ixV (Memref.isWhole_whole _) sgV (Memref.isWhole_whole _)
        obV (Memref.isWhole_whole _) shV (Memref.isWhole_whole _) cc0_scratch4 cc0_scratch5 cc0_scratch6 cc0_scratch7
        v4 v6 v8 v10 v12 v14 v16 v18 k0_t5 arg12 v257 v276 hw v286 v287 v297 v299 v301 c w3 w4 w5 w6 w7 t u
      = lowRow L 0#32 t (Nat.add_lt_add_right (t7_trips t) 128)
          ![v297, v299, v301, shapeCast S16 w3 shapeCasts_S1x16_S16, shapeCast S16 w4 shapeCasts_S1x16_S16, shapeCast S16 w5 shapeCasts_S1x16_S16, shapeCast S16 w6 shapeCasts_S1x16_S16, shapeCast S16 w7 shapeCasts_S1x16_S16]
          ![v4, v6, v8, v10, v12, v14, v16, v18] ![k0_off29 t, k0_off30 t, k0_off31 t, k0_off32 t, k0_off33 t, k0_off34 t, k0_off35 t, k0_off36 t] (t7_off t) := by
  unfold k0_t7_body
  simp only [k0_part9_eq_skeleton]
  rfl

set_option maxHeartbeats 4000000 in
set_option maxRecDepth 65536 in
/-- A row of the second upper block's loop. -/
theorem t9_eq (L : grid0.Coords) (v4 v6 v8 v10 v12 v14 v16 v18 : IVec S16 32) (k0_t5 : Fin k0_t5_loop.trips) (v354 v373 : BitVec 32)
    (hw : k0_chk34 L k0_t5 v354 v373) (v383 v384 : BitVec 32) (t : Fin k0_t9_loop.trips) (u : Unit) :
    k0_t9_body (F := F) L xV (Memref.isWhole_whole _) oV (Memref.isWhole_whole _) ixV (Memref.isWhole_whole _) sgV (Memref.isWhole_whole _)
        obV (Memref.isWhole_whole _) shV (Memref.isWhole_whole _) cc0_scratch4 cc0_scratch5 cc0_scratch6 cc0_scratch7
        v4 v6 v8 v10 v12 v14 v16 v18 k0_t5 v354 v373 hw v383 v384 t u
      = upRow L 128#32 t (Nat.lt_trans (t9_trips t) (by decide)) (Scalar.addi v383 (rv t)) v384
          ![v4, v6, v8, v10, v12, v14, v16, v18] ![k0_off42 t, k0_off43 t, k0_off44 t, k0_off45 t, k0_off46 t, k0_off47 t, k0_off48 t, k0_off49 t] (t9_off t) := by
  unfold k0_t9_body
  simp only [k0_part12_eq_skeleton]
  rfl

set_option maxHeartbeats 4000000 in
set_option maxRecDepth 65536 in
/-- A row of the second lower block's loop. -/
theorem t10_eq (L : grid0.Coords) (v4 v6 v8 v10 v12 v14 v16 v18 : IVec S16 32) (v1 : BitVec 32) (v2 : IVec S16 32) (v118 v137 : BitVec 32) (v152 : IVec S16 32)
    (w0 w1 w2 w3 w4 w5 w6 w7 : Vec F S16 .i32) (t : Fin k0_t10_loop.trips) (u : Unit) :
    k0_t10_body (F := F) L xV (Memref.isWhole_whole _) oV (Memref.isWhole_whole _) ixV (Memref.isWhole_whole _) sgV (Memref.isWhole_whole _)
        obV (Memref.isWhole_whole _) shV (Memref.isWhole_whole _) cc0_scratch4 cc0_scratch5 cc0_scratch6 cc0_scratch7
        v1 v2 v4 v6 v8 v10 v12 v14 v16 v18 v118 v137 v152 w0 w1 w2 w3 w4 w5 w6 w7 t u
      = lowRow L 128#32 t (Nat.add_lt_add_right (t10_trips t) 128)
          ![w0, w1, w2, w3, w4, w5, w6, w7]
          ![v4, v6, v8, v10, v12, v14, v16, v18] ![k0_off51 t, k0_off52 t, k0_off53 t, k0_off54 t, k0_off55 t, k0_off56 t, k0_off57 t, k0_off58 t] (t10_off t) := by
  unfold k0_t10_body
  simp only [k0_part13_eq_skeleton]
  rfl

set_option maxHeartbeats 4000000 in
set_option maxRecDepth 65536 in
/-- A row of the diagonal block's loop. -/
theorem t2_eq (L : grid0.Coords) (v4 v6 v8 v10 v12 v14 v16 v18 : IVec S16 32) (v1 : BitVec 32) (v2 : IVec S16 32) (v19 : BitVec 32)
    (w0 w1 w2 w3 w4 w5 : Vec F S16 .i32) (w6 w7 : Vec F S1x16 .i32) (t : Fin k0_t2_loop.trips) (u : Unit) :
    k0_t2_body (F := F) L xV (Memref.isWhole_whole _) oV (Memref.isWhole_whole _) ixV (Memref.isWhole_whole _) sgV (Memref.isWhole_whole _)
        obV (Memref.isWhole_whole _) shV (Memref.isWhole_whole _) cc0_scratch4 cc0_scratch5 cc0_scratch6 cc0_scratch7
        v1 v2 v4 v6 v8 v10 v12 v14 v16 v18 v19 w0 w1 w2 w3 w4 w5 w6 w7 t u
      = diagRow L t (Nat.lt_trans (t2_trips t) (by decide)) (Scalar.addi v19 (rv t)) v19
          ![w0, w1, w2, w3, w4, w5, shapeCast S16 w6 shapeCasts_S1x16_S16, shapeCast S16 w7 shapeCasts_S1x16_S16]
          ![v4, v6, v8, v10, v12, v14, v16, v18] ![k0_off4 t, k0_off5 t, k0_off6 t, k0_off7 t, k0_off8 t, k0_off9 t, k0_off10 t, k0_off11 t] (t2_off t) := by
  unfold k0_t2_body
  simp only [k0_part2_eq_skeleton, k0_part3_eq_skeleton, k0_part4_eq_skeleton, k0_part5_eq_skeleton]
  rfl

end Cert.Proof.Row

end
-- ==== Proof.Arith.lean ====
/-
  The kernel's index arithmetic on 32-bit words, read as arithmetic on natural numbers.

  `pos i j` is the place of entry `(i, j)`, `i < j`, of the strict upper triangle in the packed
  array. The kernel computes `seg g m`, the place of entry `(g, m)`; it splits it into the number
  of a row of 128 and a shift in that row. Only for `g = m = 0` is `seg` not a place: there it is -1.
-/
module

public import proofs.«01_k».proof.Proof.Row

@[expose] public section

noncomputable section

namespace Cert.Proof.Arith

open Cert.Proof.Row
open Idealize.ShloMosaic

/-- The place of entry `(i, j)` of the strict upper triangle in the packed array. -/
def pos (i j : ℕ) : ℕ := i * 4096 + j - (i * (i + 1) / 2 + 1 + i)

theorem half_le {i : ℕ} (hi : i < 4096) : i * (i + 1) / 2 ≤ i * 2048 := by
  have h : i * (i + 1) ≤ i * 4096 := Nat.mul_le_mul_left i hi
  omega

/-- Away from `(0, 0)` the subtraction in `pos` is exact. -/
theorem pos_exact {i j : ℕ} (hi : i < 4096) (h : 0 < i + j) : i * (i + 1) / 2 + 1 + i ≤ i * 4096 + j := by
  have := half_le hi; omega

theorem pos_add {i j k : ℕ} (hi : i < 4096) (h : 0 < i + j) : pos i (j + k) = pos i j + k := by
  have := pos_exact hi h; unfold pos; omega

/-- Places are inside the packed array. -/
theorem pos_lt {i j : ℕ} (hi : i < 4096) (hj : j < 4096) : pos i j < 8386560 := by
  unfold pos
  have h2 : i * (i + 1) / 2 * 2 = i * (i + 1) := Nat.div_mul_cancel (even_iff_two_dvd.mp (Nat.even_mul_succ_self i))
  have h3 : 8189 * i ≤ i * i + 16764930 := by
    have hz : (8189 * i : ℤ) ≤ i * i + 16764930 := by
      rcases Nat.lt_or_ge i 4095 with h | h
      · have := mul_nonneg (show (0 : ℤ) ≤ 4094 - i by omega) (show (0 : ℤ) ≤ 4095 - i by omega)
        nlinarith
      · have : i = 4095 := by omega
        subst this; decide
    exact_mod_cast hz
  have h4 : i * (i + 1) = i * i + i := by ring
  omega

/-! ## Words -/

theorem word_ext {a b : BitVec 32} (h : a.toNat = b.toNat) : a = b := BitVec.eq_of_toNat_eq h

/-- `seg` away from `(0, 0)` is the place. -/
theorem seg_val {g m : ℕ} (hg : g < 4096) (hm : m < 4096) (h : 0 < g + m) :
    seg (BitVec.ofNat 32 g) (BitVec.ofNat 32 m) = BitVec.ofNat 32 (pos g m) := by
  apply word_ext
  have hP : (BitVec.ofNat 32 g * (BitVec.ofNat 32 g + 1#32)).toNat = g * (g + 1) := by
    have : g * (g + 1) ≤ 4095 * 4096 := Nat.mul_le_mul (by omega) (by omega)
    rw [BitVec.toNat_mul, BitVec.toNat_add, BitVec.toNat_ofNat]
    rw [Nat.mod_eq_of_lt (show g < 2 ^ 32 by omega)]
    rw [show (1#32).toNat = 1 from rfl, Nat.mod_eq_of_lt (show g + 1 < 2 ^ 32 by omega), Nat.mod_eq_of_lt (by omega)]
  have hS : ((BitVec.ofNat 32 g * (BitVec.ofNat 32 g + 1#32)) >>> 1#32).toNat = g * (g + 1) / 2 := by
    rw [show ((BitVec.ofNat 32 g * (BitVec.ofNat 32 g + 1#32)) >>> 1#32) = (BitVec.ofNat 32 g * (BitVec.ofNat 32 g + 1#32)) >>> 1 from rfl]
    rw [BitVec.toNat_ushiftRight, hP, Nat.shiftRight_eq_div_pow]
  have hx := pos_exact hg h
  have hl := pos_lt hg hm
  have hh := half_le hg
  show ((BitVec.ofNat 32 g * 4096#32 - ((BitVec.ofNat 32 g * (BitVec.ofNat 32 g + 1#32)) >>> 1#32)) + (BitVec.ofNat 32 m - 1#32) - BitVec.ofNat 32 g).toNat = _
  rw [BitVec.toNat_sub, BitVec.toNat_add, BitVec.toNat_sub, BitVec.toNat_sub, BitVec.toNat_mul, hS]
  simp only [BitVec.toNat_ofNat]
  unfold pos at hl ⊢
  generalize g * (g + 1) / 2 = T at *
  omega

theorem seg_zero : seg 0#32 0#32 = BitVec.ofNat 32 4294967295 := by decide

/-- The row number of a place, as the kernel computes it. -/
def aW (s : BitVec 32) : BitVec 32 := Scalar.maxsi (Scalar.shrsi s 7#32) 0#32
/-- The next row number, kept inside the array. -/
def a1W (s : BitVec 32) : BitVec 32 := Scalar.minsi (Scalar.addi (aW s) 1#32) 65519#32
/-- The shift of a place in its row. -/
def shW (s : BitVec 32) : BitVec 32 := Scalar.subi s (Scalar.shli (aW s) 7#32)

theorem slt_ofNat {a b : ℕ} (ha : a < 2 ^ 31) (hb : b < 2 ^ 31) : (BitVec.ofNat 32 a).slt (BitVec.ofNat 32 b) = decide (a < b) := by
  have h1 : (BitVec.ofNat 32 a).toInt = a := by
    rw [BitVec.toInt_eq_toNat_of_lt (by rw [BitVec.toNat_ofNat]; omega), BitVec.toNat_ofNat]; omega
  have h2 : (BitVec.ofNat 32 b).toInt = b := by
    rw [BitVec.toInt_eq_toNat_of_lt (by rw [BitVec.toNat_ofNat]; omega), BitVec.toNat_ofNat]; omega
  rw [BitVec.slt, h1, h2]
  simp

theorem maxsi_ofNat {a b : ℕ} (ha : a < 2 ^ 31) (hb : b < 2 ^ 31) :
    Scalar.maxsi (BitVec.ofNat 32 a) (BitVec.ofNat 32 b) = BitVec.ofNat 32 (max a b) := by
  show (if (BitVec.ofNat 32 b).slt (BitVec.ofNat 32 a) then BitVec.ofNat 32 a else BitVec.ofNat 32 b) = _
  rw [slt_ofNat hb ha]
  by_cases h : b < a
  · rw [if_pos (by simpa using h), max_eq_left (by omega)]
  · rw [if_neg (by simpa using h), max_eq_right (by omega)]

theorem minsi_ofNat {a b : ℕ} (ha : a < 2 ^ 31) (hb : b < 2 ^ 31) :
    Scalar.minsi (BitVec.ofNat 32 a) (BitVec.ofNat 32 b) = BitVec.ofNat 32 (min a b) := by
  show (if (BitVec.ofNat 32 a).slt (BitVec.ofNat 32 b) then BitVec.ofNat 32 a else BitVec.ofNat 32 b) = _
  rw [slt_ofNat ha hb]
  by_cases h : a < b
  · rw [if_pos (by simpa using h), min_eq_left (by omega)]
  · rw [if_neg (by simpa using h), min_eq_right (by omega)]

theorem addi_ofNat (a b : ℕ) : Scalar.addi (BitVec.ofNat 32 a) (BitVec.ofNat 32 b) = BitVec.ofNat 32 (a + b) := by
  show BitVec.ofNat 32 a + BitVec.ofNat 32 b = _
  rw [BitVec.ofNat_add]

theorem aW_val {n : ℕ} (hn : n < 8386560) : aW (BitVec.ofNat 32 n) = BitVec.ofNat 32 (n / 128) := by
  have h : Scalar.shrsi (BitVec.ofNat 32 n) 7#32 = BitVec.ofNat 32 (n / 128) := by
    show (BitVec.ofNat 32 n).sshiftRight 7 = _
    rw [BitVec.sshiftRight_eq_of_msb_false (by rw [BitVec.msb_eq_false_iff_two_mul_lt, BitVec.toNat_ofNat]; omega)]
    apply word_ext
    rw [BitVec.toNat_ushiftRight, Nat.shiftRight_eq_div_pow, BitVec.toNat_ofNat, BitVec.toNat_ofNat]
    omega
  unfold aW
  rw [h, show (0#32) = BitVec.ofNat 32 0 from rfl, maxsi_ofNat (by omega) (by omega), Nat.max_zero]

theorem a1W_val {n : ℕ} (hn : n < 8386560) : a1W (BitVec.ofNat 32 n) = BitVec.ofNat 32 (min (n / 128 + 1) 65519) := by
  unfold a1W
  rw [aW_val hn, show (1#32) = BitVec.ofNat 32 1 from rfl, addi_ofNat, show (65519#32) = BitVec.ofNat 32 65519 from rfl,
    minsi_ofNat (by omega) (by omega)]

theorem shW_val {n : ℕ} (hn : n < 8386560) : shW (BitVec.ofNat 32 n) = BitVec.ofNat 32 (n % 128) := by
  unfold shW
  rw [aW_val hn]
  show BitVec.ofNat 32 n - (BitVec.ofNat 32 (n / 128)) <<< 7 = _
  apply word_ext
  rw [BitVec.toNat_sub, BitVec.toNat_shiftLeft, Nat.shiftLeft_eq]
  simp only [BitVec.toNat_ofNat]
  omega

/-! ## Row number, next row number and column of the entries of a block's row -/

/-- The row number for entry `(g, m)`. -/
def rowA (g m : ℕ) : ℕ := pos g m / 128
/-- The next row number. -/
def rowA1 (g m : ℕ) : ℕ := min (pos g m / 128 + 1) 65519
/-- Where entry `(g, m + k)` is in the two rows laid side by side. -/
def colOf (g m k : ℕ) : ℕ := if g + m = 0 then k - 1 else pos g m % 128 + k

theorem rowA_lt {g m : ℕ} (hg : g < 4096) (hm : m < 4096) : rowA g m < 65520 := by
  have := pos_lt hg hm; unfold rowA; omega

theorem rowA1_lt (g m : ℕ) : rowA1 g m < 65520 := by unfold rowA1; omega

theorem colOf_lt {g m k : ℕ} (hk : k < 128) : colOf g m k < 256 := by unfold colOf; split <;> omega

/-- The column found there is the place of entry `(g, m + k)`, counted from the first of the two rows. -/
theorem colOf_place {g m k : ℕ} (hg : g < 4096) (h : g < m + k) : rowA g m * 128 + colOf g m k = pos g (m + k) := by
  unfold rowA colOf
  split
  · next h0 =>
    have hg0 : g = 0 := by omega
    have hm0 : m = 0 := by omega
    subst hg0 hm0
    unfold pos; omega
  · next h0 => rw [pos_add hg (by omega)]; omega

theorem aW_seg {g m : ℕ} (hg : g < 4096) (hm : m < 4096) :
    aW (seg (BitVec.ofNat 32 g) (BitVec.ofNat 32 m)) = BitVec.ofNat 32 (rowA g m) := by
  rcases Nat.eq_zero_or_pos (g + m) with h | h
  · have hg0 : g = 0 := by omega
    have hm0 : m = 0 := by omega
    subst hg0 hm0
    decide
  · rw [seg_val hg hm h, aW_val (pos_lt hg hm)]; rfl

theorem a1W_seg {g m : ℕ} (hg : g < 4096) (hm : m < 4096) :
    a1W (seg (BitVec.ofNat 32 g) (BitVec.ofNat 32 m)) = BitVec.ofNat 32 (rowA1 g m) := by
  rcases Nat.eq_zero_or_pos (g + m) with h | h
  · have hg0 : g = 0 := by omega
    have hm0 : m = 0 := by omega
    subst hg0 hm0
    decide
  · rw [seg_val hg hm h, a1W_val (pos_lt hg hm)]; rfl

/-- The shift plus `k`, kept from going below zero, is the column. -/
theorem shW_max {g m k : ℕ} (hg : g < 4096) (hm : m < 4096) (hk : k < 128) :
    Scalar.maxsi (Scalar.addi (shW (seg (BitVec.ofNat 32 g) (BitVec.ofNat 32 m))) (BitVec.ofNat 32 k)) 0#32
      = BitVec.ofNat 32 (colOf g m k) := by
  rcases Nat.eq_zero_or_pos (g + m) with h | h
  · have hg0 : g = 0 := by omega
    have hm0 : m = 0 := by omega
    subst hg0 hm0
    rw [show shW (seg (BitVec.ofNat 32 0) (BitVec.ofNat 32 0)) = BitVec.ofNat 32 4294967295 by decide, addi_ofNat]
    unfold colOf
    rw [if_pos rfl]
    rcases k with _ | k
    · decide
    · rw [show BitVec.ofNat 32 (4294967295 + (k + 1)) = BitVec.ofNat 32 k from
          word_ext (by rw [BitVec.toNat_ofNat, BitVec.toNat_ofNat]; omega),
        show (0#32) = BitVec.ofNat 32 0 from rfl, maxsi_ofNat (by omega) (by omega), Nat.max_zero, Nat.add_sub_cancel]
  · have := pos_lt hg hm
    rw [seg_val hg hm h, shW_val this, addi_ofNat, show (0#32) = BitVec.ofNat 32 0 from rfl, maxsi_ofNat (by omega) (by omega),
      Nat.max_zero]
    unfold colOf
    rw [if_neg (by omega)]

/-- Away from `(0, 0)` the shift plus `k` is the column. -/
theorem shW_add {g m k : ℕ} (hg : g < 4096) (hm : m < 4096) (h : 0 < g + m) :
    Scalar.addi (shW (seg (BitVec.ofNat 32 g) (BitVec.ofNat 32 m))) (BitVec.ofNat 32 k) = BitVec.ofNat 32 (colOf g m k) := by
  rw [seg_val hg hm h, shW_val (pos_lt hg hm), addi_ofNat]
  unfold colOf
  rw [if_neg (by omega)]

/-- The low seven bits plus `k` are the column too. -/
theorem and_add {g m k : ℕ} (hg : g < 4096) (hm : m < 4096) (h : 0 < g + m) :
    Scalar.addi (Scalar.andi (seg (BitVec.ofNat 32 g) (BitVec.ofNat 32 m)) 127#32) (BitVec.ofNat 32 k) = BitVec.ofNat 32 (colOf g m k) := by
  have hl := pos_lt hg hm
  have h7 : Scalar.andi (BitVec.ofNat 32 (pos g m)) 127#32 = BitVec.ofNat 32 (pos g m % 128) := by
    show BitVec.ofNat 32 (pos g m) &&& 127#32 = _
    apply word_ext
    rw [BitVec.toNat_and, BitVec.toNat_ofNat, BitVec.toNat_ofNat, Nat.mod_eq_of_lt (show pos g m < 2 ^ 32 by omega),
      show 127 % 2 ^ 32 = 2 ^ 7 - 1 from rfl, Nat.and_two_pow_sub_one_eq_mod, BitVec.toNat_ofNat]
    omega
  rw [seg_val hg hm h, h7, addi_ofNat]
  unfold colOf
  rw [if_neg (by omega)]

theorem rv_val {t : ℕ} : rv t = BitVec.ofNat 32 t := by
  unfold rv Scf.iv
  show 0#32 + (0#32 + BitVec.ofNat 32 t * 1#32) * 1#32 = _
  simp

end Cert.Proof.Arith

end
-- ==== Proof.RefWords.lean ====
/-
  The place of an entry as the reference finds it, by counting the entries above the diagonal row by row: for a row `i`
  and a column `j` above the diagonal the count, less one, is the place `pos i j` in the packed array.
-/
module

public import proofs.«01_k».proof.Proof.Arith
public import Idealize.ShloMosaic.Lib.Routing.Words
public import Idealize.ShloMosaic.Lib.WordCmp
public import Idealize.ShloMosaic.Lib.Affine

@[expose] public section

namespace Cert.Proof.RefWords

open Cert.Proof.Arith
open Idealize.ShloMosaic Idealize.ShloMosaic.Routing

/-! ## The count of entries above the diagonal -/

/-- One for an entry above the diagonal, zero for another, the entries numbered row by row. -/
def isAbove (q : ℕ) : ℕ := if q / 4096 < q % 4096 then 1 else 0

/-- How many of the first `q` entries lie above the diagonal. -/
def count (q : ℕ) : ℕ := ((List.range q).map isAbove).sum

theorem count_succ (q : ℕ) : count (q + 1) = count q + isAbove q := by
  unfold count
  rw [List.range_succ, List.map_append, List.sum_append]
  simp

/-- Along row `i` the count stays until the diagonal is passed, then goes up by one an entry. -/
theorem count_row (i j : ℕ) (hj : j ≤ 4096) : count (4096 * i + j) = count (4096 * i) + (j - (i + 1)) := by
  induction j with
  | zero => simp
  | succ j ih =>
    rw [← Nat.add_assoc, count_succ, ih (by omega)]
    unfold isAbove
    rw [show (4096 * i + j) / 4096 = i by omega, show (4096 * i + j) % 4096 = j by omega]
    split <;> omega

theorem half_succ (i : ℕ) : (i + 1) * (i + 1 + 1) / 2 = i * (i + 1) / 2 + (i + 1) := by
  rw [show (i + 1) * (i + 1 + 1) = i * (i + 1) + (i + 1) * 2 by ring, Nat.add_mul_div_right _ _ (by decide)]

/-- The entries above the diagonal in the rows before row `i`. -/
theorem count_rows (i : ℕ) (hi : i ≤ 4096) : count (4096 * i) + i * (i + 1) / 2 = i * 4096 := by
  induction i with
  | zero => rfl
  | succ i ih =>
    have h := ih (by omega)
    rw [half_succ, show 4096 * (i + 1) = 4096 * i + 4096 by ring, count_row i 4096 (Nat.le_refl _)]
    omega

/-- An entry above the diagonal, itself counted, makes the count one more than its place. -/
theorem count_pos {i j : ℕ} (hij : i < j) (hj : j < 4096) : count (4096 * i + j + 1) = pos i j + 1 := by
  have h := count_rows i (by omega)
  have hx := pos_exact (i := i) (j := j) (by omega) (by omega)
  rw [Nat.add_assoc, count_row i (j + 1) (by omega)]
  unfold pos
  omega

/-! ## On words -/

/-- One less than a count, and not below zero. -/
def lessOne (c : BitVec 32) : BitVec 32 := IntOp.maxsi (IntOp.subi c 1#32) 0#32

/-- A negative number counts from the end. -/
def wrapW (n c : BitVec 32) : BitVec 32 := Scalar.select (IntOp.cmpi .slt c 0#32) (IntOp.addi c n) c

theorem select_zero {α : Type} {c : BitVec 1} (h : c = 0#1) (a b : α) : Scalar.select c a b = b := by
  subst h; exact if_neg (by decide)

theorem select_bool {α : Type} (p : Prop) [Decidable p] (a b : α) :
    Scalar.select (BitVec.ofBool (decide p)) a b = if p then a else b := by
  by_cases h : p
  · simp [h, Scalar.select]
  · simp [h, Scalar.select]

theorem lessOne_eq {n : ℕ} (hn : n + 1 < 2 ^ 31) : lessOne (BitVec.ofNat 32 (n + 1)) = BitVec.ofNat 32 n := by
  have e : IntOp.subi (BitVec.ofNat 32 (n + 1)) 1#32 = BitVec.ofNat 32 n := by
    apply BitVec.eq_of_toNat_eq
    simp only [IntOp.subi, BitVec.toNat_sub, BitVec.toNat_ofNat]
    omega
  unfold lessOne
  rw [e]
  refine Scalar.maxsi_zero_of_nonneg ?_
  rw [BitVec.toNat_ofNat]
  omega

theorem wrapW_eq {n : ℕ} (k : BitVec 32) (hn : n < 2 ^ 31) : wrapW k (BitVec.ofNat 32 n) = BitVec.ofNat 32 n := by
  unfold wrapW
  rw [WordCmp.cmpi_slt_ofNat (w := 32) hn (by decide)]
  exact select_zero (by simp) _ _

/-- What the reference reads the packed array at, above the diagonal. -/
theorem index_eq {i j : ℕ} (hij : i < j) (hj : j < 4096) :
    wrapW 8386560#32 (lessOne (BitVec.ofNat 32 (count (4096 * i + j + 1)))) = BitVec.ofNat 32 (pos i j) := by
  have hp := pos_lt (i := i) (j := j) (by omega) hj
  rw [count_pos hij hj, lessOne_eq (by omega), wrapW_eq _ (by omega)]

end Cert.Proof.RefWords
-- ==== Proof.Shares.lean ====
/-
  Pieces of a share. Elements of a buffer put in write mode are held, at a share, by several
  holders at once: each holds one piece of the share over ALL the elements and marks what it has
  written. This module cuts a write-mode assertion into the pieces of its share and joins the
  pieces again, the marks united.
-/
module

public import Idealize.ShloMosaic.Lib.WriteMode
public import Idealize.ShloMosaic.Lib.SparseCore.Stream
public import Idealize.ShloMosaic.Lib.Tactic

@[expose] public section

noncomputable section

namespace Cert.Proof.Shares

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl] {emb : UEmb (WmRA nD τ sig Val) U}

local notation "𝕄" => MT nD τ sig Ix Val Name U Lvl

/-- A write-mode assertion at a share is its two halves', with the same marks. -/
theorem willBeTo_halves {ℓ : Loc nD τ sig} {I : Finset (Idx ℓ)} {q : PosShare TreeShare} {f : Buf Val ℓ} {g : Tgt Val ℓ}
    {W : Finset (Idx ℓ)} :
    (willBeTo emb ℓ I q f g W : sProp 𝕄) ⊢ iprop(willBeTo emb ℓ I q.left f g W ∗ willBeTo emb ℓ I q.right f g W) := by
  haveI : IsOp q q.left q.right := ⟨PosShare.mem_left_op_right q⟩
  iintro H
  icases H with ⟨H1, H2⟩
  isplitl [H1]
  · iexact H1
  · iexact H2

/-- Two halves of a write-mode assertion are the whole, the marks united. -/
theorem willBeTo_halves_join {ℓ : Loc nD τ sig} {I : Finset (Idx ℓ)} {q : PosShare TreeShare} {f : Buf Val ℓ} {g : Tgt Val ℓ}
    {W₁ W₂ : Finset (Idx ℓ)} :
    (iprop(willBeTo emb ℓ I q.left f g W₁ ∗ willBeTo emb ℓ I q.right f g W₂) : sProp 𝕄) ⊢ willBeTo emb ℓ I q f g (W₁ ∪ W₂) := by
  haveI : IsOp q q.left q.right := ⟨PosShare.mem_left_op_right q⟩
  iintro ⟨H1, H2⟩
  icombine H1 H2 as H
  iexact H

/-- A write-mode assertion is held at the pieces of its share. -/
theorem willBeTo_pieces {ℓ : Loc nD τ sig} {I : Finset (Idx ℓ)} {f : Buf Val ℓ} {g : Tgt Val ℓ} {W : Finset (Idx ℓ)} :
    ∀ (n : ℕ) (q : PosShare TreeShare), (willBeTo emb ℓ I q f g W : sProp 𝕄)
      ⊢ bigSep Finset.univ fun k : Fin (n + 1) => willBeTo emb ℓ I (piece q n k) f g W
  | 0, q => Entails.of_eq (BI.bigSep_univ_of_subsingleton (0 : Fin 1) (Φ := fun k : Fin 1 => (willBeTo emb ℓ I (piece q 0 k) f g W : sProp 𝕄))).symm
  | n + 1, q => by
    rw [bigSep_univ_succ (Ix := Ix) (Name := Name) (U := U) (Lvl := Lvl) (m := n + 1)]
    exact willBeTo_halves.trans (sep_mono_right (willBeTo_pieces n q.right))

/-- The pieces joined again: every piece's marks united. -/
theorem willBeTo_pieces_join {ℓ : Loc nD τ sig} {I : Finset (Idx ℓ)} {f : Buf Val ℓ} {g : Tgt Val ℓ} :
    ∀ (n : ℕ) (q : PosShare TreeShare) (W : Fin (n + 1) → Finset (Idx ℓ)),
      (bigSep Finset.univ fun k : Fin (n + 1) => willBeTo emb ℓ I (piece q n k) f g (W k) : sProp 𝕄)
        ⊢ willBeTo emb ℓ I q f g (Finset.univ.biUnion W)
  | 0, q, W => by
    rw [BI.bigSep_univ_of_subsingleton (0 : Fin 1)]
    have h : (Finset.univ : Finset (Fin 1)).biUnion W = W 0 := by simp
    rw [h]; exact .rfl
  | n + 1, q, W => by
    rw [bigSep_univ_succ (Ix := Ix) (Name := Name) (U := U) (Lvl := Lvl) (m := n + 1)]
    have h : (Finset.univ : Finset (Fin (n + 2))).biUnion W = W 0 ∪ (Finset.univ : Finset (Fin (n + 1))).biUnion fun k => W k.succ := by
      ext x; simp only [Finset.mem_biUnion, Finset.mem_univ, true_and, Finset.mem_union, Fin.exists_fin_succ]
    rw [h]
    exact (sep_mono_right (willBeTo_pieces_join n q.right fun k => W k.succ)).trans willBeTo_halves_join

/-- `willBeTo_pieces` at the pieces counted from `o`. -/
theorem willBeTo_piecesOf {ℓ : Loc nD τ sig} {I : Finset (Idx ℓ)} {f : Buf Val ℓ} {g : Tgt Val ℓ} {W : Finset (Idx ℓ)} {o : ℕ} (ho : 0 < o)
    (q : PosShare TreeShare) :
    (willBeTo emb ℓ I q f g W : sProp 𝕄) ⊢ bigSep Finset.univ fun k : Fin o => willBeTo emb ℓ I (pieceOf q o ho k) f g W := by
  obtain ⟨n, rfl⟩ : ∃ n, o = n + 1 := ⟨o - 1, by omega⟩
  exact willBeTo_pieces n q

/-- `willBeTo_pieces_join` at the pieces counted from `o`. -/
theorem willBeTo_piecesOf_join {ℓ : Loc nD τ sig} {I : Finset (Idx ℓ)} {f : Buf Val ℓ} {g : Tgt Val ℓ} {o : ℕ} (ho : 0 < o)
    (q : PosShare TreeShare) (W : Fin o → Finset (Idx ℓ)) :
    (bigSep Finset.univ fun k : Fin o => willBeTo emb ℓ I (pieceOf q o ho k) f g (W k) : sProp 𝕄)
      ⊢ willBeTo emb ℓ I q f g (Finset.univ.biUnion W) := by
  obtain ⟨n, rfl⟩ : ∃ n, o = n + 1 := ⟨o - 1, by omega⟩
  exact willBeTo_pieces_join n q W

/-- The pieces joined when each says only that ITS elements are marked. -/
theorem willBeTo_piecesOf_join_sub {ℓ : Loc nD τ sig} {I : Finset (Idx ℓ)} {f : Buf Val ℓ} {g : Tgt Val ℓ} {o : ℕ} (ho : 0 < o)
    (q : PosShare TreeShare) (W : Fin o → Finset (Idx ℓ)) :
    (bigSep Finset.univ fun k : Fin o => iprop(∃ W', ⌜W k ⊆ W'⌝ ∗ willBeTo emb ℓ I (pieceOf q o ho k) f g W') : sProp 𝕄)
      ⊢ iprop(∃ W', ⌜Finset.univ.biUnion W ⊆ W'⌝ ∗ willBeTo emb ℓ I q f g W') := by
  refine (bigSep_exists_pi Finset.univ (fun k (W' : Finset (Idx ℓ)) => iprop(⌜W k ⊆ W'⌝ ∗ willBeTo emb ℓ I (pieceOf q o ho k) f g W'))).trans ?_
  iintro ⟨%Ws, H⟩
  ihave H' := (BI.bigSep_pure_sep Finset.univ (fun k => W k ⊆ Ws k) (fun k => willBeTo emb ℓ I (pieceOf q o ho k) f g (Ws k))) $$ H
  icases H' with ⟨%hp, H⟩
  iexists Finset.univ.biUnion Ws
  isplitr
  · ipureintro
    exact Finset.biUnion_mono fun k hk => hp k hk
  · iapply (willBeTo_piecesOf_join ho q Ws) $$ H

end Cert.Proof.Shares
-- ==== Proof.Gather.lean ====
/-
  A gather whose rows join a batch. Each row brings its own resources: what lets it write its
  destination, its entry of the list of row numbers, a share of the source. What it delivers is
  the batch's business.
-/
module

public import Idealize.ShloMosaic.Lib.Batch
public import Idealize.ShloMosaic.Lib.SparseCore.Stream
public import Idealize.ShloMosaic.Lib.Tactic

@[expose] public section

noncomputable section

namespace Cert.Proof.Gather

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-- The first `m` of what is still to come, and the rest. -/
theorem pending_take {n : ℕ} (Φ : Fin n → sProp 𝕄) : ∀ (m k : ℕ) (h : k + m ≤ n),
    bigSep (Transfers.pending k) Φ
      ⊢ iprop(bigSep Finset.univ (fun j : Fin m => Φ ⟨k + j.val, by have := j.isLt; omega⟩) ∗ bigSep (Transfers.pending (k + m)) Φ)
  | 0, k, h => by
    rw [Finset.univ_eq_empty, BI.bigSep_empty]
    exact emp_sep.2
  | m + 1, k, h => by
    rw [Transfers.bigSep_pending_step Φ k (by omega), bigSep_univ_succ (m := m)]
    have ih := pending_take Φ m (k + 1) (by omega)
    have h1 : k + 1 + m = k + (m + 1) := by omega
    iintro ⟨H, Hr⟩
    ihave Hr := ih $$ Hr
    icases Hr with ⟨H1, H2⟩
    isplitl [H H1]
    · isplitl [H]; · iapply (Entails.of_eq (congrArg Φ (Fin.ext (show k = k + 0 by omega)))) $$ H
      iapply (Entails.of_eq (BI.bigSep_congr fun j _ => congrArg Φ (Fin.ext (show k + 1 + j.val = k + (j.val + 1) by omega)))) $$ H1
    · rw [← h1]
      iexact H2

variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- Entry `j` of the list of row numbers. -/
abbrev entry {hg : s₀.Gathers a s} (hn : si.numel = s.size hg.axis') (j : Fin (s.size hg.axis')) : si.Idx := si.rowMajor.symm (Fin.cast hn.symm j)

/-- A gather at the head of a program: its rows, each with its resources, join the batch. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q : Fin (s.size hg.axis') → PosShare TreeShare} {qo : PosShare TreeShare} {fs : Buf (Elt F) (src.view.loc c)} {fo : Buf (Elt F) (offs.view.loc c)}
    (ι : Ix) (N : ℕ) (hN : ∀ j, (dst.slice (s.rowRect hg.axis' j) (s.stride_rowRect hg.axis' j)).view.dmaCredit = N)
    (hin : ∀ x, (offs.view.read (Elt F) fo x).toNat < s₀.size hg.axis)
    {n : ℕ} {D : Fin n → sProp 𝕄} (k0 : ℕ) (hk : k0 + s.size hg.axis' ≤ n) {Rw Rw' : Fin (s.size hg.axis') → sProp 𝕄}
    (hw : ∀ j, Rw j ⊢ writeUpdate c (dst.view.slice (s.rowRect hg.axis' j))
      (fun i => src.view.read (Elt F) fs (hg.rowIdx (rows (offs.view.read (Elt F) fo) hn hin j) i)) (Rw' j))
    (hD : ∀ j : Fin (s.size hg.axis'), iprop((Rw' j ∗ (offs.view.loc c ↦[{offs.view.emb (entry hn j)}]{qo} fo)) ∗ (src.view.loc c ↦[src.view.set]{q j} fs))
      ⊢ D ⟨k0 + j.val, by have := j.isLt; omega⟩) :
    iprop(Transfers.Batch EC c (.dma sem) ι N D k0 0
        ∗ bigSep Finset.univ fun j => iprop((Rw j ∗ (offs.view.loc c ↦[{offs.view.emb (entry hn j)}]{qo} fo)) ∗ (src.view.loc c ↦[src.view.set]{q j} fs)))
      ⊢ iprop((Transfers.Batch EC c (.dma sem) ι N D (k0 + s.size hg.axis') 0 -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hNs : ∑ j, (rd j).dst.view.dmaCredit = s.size hg.axis' * N :=
    (Finset.sum_congr rfl fun j _ => hN j).trans (by rw [Finset.sum_const, Finset.card_univ, Fintype.card_fin, smul_eq_mul])
  unfold Transfers.Batch
  iintro ⟨⟨%γ, %γ₀, %κ, #Hinv, Hγ, Hu, Hcr⟩, HR⟩ Hk
  ihave Hγ := (pending_take _ (s.size hg.axis') k0 hk) $$ Hγ
  icases Hγ with ⟨Hγ, Hγ'⟩
  iapply (wp_enqueueIndirectDma 𝒱 c bd Set.univ (qo := qo) (fo := fo) (rd := rd) ι (s.size hg.axis' * N) hA hrd hNs) $$ [HR Hγ]
  · have hrow : ∀ j : Fin (s.size hg.axis'), iprop(inv κ (Transfers.batchBody EC (c, SemLoc.dma sem) N D γ γ₀)
          ∗ (((Rw j ∗ (offs.view.loc c ↦[{offs.view.emb (entry hn j)}]{qo} fo)) ∗ (src.view.loc c ↦[src.view.set]{q j} fs))
            ∗ count EC (γ ⟨k0 + j.val, by have := j.isLt; omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists q j, fs, iprop(Rw' j ∗ (offs.view.loc c ↦[{offs.view.emb (entry hn j)}]{qo} fo))
      isplitl [Hsq]; · iexact Hsq
      isplitl [Hr He]
      · iapply writeUpdate_frame
        isplitl [Hr]
        · iapply (hw j) $$ Hr
        · iexact He
      · rw [show (rd j).dst.view.amount (.dma sem) = N from hN j]
        iapply (Transfers.batch_creditUpdate EC (D := D) (γ := γ) (γ₀ := γ₀) ⟨k0 + j.val, by have := j.isLt; omega⟩ (hD j))
        isplitr; · iexact Hinv
        iexact Hγj
    unfold Stream.res
    ihave H3 := Transfers.bigSep_sep_in _ _ _ $$ [HR Hγ]; · isplitl [HR] <;> iassumption
    iapply (Transfers.bigSep_mono_pers Finset.univ _ _ _ fun j _ => hrow j)
    isplitr; · iexact Hinv
    iexact H3
  · iintro Hcred
    iapply Hk
    iexists γ, γ₀, κ
    isplitr; · iexact Hinv
    isplitl [Hγ']; · iexact Hγ'
    isplitl [Hu]; · iexact Hu
    rw [Nat.sub_zero, Nat.sub_zero, Nat.add_mul, ← tallyAt_add]
    icombine Hcr Hcred as H
    iexact H

end Cert.Proof.Gather

end
-- ==== Proof.StageLoad.lean ====
/-
  A load of a whole buffer one part of which its reader owns, while the other part may be the
  destination of copies in flight. The reader is told what it reads only on its own part; the
  other part is reached for the one step of the load and given back unchanged.
-/
module

public import Idealize.ShloMosaic.Lib.WriteMode
public import Idealize.ShloMosaic.Lib.SparseCore.Ops
public import Idealize.ShloMosaic.Lib.Tactic

@[expose] public section

noncomputable section

namespace Cert.Proof.StageLoad

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl] {Λ : Labels} {emb : UEmb (WmRA nD τ sig Val) U}
variable {defs : Defs nD τ sig Val Λ} (𝒱 : Variants)

local notation "𝕄" => MT nD τ sig Ix Val Name U Lvl

/-- The resource `R` lets its holder reach, for one step, the elements `I` of the buffer at `ℓ`. -/
def Reach (ℓ : Loc nD τ sig) (I : Finset (Idx ℓ)) (E' : Set Name) (R : sProp 𝕄) : Prop :=
  R ⊢ |={Set.univ, E'}=> (∃ cur, (ℓ ↦[I]{fullShare} cur) ∗ ((ℓ ↦[I]{fullShare} cur) -∗ |={E', Set.univ}=> R))

/-- Owned elements are reached by owning them. -/
theorem reach_own {ℓ : Loc nD τ sig} {I : Finset (Idx ℓ)} {f : Buf Val ℓ} :
    Reach (Name := Name) ℓ I Set.univ (iprop(ℓ ↦[I]{fullShare} f) : sProp 𝕄) := by
  unfold Reach
  iintro H; imodintro; iexists f
  isplitl [H]; · iexact H
  iintro H; imodintro; iexact H

/-- Elements held in write mode at some share are reached through the write-mode invariant. -/
theorem reach_willBeTo {ℓ : Loc nD τ sig} {I : Finset (Idx ℓ)} {q : PosShare TreeShare} {f : Buf Val ℓ} {g : Tgt Val ℓ}
    {W : Finset (Idx ℓ)} {ιwm : Name} :
    Reach ℓ I (Set.univ \ {ιwm}) (iprop(wmInv emb ιwm ∗ willBeTo emb ℓ I q f g W) : sProp 𝕄) := by
  unfold Reach
  iintro ⟨#Hi, H⟩
  imod (willBeTo_acc (E := Set.univ) (Set.mem_univ ιwm)) $$ [H] with ⟨%cur, %W', %hW, Hraw, %hcur, Hclose⟩
  · isplitr; · iexact Hi
    iexact H
  imodintro
  iexists cur
  isplitl [Hraw]; · iexact Hraw
  iintro Hraw
  ispecialize Hclose $$ %cur %∅
    %⟨Finset.empty_subset _, fun i h => absurd h (Finset.notMem_empty i), fun _ _ _ => rfl⟩ Hraw
  imod Hclose with Htok
  imodintro
  isplitr; · iexact Hi
  rw [Finset.union_empty]
  iexact Htok

/-- What is reached beside something else is reached still. -/
theorem reach_frame {ℓ : Loc nD τ sig} {I : Finset (Idx ℓ)} {E' : Set Name} {R R' : sProp 𝕄} (h : Reach ℓ I E' R) :
    Reach ℓ I E' (iprop(R ∗ R') : sProp 𝕄) := by
  unfold Reach at h ⊢
  iintro ⟨HR, HR'⟩
  imod h $$ HR with ⟨%cur, Hp, Hc⟩
  imodintro
  iexists cur
  isplitl [Hp]; · iexact Hp
  iintro Hp
  ihave H := Hc $$ Hp
  imod H with H
  imodintro
  isplitl [H] <;> iassumption

/-- What is reached through an equivalent resource is reached. -/
theorem reach_iff {ℓ : Loc nD τ sig} {I : Finset (Idx ℓ)} {E' : Set Name} {R R' : sProp 𝕄} (h : Reach ℓ I E' R) (h1 : R' ⊢ R) (h2 : R ⊢ R') :
    Reach ℓ I E' R' := by
  unfold Reach at h ⊢
  iintro HR'
  ihave HR := h1 $$ HR'
  imod h $$ HR with ⟨%cur, Hp, Hc⟩
  imodintro
  iexists cur
  isplitl [Hp]; · iexact Hp
  iintro Hp
  ihave H := Hc $$ Hp
  imod H with H
  imodintro
  iapply h2; iexact H

/-- A load of elements some of which are owned and the others reached through `R`: the value read agrees with the owned
    contents on the owned elements, and both come back. -/
theorem wp_load_reach (c : Thread nD τ) (bd : Option 𝒱.V) {E' : Set Name} {α : Type} {Q : α → sProp 𝕄}
    {cs : CoreSpace} {s : Shape} {e : EltTy} {m : Memref sig c.2.kind cs s e} {r : LoadRect s} {hl : m.view.LoadsAt r}
    {k : (r.shape.Idx → Val e) → Prog (TpuEff nD τ sig Val Λ c.2) α} {I J : Finset (Idx (m.view.loc c))}
    {f : Buf Val (m.view.loc c)} {R : sProp 𝕄} (hR : Reach (m.view.loc c) J E' R) (hd : Disjoint I J)
    (hS : m.view.setOn r.set ⊆ I ∪ J) :
    iprop((m.view.loc c ↦[I]{fullShare} f) ∗ R)
      ⊢ iprop((∀ cur, ⌜∀ i ∈ I, cur i = f i⌝ -∗ (m.view.loc c ↦[I]{fullShare} f) -∗ R
            -∗ wp frame (wpE defs 𝒱 c bd) Set.univ (k (m.view.readAt Val r cur)) Q)
        -∗ wp frame (wpE defs 𝒱 c bd) Set.univ (.op (.load m r hl) k) Q) := by
  classical
  unfold Reach at hR
  iintro ⟨HI, HR⟩ Hk
  imod hR $$ HR with ⟨%cur, HJ, Hclose⟩
  have hj := BI.Region.is_join (ι := (memEmb (Ix := Ix) (Val := Val) (Name := Name) (U := U) (Lvl := Lvl)).toEmb) (k := m.view.loc c) (q := fullShare) (I := I) (J := J)
    (f := f) (g := cur) hd
  imodintro
  ihave HIJ := hj $$ [HI HJ]
  · isplitl [HI] <;> iassumption
  iapply (fp_load c hS) $$ HIJ
  iintro HIJ
  ihave H2 := (BI.Region.is_union (ι := (memEmb (Ix := Ix) (Val := Val) (Name := Name) (U := U) (Lvl := Lvl)).toEmb) (k := m.view.loc c)
    (q := fullShare) (f := J.piecewise cur f) hd).1 $$ HIJ
  icases H2 with ⟨HI, HJ⟩
  ihave HI := (Entails.of_eq (BI.Region.is_congr (ι := (memEmb (Ix := Ix) (Val := Val) (Name := Name) (U := U) (Lvl := Lvl)).toEmb) (k := m.view.loc c)
    (q := fullShare) (g := f) fun i hi => Finset.piecewise_eq_of_notMem _ _ _ (Finset.disjoint_left.mp hd hi))) $$ HI
  ihave HJ := (Entails.of_eq (BI.Region.is_congr (ι := (memEmb (Ix := Ix) (Val := Val) (Name := Name) (U := U) (Lvl := Lvl)).toEmb) (k := m.view.loc c)
    (q := fullShare) (g := cur) fun i hi => Finset.piecewise_eq_of_mem _ _ _ hi)) $$ HJ
  ihave HR := Hclose $$ HJ
  imod HR with HR
  imodintro
  iapply Hk $$ %(J.piecewise cur f) %(fun i hi => Finset.piecewise_eq_of_notMem _ _ _ (Finset.disjoint_left.mp hd hi)) HI HR

end Cert.Proof.StageLoad

end
-- ==== Proof.Piece.lean ====
/-
  What one piece of a row does: with the gathered rows holding the right values under its index
  vectors, it fills the next sixteen entries of its slot of the outgoing buffer. The half of the
  gathered rows that the piece does not read may be the destination of copies in flight.
-/
module

public import proofs.«01_k».proof.Proof.Row
public import proofs.«01_k».proof.Proof.StageLoad
public import Idealize.ShloMosaic.Lib.Pipeline.Value

@[expose] public section

noncomputable section

namespace Cert.Proof.Piece

open Cert.KernelIdeal Cert.KernelIdeal.Gen
open Cert.Proof.Base Cert.Proof.Row Cert.Proof.StageLoad
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Storing sixteen right values after `N` filled entries leaves `N + 16` filled. -/
theorem filled_store {G : OBuf F} {s r c N : ℕ} {g : OBuf F} (hf : Filled G s g N) (hs : r / 128 = s) (hc : c < 8)
    (hN : N = r % 128 * 128 + 16 * c) {off : Fin 2 → ℕ} (hoff : off = ![r, 16 * c]) (inb : ∀ a, off a + S1x16.size a ≤ S256x128.size a)
    (x : Vec F S16 .f32)
    (hx : ∀ (y : S16.Idx) (e : S256x128.Idx), (e 0).val = r → (e 1).val = 16 * c + (y 0).val → x y = G e) :
    Filled G s ((obV.access (Rect.unit (s := S256x128) off S1x16.size inb)).write (Elt F) g (shapeCast S1x16 x shapeCasts_S16_S1x16) Finset.univ)
      (N + 16) := by
  subst hoff
  intro e he hlt
  by_cases hin : (e 0).val = r ∧ 16 * c ≤ (e 1).val ∧ (e 1).val < 16 * c + 16
  · obtain ⟨h0, h1, h2⟩ := hin
    let z : S1x16.Idx := fun a => match a with
      | ⟨0, _⟩ => ⟨0, Nat.one_pos⟩
      | ⟨1, _⟩ => ⟨(e 1).val - 16 * c, show (e 1).val - 16 * c < 16 by omega⟩
    have hz : (obV.access (Rect.unit (s := S256x128) ![r, 16 * c] S1x16.size inb)).emb z = e := by
      refine Shape.idx_ext₂ ?_ ?_
      · show r + 1 * 0 = (e 0).val; omega
      · show 16 * c + 1 * ((e 1).val - 16 * c) = (e 1).val; omega
    have hw := View.write_emb_of_mem (Val := Elt F) (v := obV.access (Rect.unit (s := S256x128) ![r, 16 * c] S1x16.size inb)) g
      (shapeCast S1x16 x shapeCasts_S16_S1x16) (Finset.mem_univ z)
    rw [hz] at hw
    refine hw.trans ?_
    have hcast : shapeCast S1x16 x shapeCasts_S16_S1x16 z = x (fun a => z a.succ) := shapeCast_addUnit_apply ![16] x _ z
    show shapeCast S1x16 x shapeCasts_S16_S1x16 z = G e
    rw [hcast]
    exact hx _ e h0 (show (e 1).val = 16 * c + ((e 1).val - 16 * c) by omega)
  · have hnot : e ∉ (obV.access (Rect.unit (s := S256x128) ![r, 16 * c] S1x16.size inb)).setOn Finset.univ := by
      intro hmem
      obtain ⟨z, -, hz⟩ := Finset.mem_map.mp hmem
      apply hin
      have e0 : (e 0).val = r + 1 * (z 0).val := by rw [← hz]; rfl
      have e1 : (e 1).val = 16 * c + 1 * (z 1).val := by rw [← hz]; rfl
      have z0 : (z 0).val < 1 := (z 0).isLt
      have z1 : (z 1).val < 16 := (z 1).isLt
      omega
    rw [View.write_of_not_mem (Val := Elt F) g _ Finset.univ hnot]
    refine hf e he ?_
    have e1 : (e 1).val < 128 := (e 1).isLt
    rcases Nat.lt_trichotomy (e 0).val r with h | h | h
    · omega
    · subst h; omega
    · omega

/-- The rectangle of a piece lies in its slot. -/
theorem piece_sub {r c : ℕ} {off : Fin 2 → ℕ} (hoff : off = ![r, 16 * c]) (inb : ∀ a, off a + S1x16.size a ≤ S256x128.size a) :
    (obV.access (Rect.unit (s := S256x128) off S1x16.size inb)).setOn Finset.univ ⊆ slot (r / 128) := by
  subst hoff
  intro e hmem
  obtain ⟨z, -, hz⟩ := Finset.mem_map.mp hmem
  have e0 : (e 0).val = r + 1 * (z 0).val := by rw [← hz]; rfl
  have z0 : (z 0).val < 1 := (z 0).isLt
  rw [mem_slot]; congr 1; omega

/-- What a tile holds while it fills slot `s`: half `p` of the gathered rows with contents `f`, a resource `R` that reaches
    the other half, and the slot with its first `N` entries right. -/
def Fill (d : Dev nD) (L : grid0.Coords) (p s : ℕ) (f : SBuf F) (R : sProp (MM F)) (G : OBuf F) (N : ℕ) : sProp (MM F) :=
  iprop((sgLoc d L ↦[half p]{fullShare} f) ∗ R ∗ ∃ g : OBuf F, ⌜Filled G s g N⌝ ∗ (obLoc d L ↦[slot s]{fullShare} g))

variable {d : Dev nD} {L : grid0.Coords} {p p' s : ℕ} {f : SBuf F} {R : sProp (MM F)} {E' : Set ℕ} {G : OBuf F}

/-- A piece fills sixteen entries. -/
theorem chunk_spec (hR : Reach (sgLoc d L) (half p') E' R) (hp : p + p' = 1) {v w : IVec S16 32} {dec : Decidable (InB v w)} {off : Fin 2 → ℕ}
    {inb : ∀ a, off a + S1x16.size a ≤ S256x128.size a} {r c N : ℕ} (hs : r / 128 = s) (hc : c < 8) (hN : N = r % 128 * 128 + 16 * c)
    (hoff : off = ![r, 16 * c]) (hin : InB v w)
    (hx : ∀ (y : S16.Idx) (e : S256x128.Idx), (e 0).val = r → (e 1).val = 16 * c + (y 0).val →
      idxAt ![v, w] hin y ∈ half p ∧ f (idxAt ![v, w] hin y) = G e) :
    Fill d L p s f R G N ⊢ WP d L (chunk (F := F) L v w dec off inb) fun _ => Fill d L p s f R G (N + 16) := by
  unfold Fill chunk
  iintro ⟨Hf, HR, %g, %hg, Hg⟩
  iapply (wp_assume 𝒱₀ (thr d L) none Set.univ hin)
  iapply (wp_load_reach (defs := defs₀ (F := F)) 𝒱₀ (thr d L) none (m := sgV) (r := .whole S256x256) hR (half_disjoint (by omega))
    (fun e _ => half_cover hp e)) $$ [Hf HR]
  · isplitl [Hf] <;> iassumption
  iintro %cur %hcur Hf HR
  subst hs
  iapply (wp_load_rect 𝒱₀ (thr d L) none Set.univ (m := obV) (r := Rect.unit (s := S256x128) off S1x16.size inb) (S := slot (r / 128)) (f := g) (piece_sub hoff inb)) $$ Hg
  iintro Hg
  iapply (wp_store 𝒱₀ (thr d L) none Set.univ (m := obV) (r := Rect.unit (s := S256x128) off S1x16.size inb) (Mk := Finset.univ)
    (S := slot (r / 128)) (f := g) (piece_sub hoff inb)) $$ Hg
  iintro Hg
  rw [wp_ret]; imodintro
  isplitl [Hf]; · iexact Hf
  isplitl [HR]; · iexact HR
  iexists _
  isplitr
  on_goal 2 => iexact Hg
  ipureintro
  refine filled_store hg rfl hc hN hoff inb _ fun y e h0 h1 => ?_
  obtain ⟨hm, hv⟩ := hx y e h0 h1
  rw [show sgV.view.readAt (Elt F) (LoadRect.whole S256x256) cur = cur from Memref.readAt_whole (Elt F) cc0_scratch1 cur]
  exact (hcur _ hm).trans hv

/-- A piece made of two gathers fills sixteen entries. -/
theorem chunkDiag_spec (hR : Reach (sgLoc d L) (half p') E' R) (hp : p + p' = 1) {v w v' w' : IVec S16 32} {dec : Decidable (InB v w)}
    {dec' : Decidable (InB v' w')} {off : Fin 2 → ℕ} {inb : ∀ a, off a + S1x16.size a ≤ S256x128.size a} {r c N : ℕ} (hs : r / 128 = s)
    (hc : c < 8) (hN : N = r % 128 * 128 + 16 * c) (hoff : off = ![r, 16 * c]) (hin : InB v w) (hin' : InB v' w')
    {sel : Vec F S16 .f32 → Vec F S16 .f32 → Vec F S16 .f32}
    (hm : ∀ y : S16.Idx, idxAt ![v, w] hin y ∈ half p ∧ idxAt ![v', w'] hin' y ∈ half p)
    (hx : ∀ (x x' : Vec F S16 .f32), (∀ y, x y = f (idxAt ![v, w] hin y)) → (∀ y, x' y = f (idxAt ![v', w'] hin' y)) →
      ∀ (y : S16.Idx) (e : S256x128.Idx), (e 0).val = r → (e 1).val = 16 * c + (y 0).val → sel x x' y = G e) :
    Fill d L p s f R G N ⊢ WP d L (chunkDiag (F := F) L v w v' w' dec dec' off inb sel) fun _ => Fill d L p s f R G (N + 16) := by
  unfold Fill chunkDiag
  iintro ⟨Hf, HR, %g, %hg, Hg⟩
  iapply (wp_assume 𝒱₀ (thr d L) none Set.univ hin)
  iapply (wp_load_reach (defs := defs₀ (F := F)) 𝒱₀ (thr d L) none (m := sgV) (r := .whole S256x256) hR (half_disjoint (by omega))
    (fun e _ => half_cover hp e)) $$ [Hf HR]
  · isplitl [Hf] <;> iassumption
  iintro %cur %hcur Hf HR
  iapply (wp_assume 𝒱₀ (thr d L) none Set.univ hin')
  iapply (wp_load_reach (defs := defs₀ (F := F)) 𝒱₀ (thr d L) none (m := sgV) (r := .whole S256x256) hR (half_disjoint (by omega))
    (fun e _ => half_cover hp e)) $$ [Hf HR]
  · isplitl [Hf] <;> iassumption
  iintro %cur' %hcur' Hf HR
  subst hs
  iapply (wp_load_rect 𝒱₀ (thr d L) none Set.univ (m := obV) (r := Rect.unit (s := S256x128) off S1x16.size inb) (S := slot (r / 128)) (f := g) (piece_sub hoff inb)) $$ Hg
  iintro Hg
  iapply (wp_store 𝒱₀ (thr d L) none Set.univ (m := obV) (r := Rect.unit (s := S256x128) off S1x16.size inb) (Mk := Finset.univ)
    (S := slot (r / 128)) (f := g) (piece_sub hoff inb)) $$ Hg
  iintro Hg
  rw [wp_ret]; imodintro
  isplitl [Hf]; · iexact Hf
  isplitl [HR]; · iexact HR
  iexists _
  isplitr
  on_goal 2 => iexact Hg
  ipureintro
  refine filled_store hg rfl hc hN hoff inb _ fun y e h0 h1 => ?_
  rw [show sgV.view.readAt (Elt F) (LoadRect.whole S256x256) cur = cur from Memref.readAt_whole (Elt F) cc0_scratch1 cur,
    show sgV.view.readAt (Elt F) (LoadRect.whole S256x256) cur' = cur' from Memref.readAt_whole (Elt F) cc0_scratch1 cur']
  exact hx _ _ (fun z => hcur _ (hm z).1) (fun z => hcur' _ (hm z).2) y e h0 h1

/-- Eight pieces that each fill sixteen entries fill a row. -/
theorem row8_spec {N : ℕ} {c0 c1 c2 c3 c4 c5 c6 c7 : TProg F L PUnit}
    (h0 : Fill d L p s f R G (N + 16 * 0) ⊢ WP d L c0 fun _ => Fill d L p s f R G (N + 16 * 0 + 16))
    (h1 : Fill d L p s f R G (N + 16 * 1) ⊢ WP d L c1 fun _ => Fill d L p s f R G (N + 16 * 1 + 16))
    (h2 : Fill d L p s f R G (N + 16 * 2) ⊢ WP d L c2 fun _ => Fill d L p s f R G (N + 16 * 2 + 16))
    (h3 : Fill d L p s f R G (N + 16 * 3) ⊢ WP d L c3 fun _ => Fill d L p s f R G (N + 16 * 3 + 16))
    (h4 : Fill d L p s f R G (N + 16 * 4) ⊢ WP d L c4 fun _ => Fill d L p s f R G (N + 16 * 4 + 16))
    (h5 : Fill d L p s f R G (N + 16 * 5) ⊢ WP d L c5 fun _ => Fill d L p s f R G (N + 16 * 5 + 16))
    (h6 : Fill d L p s f R G (N + 16 * 6) ⊢ WP d L c6 fun _ => Fill d L p s f R G (N + 16 * 6 + 16))
    (h7 : Fill d L p s f R G (N + 16 * 7) ⊢ WP d L c7 fun _ => Fill d L p s f R G (N + 16 * 7 + 16)) :
    Fill d L p s f R G N ⊢ WP d L (row8 c0 c1 c2 c3 c4 c5 c6 c7) fun _ => Fill d L p s f R G (N + 128) := by
  unfold row8 WP
  simp only [wp_bind]
  refine h0.trans (wp_mono _ _ _ fun _ => h1.trans (wp_mono _ _ _ fun _ => h2.trans (wp_mono _ _ _ fun _ => h3.trans (wp_mono _ _ _ fun _ =>
    h4.trans (wp_mono _ _ _ fun _ => h5.trans (wp_mono _ _ _ fun _ => h6.trans (wp_mono _ _ _ fun _ => h7.trans (wp_mono _ _ _ fun _ => ?_))))))))
  rw [wp_pure]
  iintro H; imodintro; iexact H

end Cert.Proof.Piece

end
-- ==== Proof.Vals.lean ====
/-
  The values: the packed array as rows of 128, the matrix it unpacks to, and what the gathered rows
  hold for a block.
-/
module

public import proofs.«01_k».proof.Proof.Arith
public import proofs.«01_k».proof.Proof.Piece

@[expose] public section

noncomputable section

namespace Cert.Proof.Vals

open Cert.KernelIdeal Cert.KernelIdeal.Gen
open Cert.Proof.Base Cert.Proof.Row Cert.Proof.Arith Cert.Proof.Piece Cert.Proof.StageLoad
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The packed values, as rows of 128. -/
abbrev XBuf (F : FTy → Type) : Type := S65520x128.Idx → Elt F .f32
/-- The matrix. -/
abbrev MBuf (F : FTy → Type) : Type := S4096x4096.Idx → Elt F .f32

/-- The index of element `c` of row `r`. -/
def xIdx (r c : ℕ) (hr : r < 65520) (hc : c < 128) : S65520x128.Idx := fun a => match a with
  | ⟨0, _⟩ => ⟨r, hr⟩
  | ⟨1, _⟩ => ⟨c, hc⟩

theorem xIdx_congr {r r' c c' : ℕ} {hr : r < 65520} {hr' : r' < 65520} {hc : c < 128} {hc' : c' < 128} (h : r = r') (h' : c = c') :
    xIdx r c hr hc = xIdx r' c' hr' hc' := by
  subst h h'
  rfl

/-- Element `n` of the packed array. -/
def Xat (X : XBuf F) (n : ℕ) : Elt F .f32 :=
  X (xIdx (min (n / 128) 65519) (n % 128) (by omega) (Nat.mod_lt _ (by decide)))

/-- The matrix: the packed values above the diagonal, mirrored below it, ones on it. -/
def out (X : XBuf F) (i j : ℕ) : Elt F .f32 :=
  if i < j then Xat X (pos i j) else if j < i then Xat X (pos j i) else Scalar.ofBits .f32 0x3F800000#32

/-- The matrix as the output array's contents. -/
def OUT (X : XBuf F) : MBuf F := fun e => out X (e 0).val (e 1).val

/-- What half of the gathered rows holds for the rows from `mn` and the columns from `mx`: in each row the two rows of the
    packed array that its 128 entries lie in. -/
def stagePay (X : XBuf F) (mn mx : ℕ) : SBuf F := fun e =>
  if (e 1).val < 128 then
    X (xIdx (min (rowA (mn + (e 0).val % 128) mx) 65519) ((e 1).val % 128) (by omega) (Nat.mod_lt _ (by decide)))
  else
    X (xIdx (rowA1 (mn + (e 0).val % 128) mx) ((e 1).val % 128) (rowA1_lt _ _) (Nat.mod_lt _ (by decide)))

theorem split_lo {A c P : ℕ} (h : A * 128 + c = P) (hc : c < 128) : A = P / 128 ∧ c % 128 = P % 128 := by omega

theorem split_hi {A c P : ℕ} (h : A * 128 + c = P) (hc : 128 ≤ c) (hc' : c < 256) : A + 1 = P / 128 ∧ c % 128 = P % 128 := by omega

/-- Entry `(mn + r, mx + k)` is found in row `r` at its column. -/
theorem stage_at (X : XBuf F) {mn mx r k : ℕ} (hg : mn + r < 4096) (hm : mx < 4096) (hk : k < 128)
    (hlt : mn + r < mx + k) {e : S256x256.Idx} (h0 : (e 0).val % 128 = r) (h1 : (e 1).val = colOf (mn + r) mx k) :
    stagePay X mn mx e = Xat X (pos (mn + r) (mx + k)) := by
  have hp := colOf_place (k := k) (m := mx) hg hlt
  have hc := colOf_lt (g := mn + r) (m := mx) hk
  unfold stagePay Xat
  by_cases h : (e 1).val < 128
  · rw [if_pos h]
    obtain ⟨h2, h3⟩ := split_lo hp (h1 ▸ h)
    exact congrArg X (xIdx_congr (by rw [h0, h2]) (by rw [h1, h3]))
  · rw [if_neg h]
    obtain ⟨h2, h3⟩ := split_hi hp (by rw [← h1]; exact Nat.le_of_not_lt h) hc
    exact congrArg X (xIdx_congr (by rw [h0, ← h2]; rfl) (by rw [h1, h3]))

/-! ## What the row loops fill -/

/-- The block of the matrix with corner `(i0, j0)`, laid in a slot. -/
def Block (X : XBuf F) (i0 j0 : ℕ) : OBuf F := fun e => out X (i0 + (e 0).val % 128) (j0 + (e 1).val)

/-- The lanes of a piece: lane `y` of piece `c` is column `16 c + y`. -/
def Lanes (q : Fin 8 → IVec S16 32) : Prop := ∀ c y, q c y = BitVec.ofNat 32 (16 * c.val + (y 0).val)

/-- The shifts loaded for a block with corner `(mn, mx)`. -/
def Shifts (mn mx : ℕ) (sh : Fin 8 → IVec S16 32) : Prop :=
  ∀ c y, sh c y = shW (seg (BitVec.ofNat 32 (mn + (16 * c.val + (y 0).val))) (BitVec.ofNat 32 mx))

theorem lane_lt (c : Fin 8) (y : S16.Idx) : 16 * c.val + (y 0).val < 128 := by
  have h1 : (y 0).val < 16 := (y 0).isLt
  have := c.isLt
  omega

theorem toNat_of {a : BitVec 32} {n : ℕ} (h : a = BitVec.ofNat 32 n) (hn : n < 2 ^ 32) : a.toNat = n := by
  rw [h, BitVec.toNat_ofNat, Nat.mod_eq_of_lt hn]

theorem inB_of {v w : IVec S16 32} {a b : S16.Idx → ℕ} (ha : ∀ y, v y = BitVec.ofNat 32 (a y)) (hb : ∀ y, w y = BitVec.ofNat 32 (b y))
    (ha' : ∀ y, a y < 256) (hb' : ∀ y, b y < 256) : InB v w := by
  intro x y
  match x with
  | ⟨0, _⟩ => exact (toNat_of (ha y) (by have := ha' y; omega)).trans_lt (ha' y)
  | ⟨1, _⟩ => exact (toNat_of (hb y) (by have := hb' y; omega)).trans_lt (hb' y)

theorem row_at {v w : IVec S16 32} (h : InB v w) (y : S16.Idx) {n : ℕ} (hn : v y = BitVec.ofNat 32 n) (hl : n < 256) :
    (idxAt (s := S256x256) ![v, w] h y 0).val = n := by
  show (v y).toNat = n
  exact toNat_of hn (by omega)
theorem col_at {v w : IVec S16 32} (h : InB v w) (y : S16.Idx) {n : ℕ} (hn : w y = BitVec.ofNat 32 n) (hl : n < 256) :
    (idxAt (s := S256x256) ![v, w] h y 1).val = n := by
  show (w y).toNat = n
  exact toNat_of hn (by omega)

section words
variable {q sh : Fin 8 → IVec S16 32}

theorem upV_val {p t : ℕ} (y : S16.Idx) : upV (BitVec.ofNat 32 (128 * p)) t y = BitVec.ofNat 32 (128 * p + t) := by
  show Scalar.addi _ (rv t) = _
  rw [rv_val, addi_ofNat]

theorem upW_val (hq : Lanes q) {g m : ℕ} (hg : g < 4096) (hm : m < 4096) (h : 0 < g + m) (c : Fin 8) (y : S16.Idx) :
    upW (BitVec.ofNat 32 g) (BitVec.ofNat 32 m) (q c) y = BitVec.ofNat 32 (colOf g m (16 * c.val + (y 0).val)) := by
  show Scalar.addi (Scalar.andi _ _) (q c y) = _
  rw [hq, and_add hg hm h]

theorem lowV_val (hq : Lanes q) {p : ℕ} (c : Fin 8) (y : S16.Idx) :
    lowV (BitVec.ofNat 32 (128 * p)) (q c) y = BitVec.ofNat 32 (128 * p + (16 * c.val + (y 0).val)) := by
  show Scalar.addi (BitVec.ofNat 32 (128 * p)) (q c y) = _
  rw [hq, addi_ofNat]

theorem lowW_val {mn mx t : ℕ} (hs : Shifts mn mx sh) (hmn : mn + 128 ≤ 4096) (hm : mx < 4096) (h : 0 < mx) (c : Fin 8) (y : S16.Idx) :
    lowW (sh c) t y = BitVec.ofNat 32 (colOf (mn + (16 * c.val + (y 0).val)) mx t) := by
  have := lane_lt c y
  show Scalar.addi (sh c y) (rv t) = _
  rw [hs, rv_val, shW_add (by omega) hm (by omega)]

theorem dupW_val (hq : Lanes q) {g m : ℕ} (hg : g < 4096) (hm : m < 4096) (c : Fin 8) (y : S16.Idx) :
    dupW (BitVec.ofNat 32 g) (BitVec.ofNat 32 m) (q c) y = BitVec.ofNat 32 (colOf g m (16 * c.val + (y 0).val)) := by
  show Scalar.maxsi (Scalar.addi (shW (seg _ _)) (q c y)) 0#32 = _
  rw [hq, shW_max hg hm (lane_lt c y)]

theorem dlowW_val {mn mx t : ℕ} (hs : Shifts mn mx sh) (hmn : mn + 128 ≤ 4096) (hm : mx < 4096) (ht : t < 128) (c : Fin 8) (y : S16.Idx) :
    dlowW (sh c) t y = BitVec.ofNat 32 (colOf (mn + (16 * c.val + (y 0).val)) mx t) := by
  have := lane_lt c y
  show Scalar.maxsi (Scalar.addi (sh c y) (rv t)) 0#32 = _
  rw [hs, rv_val, shW_max (by omega) hm ht]

end words

variable {d : Dev nD} {L : grid0.Coords} {p p' : ℕ} {X : XBuf F} {R : sProp (MM F)} {E' : Set ℕ}

/-- A row of an upper block: slot 0 gets row `t` of the block with corner `(mn, mx)`. -/
theorem upRow_spec (hR : Reach (sgLoc d L) (half p') E' R) (hp : p + p' = 1) {mn mx t : ℕ} (ht' : t < 128) (hmn : mn + 128 ≤ mx)
    (hmx : mx + 128 ≤ 4096) {q : Fin 8 → IVec S16 32} (hq : Lanes q) {ht : t < 256} {off : Fin 8 → Fin 2 → ℕ} {h : ∀ c, off c = ![t, 16 * c.val]}
    {b g m : BitVec 32} (hb : b = BitVec.ofNat 32 (128 * p)) (hg : g = BitVec.ofNat 32 (mn + t)) (hm : m = BitVec.ofNat 32 mx) :
    Fill d L p 0 (stagePay X mn mx) R (Block X mn mx) (128 * t)
      ⊢ WP d L (upRow (F := F) L b t ht g m q off h) fun _ => Fill d L p 0 (stagePay X mn mx) R (Block X mn mx) (128 * t + 128) := by
  subst hb hg hm
  have key : ∀ c : Fin 8, Fill d L p 0 (stagePay X mn mx) R (Block X mn mx) (128 * t + 16 * c.val)
      ⊢ WP d L (chunk (F := F) L (upV (BitVec.ofNat 32 (128 * p)) t) (upW (BitVec.ofNat 32 (mn + t)) (BitVec.ofNat 32 mx) (q c)) (inBdec _ _) (off c) (inb_of ht h c))
        fun _ => Fill d L p 0 (stagePay X mn mx) R (Block X mn mx) (128 * t + 16 * c.val + 16) := by
    intro c
    have hv := fun y => upV_val (p := p) (t := t) y
    have hw := upW_val hq (show mn + t < 4096 by omega) (show mx < 4096 by omega) (by omega) c
    have hin := inB_of hv hw (fun y => by omega) (fun y => colOf_lt (lane_lt c y))
    refine chunk_spec hR hp (r := t) (c := c.val) (by omega) c.isLt (by omega) (h c) hin fun y e h0 h1 => ?_
    have i0 := row_at hin y (hv y) (by omega)
    have i1 := col_at hin y (hw y) (colOf_lt (lane_lt c y))
    have hl := lane_lt c y
    refine ⟨mem_half.mpr (by rw [i0]; omega), ?_⟩
    rw [stage_at X (r := t) (by omega) (by omega) hl (by omega) (by rw [i0]; omega) i1]
    show _ = out X _ _
    unfold out
    rw [if_pos (by omega)]
    congr 2 <;> omega
  exact row8_spec (key 0) (key 1) (key 2) (key 3) (key 4) (key 5) (key 6) (key 7)

/-- A row of a lower block: slot 1 gets row `t` of the block with corner `(mx, mn)`. -/
theorem lowRow_spec (hR : Reach (sgLoc d L) (half p') E' R) (hp : p + p' = 1) {mn mx t : ℕ} (ht' : t < 128) (hmn : mn + 128 ≤ mx)
    (hmx : mx + 128 ≤ 4096) {q sh : Fin 8 → IVec S16 32} (hq : Lanes q) (hs : Shifts mn mx sh) {ht : t + 128 < 256} {off : Fin 8 → Fin 2 → ℕ}
    {h : ∀ c, off c = ![t + 128, 16 * c.val]} {b : BitVec 32} (hb : b = BitVec.ofNat 32 (128 * p)) :
    Fill d L p 1 (stagePay X mn mx) R (Block X mx mn) (128 * t)
      ⊢ WP d L (lowRow (F := F) L b t ht sh q off h) fun _ => Fill d L p 1 (stagePay X mn mx) R (Block X mx mn) (128 * t + 128) := by
  subst hb
  have key : ∀ c : Fin 8, Fill d L p 1 (stagePay X mn mx) R (Block X mx mn) (128 * t + 16 * c.val)
      ⊢ WP d L (chunk (F := F) L (lowV (BitVec.ofNat 32 (128 * p)) (q c)) (lowW (sh c) t) (inBdec _ _) (off c) (inb_of ht h c))
        fun _ => Fill d L p 1 (stagePay X mn mx) R (Block X mx mn) (128 * t + 16 * c.val + 16) := by
    intro c
    have hv := lowV_val hq (p := p) c
    have hw := lowW_val (t := t) hs (by omega) (by omega) (by omega) c
    have hin := inB_of hv hw (fun y => by have := lane_lt c y; omega) (fun y => colOf_lt ht')
    refine chunk_spec hR hp (r := t + 128) (c := c.val) (by omega) c.isLt (by omega) (h c) hin fun y e h0 h1 => ?_
    have hl := lane_lt c y
    have i0 := row_at hin y (hv y) (by omega)
    have i1 := col_at hin y (hw y) (colOf_lt ht')
    refine ⟨mem_half.mpr (by rw [i0]; omega), ?_⟩
    rw [stage_at X (r := 16 * c.val + (y 0).val) (by omega) (by omega) ht' (by omega) (by rw [i0]; omega) i1]
    show _ = out X _ _
    unfold out
    rw [if_neg (by omega), if_pos (by omega)]
    congr 2 <;> omega
  exact row8_spec (key 0) (key 1) (key 2) (key 3) (key 4) (key 5) (key 6) (key 7)

theorem sgt_val {a b : ℕ} (ha : a < 2 ^ 31) (hb : b < 2 ^ 31) :
    Scalar.cmpi .sgt (BitVec.ofNat 32 a) (BitVec.ofNat 32 b) = BitVec.ofBool (decide (b < a)) := by
  show BitVec.ofBool ((BitVec.ofNat 32 b).slt (BitVec.ofNat 32 a)) = _
  rw [slt_ofNat hb ha]

theorem slt_val {a b : ℕ} (ha : a < 2 ^ 31) (hb : b < 2 ^ 31) :
    Scalar.cmpi .slt (BitVec.ofNat 32 a) (BitVec.ofNat 32 b) = BitVec.ofBool (decide (a < b)) := by
  show BitVec.ofBool ((BitVec.ofNat 32 a).slt (BitVec.ofNat 32 b)) = _
  rw [slt_ofNat ha hb]

theorem select_ofBool {α : Type} (c : Prop) [Decidable c] (a b : α) : Scalar.select (BitVec.ofBool (decide c)) a b = if c then a else b := by
  unfold Scalar.select
  by_cases h : c
  · rw [if_pos h, decide_eq_true h]; rfl
  · rw [if_neg h, decide_eq_false h]; rfl

/-- The choice in a diagonal row, lane by lane. -/
theorem dsel_val {q : Fin 8 → IVec S16 32} (hq : Lanes q) {t : ℕ} (ht : t < 128) (c : Fin 8) (x x' : Vec F S16 .f32) (y : S16.Idx) :
    dsel t (q c) x x' y = if t < 16 * c.val + (y 0).val then x y
      else if 16 * c.val + (y 0).val < t then x' y else Scalar.ofBits .f32 0x3F800000#32 := by
  have hl := lane_lt c y
  show Scalar.select (Scalar.cmpi .sgt (q c y) (rv t)) (x y) (Scalar.select (Scalar.cmpi .slt (q c y) (rv t)) (x' y) _) = _
  rw [hq, rv_val, sgt_val (by omega) (by omega), slt_val (by omega) (by omega), select_ofBool, select_ofBool]
  rfl

/-- A row of a diagonal block: slot 0 gets row `t` of the block with corner `(mn, mn)`. -/
theorem diagRow_spec (hR : Reach (sgLoc d L) (half p') E' R) (hp : 0 + p' = 1) {mn t : ℕ} (ht' : t < 128)
    (hmn : mn + 128 ≤ 4096) {q sh : Fin 8 → IVec S16 32} (hq : Lanes q) (hs : Shifts mn mn sh) {ht : t < 256} {off : Fin 8 → Fin 2 → ℕ}
    {h : ∀ c, off c = ![t, 16 * c.val]} {g m : BitVec 32} (hg : g = BitVec.ofNat 32 (mn + t)) (hm : m = BitVec.ofNat 32 mn) :
    Fill d L 0 0 (stagePay X mn mn) R (Block X mn mn) (128 * t)
      ⊢ WP d L (diagRow (F := F) L t ht g m sh q off h) fun _ => Fill d L 0 0 (stagePay X mn mn) R (Block X mn mn) (128 * t + 128) := by
  subst hg hm
  have key : ∀ c : Fin 8, Fill d L 0 0 (stagePay X mn mn) R (Block X mn mn) (128 * t + 16 * c.val)
      ⊢ WP d L (chunkDiag (F := F) L (upV 0#32 t) (dupW (BitVec.ofNat 32 (mn + t)) (BitVec.ofNat 32 mn) (q c)) (lowV 0#32 (q c)) (dlowW (sh c) t)
          (inBdec _ _) (inBdec _ _) (off c) (inb_of ht h c) (dsel t (q c)))
        fun _ => Fill d L 0 0 (stagePay X mn mn) R (Block X mn mn) (128 * t + 16 * c.val + 16) := by
    intro c
    have hv : ∀ y, upV 0#32 t y = BitVec.ofNat 32 (128 * 0 + t) := fun y => upV_val (p := 0) (t := t) y
    have hw := dupW_val hq (show mn + t < 4096 by omega) (show mn < 4096 by omega) c
    have hin := inB_of hv hw (fun y => by omega) (fun y => colOf_lt (lane_lt c y))
    have hv' : ∀ y, lowV 0#32 (q c) y = BitVec.ofNat 32 (128 * 0 + (16 * c.val + (y 0).val)) := lowV_val hq (p := 0) c
    have hw' := dlowW_val (t := t) hs (by omega) (by omega) ht' c
    have hin' := inB_of hv' hw' (fun y => by have := lane_lt c y; omega) (fun y => colOf_lt ht')
    refine chunkDiag_spec hR hp (r := t) (c := c.val) (by omega) c.isLt (by omega) (h c) hin hin' (fun y => ?_) fun x x' hx hx' y e h0 h1 => ?_
    · have hl := lane_lt c y
      exact ⟨mem_half.mpr (by rw [row_at hin y (hv y) (by omega)]; omega), mem_half.mpr (by rw [row_at hin' y (hv' y) (by omega)]; omega)⟩
    · have hl := lane_lt c y
      rw [dsel_val hq ht', hx, hx']
      show _ = out X _ _
      unfold out
      by_cases h2 : t < 16 * c.val + (y 0).val
      · rw [if_pos h2, if_pos (by omega), stage_at X (r := t) (by omega) (by omega) hl (by omega)
          (by rw [row_at hin y (hv y) (by omega)]; omega) (col_at hin y (hw y) (colOf_lt hl))]
        congr 2 <;> omega
      · rw [if_neg h2, if_neg (show ¬ mn + (e 0).val % 128 < mn + (e 1).val by omega)]
        by_cases h3 : 16 * c.val + (y 0).val < t
        · rw [if_pos h3, if_pos (by omega), stage_at X (r := 16 * c.val + (y 0).val) (by omega) (by omega) ht' (by omega)
            (by rw [row_at hin' y (hv' y) (by omega)]; omega) (col_at hin' y (hw' y) (colOf_lt ht'))]
          congr 2 <;> omega
        · rw [if_neg h3, if_neg (by omega)]
  exact row8_spec (key 0) (key 1) (key 2) (key 3) (key 4) (key 5) (key 6) (key 7)

end Cert.Proof.Vals

end
-- ==== Proof.Build.lean ====
/-
  One step of preparing a gather: for sixteen rows of a block, the shift of each row's place and the
  numbers of the two rows of the packed array that hold it. This module writes the step as a short
  program, shows that each of the kernel's preparing loops runs it, and says what it fills.
-/
module

public import proofs.«01_k».proof.Proof.Vals

@[expose] public section

noncomputable section

namespace Cert.Proof.Build

open Cert.KernelIdeal Cert.KernelIdeal.Gen
open Cert.Proof.Base Cert.Proof.Row Cert.Proof.Arith Cert.Proof.Vals
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The step as a program -/

/-- The places of sixteen rows from row `16 t` of the rows from `a`, in column `b`. -/
def segs (v2 : IVec S16 32) (a b : BitVec 32) (t : ℕ) : IVec S16 32 := fun y =>
  seg (Scalar.addi (Scalar.addi a (Scalar.muli (Scf.iv 0#32 1#32 t) 16#32)) (v2 y)) b

abbrev In2 (off : Fin 2 → ℕ) : Prop := ∀ a, off a + S1x16.size a ≤ S2x128.size a
abbrev In3 (off : Fin 3 → ℕ) : Prop := ∀ a, off a + S1x1x16.size a ≤ S2x2x128.size a

/-- Sixteen rows: their shifts, and the two row numbers of each. -/
def buildStep (L : grid0.Coords) (v2 : IVec S16 32) (a b : BitVec 32) (t : ℕ) (o1 : Fin 2 → ℕ) (o2 o3 : Fin 3 → ℕ) (i1 : In2 o1) (i2 : In3 o2)
    (i3 : In3 o3) : TProg F L Unit :=
  .op (.load shV (Rect.unit (s := S2x128) o1 S1x16.size i1).toLoadRect (View.loadsAt_vmem h_S1x16)) fun _ =>
  .op (.store shV (Rect.unit (s := S2x128) o1 S1x16.size i1) (shapeCast S1x16 (fun y => shW (segs v2 a b t y) : IVec S16 32) shapeCasts_S16_S1x16)
    Finset.univ (View.stores_vmem_bits_univ h_S1x16 rfl) (.inl rfl)) fun _ =>
  .op (.load ixV (Rect.unit (s := S2x2x128) o2 S1x1x16.size i2).toLoadRect (View.loadsAt_vmem h_S1x1x16)) fun _ =>
  .op (.store ixV (Rect.unit (s := S2x2x128) o2 S1x1x16.size i2) (shapeCast S1x1x16 (fun y => aW (segs v2 a b t y) : IVec S16 32) shapeCasts_S16_S1x1x16)
    Finset.univ (View.stores_vmem_bits_univ h_S1x1x16 rfl) (.inl rfl)) fun _ =>
  .op (.load ixV (Rect.unit (s := S2x2x128) o3 S1x1x16.size i3).toLoadRect (View.loadsAt_vmem h_S1x1x16)) fun _ =>
  .op (.store ixV (Rect.unit (s := S2x2x128) o3 S1x1x16.size i3) (shapeCast S1x1x16 (fun y => a1W (segs v2 a b t y) : IVec S16 32) shapeCasts_S16_S1x1x16)
    Finset.univ (View.stores_vmem_bits_univ h_S1x1x16 rfl) (.inl rfl)) fun _ => .ret ⟨⟩

set_option maxHeartbeats 4000000 in
set_option maxRecDepth 65536 in
/-- The step of the diagonal block's loop. -/
theorem t1_eq (L : grid0.Coords) (v2 : IVec S16 32) (v19 : BitVec 32) (t : Fin k0_t1_loop.trips) (u : Unit) :
    k0_t1_body (F := F) L xV (Memref.isWhole_whole _) oV (Memref.isWhole_whole _) ixV (Memref.isWhole_whole _) sgV (Memref.isWhole_whole _)
        obV (Memref.isWhole_whole _) shV (Memref.isWhole_whole _) cc0_scratch4 cc0_scratch5 cc0_scratch6 cc0_scratch7 v2 v19 t u
      = buildStep L v2 v19 v19 t (k0_off1 t) (k0_off2 t) (k0_off3 t) (k0_off1_inb t) (k0_off2_inb t) (k0_off3_inb t) := by
  unfold k0_t1_body
  simp only [k0_part1_eq_skeleton]
  rfl

set_option maxHeartbeats 4000000 in
set_option maxRecDepth 65536 in
/-- The step of the first block's loop. -/
theorem t3_eq (L : grid0.Coords) (v2 : IVec S16 32) (v59 v78 : BitVec 32) (v80 v82 : IVec S16 32) (c v106 v107 : BitVec 32)
    (t : Fin k0_t3_loop.trips) (u : Unit) :
    k0_t3_body (F := F) L xV (Memref.isWhole_whole _) oV (Memref.isWhole_whole _) ixV (Memref.isWhole_whole _) sgV (Memref.isWhole_whole _)
        obV (Memref.isWhole_whole _) shV (Memref.isWhole_whole _) cc0_scratch4 cc0_scratch5 cc0_scratch6 cc0_scratch7 v2 v59 v78 v80 v82 c v106 v107 t u
      = buildStep L v2 v106 v107 t (k0_off13 t) (k0_off14 t) (k0_off15 t) (k0_off13_inb t) (k0_off14_inb t) (k0_off15_inb t) := by
  unfold k0_t3_body
  simp only [k0_part6_eq_skeleton]
  rfl

set_option maxHeartbeats 4000000 in
set_option maxRecDepth 65536 in
/-- The step of the second block's loop. -/
theorem t4_eq (L : grid0.Coords) (v1 : BitVec 32) (v2 v4 v6 v8 v10 v12 v14 v16 v18 : IVec S16 32) (v118 v137 : BitVec 32) (v152 : IVec S16 32)
    (v165 v166 : BitVec 32) (t : Fin k0_t4_loop.trips) (u : Unit) :
    k0_t4_body (F := F) L xV (Memref.isWhole_whole _) oV (Memref.isWhole_whole _) ixV (Memref.isWhole_whole _) sgV (Memref.isWhole_whole _)
        obV (Memref.isWhole_whole _) shV (Memref.isWhole_whole _) cc0_scratch4 cc0_scratch5 cc0_scratch6 cc0_scratch7
        v1 v2 v4 v6 v8 v10 v12 v14 v16 v18 v118 v137 v152 v165 v166 t u
      = buildStep L v2 v165 v166 t (k0_off16 t) (k0_off17 t) (k0_off18 t) (k0_off16_inb t) (k0_off17_inb t) (k0_off18_inb t) := by
  unfold k0_t4_body
  simp only [k0_part7_eq_skeleton]
  rfl

set_option maxHeartbeats 4000000 in
set_option maxRecDepth 65536 in
/-- The step of the loop that prepares the next block of the first half. -/
theorem t8_eq (L : grid0.Coords) (v1 : BitVec 32) (v2 : IVec S16 32) (k0_t5 : Fin k0_t5_loop.trips) (arg12 v236 v257 v276 : BitVec 32)
    (hw : k0_chk17 L k0_t5 v257 v276) (h2 : k0_cond2 k0_t5 = 1#1) (v480 v481 : BitVec 32) (t : Fin k0_t8_loop.trips) (u : Unit) :
    k0_t8_body (F := F) L xV (Memref.isWhole_whole _) oV (Memref.isWhole_whole _) ixV (Memref.isWhole_whole _) sgV (Memref.isWhole_whole _)
        obV (Memref.isWhole_whole _) shV (Memref.isWhole_whole _) cc0_scratch4 cc0_scratch5 cc0_scratch6 cc0_scratch7
        v1 v2 k0_t5 arg12 v236 v257 v276 hw h2 v480 v481 t u
      = buildStep L v2 v480 v481 t (k0_off38 t) (k0_off39 t) (k0_off40 t) (k0_off38_inb k0_t5 t h2) (k0_off39_inb k0_t5 t h2) (k0_off40_inb k0_t5 t h2) := by
  unfold k0_t8_body
  simp only [k0_part10_eq_skeleton]
  rfl

set_option maxHeartbeats 4000000 in
set_option maxRecDepth 65536 in
/-- The step of the loop that prepares the next block of the second half. -/
theorem t11_eq (L : grid0.Coords) (v1 : BitVec 32) (v2 v4 v6 v8 v10 v12 v14 v16 v18 : IVec S16 32) (v118 v137 : BitVec 32) (v152 : IVec S16 32)
    (k0_t5 : Fin k0_t5_loop.trips) (h3 : k0_cond3 k0_t5 = 1#1) (v480 v481 : BitVec 32) (t : Fin k0_t11_loop.trips) (u : Unit) :
    k0_t11_body (F := F) L xV (Memref.isWhole_whole _) oV (Memref.isWhole_whole _) ixV (Memref.isWhole_whole _) sgV (Memref.isWhole_whole _)
        obV (Memref.isWhole_whole _) shV (Memref.isWhole_whole _) cc0_scratch4 cc0_scratch5 cc0_scratch6 cc0_scratch7
        v1 v2 v4 v6 v8 v10 v12 v14 v16 v18 v118 v137 v152 k0_t5 h3 v480 v481 t u
      = buildStep L v2 v480 v481 t (k0_off59 t) (k0_off60 t) (k0_off61 t) (k0_off59_inb k0_t5 t h3) (k0_off60_inb k0_t5 t h3) (k0_off61_inb k0_t5 t h3) := by
  unfold k0_t11_body
  simp only [k0_part14_eq_skeleton]
  rfl

/-! ## What a step fills -/

/-- Row `p` of the row numbers, and of the shifts. -/
def irow (p : ℕ) : Finset S2x2x128.Idx := Finset.univ.filter fun e => (e 0).val = p
def srow (p : ℕ) : Finset S2x128.Idx := Finset.univ.filter fun e => (e 0).val = p

theorem mem_irow {p : ℕ} {e : S2x2x128.Idx} : e ∈ irow p ↔ (e 0).val = p := by simp [irow]
theorem mem_srow {p : ℕ} {e : S2x128.Idx} : e ∈ srow p ↔ (e 0).val = p := by simp [srow]

/-- The row numbers for the block with corner `(mn, mx)`. -/
def IX (mn mx : ℕ) : S2x2x128.Idx → BitVec 32 := fun e =>
  if (e 1).val = 0 then BitVec.ofNat 32 (rowA (mn + (e 2).val) mx) else BitVec.ofNat 32 (rowA1 (mn + (e 2).val) mx)

/-- The shifts for the block with corner `(mn, mx)`. -/
def SH (mn mx : ℕ) : S2x128.Idx → BitVec 32 := fun e =>
  shW (seg (BitVec.ofNat 32 (mn + (e 1).val)) (BitVec.ofNat 32 mx))

/-- What a tile holds while it prepares the gathers of half `p`: the shifts and row numbers of the first `N` rows are right. -/
def Prep (d : Dev nD) (L : grid0.Coords) (p mn mx N : ℕ) : sProp (MM F) :=
  iprop((∃ g : S2x128.Idx → BitVec 32, ⌜∀ e, (e 0).val = p → (e 1).val < N → g e = SH mn mx e⌝ ∗ (shLoc d L ↦[srow p]{fullShare} g))
    ∗ ∃ g : S2x2x128.Idx → BitVec 32, ⌜∀ e, (e 0).val = p → (e 2).val < N → g e = IX mn mx e⌝ ∗ (ixLoc d L ↦[irow p]{fullShare} g))

/-- The lanes' numbers. -/
def Iota (v2 : IVec S16 32) : Prop := ∀ y, v2 y = BitVec.ofNat 32 (y 0).val

theorem segs_val {v2 : IVec S16 32} (h2 : Iota v2) {mn mx t : ℕ} (y : S16.Idx) :
    segs v2 (BitVec.ofNat 32 mn) (BitVec.ofNat 32 mx) t y = seg (BitVec.ofNat 32 (mn + (16 * t + (y 0).val))) (BitVec.ofNat 32 mx) := by
  unfold segs
  rw [h2]
  congr 1
  have : Scf.iv 0#32 1#32 t = BitVec.ofNat 32 t := by
    show (0#32) + BitVec.ofNat 32 t * 1#32 = _
    rw [BitVec.mul_one, BitVec.zero_add]
  rw [this]
  have h16 : Scalar.muli (BitVec.ofNat 32 t) 16#32 = BitVec.ofNat 32 (16 * t) := by
    show BitVec.ofNat 32 t * BitVec.ofNat 32 16 = _
    rw [← BitVec.ofNat_mul, Nat.mul_comm]
  rw [h16, addi_ofNat, addi_ofNat, Nat.add_assoc]

/-- Storing sixteen shifts. -/
theorem sh_store {G : S2x128.Idx → BitVec 32} {p t : ℕ} {g : S2x128.Idx → BitVec 32} (hg : ∀ e, (e 0).val = p → (e 1).val < 16 * t → g e = G e)
    {off : Fin 2 → ℕ} (hoff : off = ![p, 16 * t]) (inb : In2 off) (x : IVec S16 32)
    (hx : ∀ (y : S16.Idx) (e : S2x128.Idx), (e 0).val = p → (e 1).val = 16 * t + (y 0).val → x y = G e) :
    ∀ e : S2x128.Idx, (e 0).val = p → (e 1).val < 16 * (t + 1) →
      (shV.access (Rect.unit (s := S2x128) off S1x16.size inb)).write (Elt F) g (shapeCast S1x16 x shapeCasts_S16_S1x16) Finset.univ e = G e := by
  subst hoff
  intro e he hlt
  by_cases hin : 16 * t ≤ (e 1).val
  · let z : S1x16.Idx := fun a => match a with
      | ⟨0, _⟩ => ⟨0, Nat.one_pos⟩
      | ⟨1, _⟩ => ⟨(e 1).val - 16 * t, show (e 1).val - 16 * t < 16 by omega⟩
    have hz : (shV.access (Rect.unit (s := S2x128) ![p, 16 * t] S1x16.size inb)).emb z = e := by
      refine Shape.idx_ext₂ ?_ ?_
      · show p + 1 * 0 = (e 0).val; omega
      · show 16 * t + 1 * ((e 1).val - 16 * t) = (e 1).val; omega
    have hw := View.write_emb_of_mem (Val := Elt F) (v := shV.access (Rect.unit (s := S2x128) ![p, 16 * t] S1x16.size inb)) g
      (shapeCast S1x16 x shapeCasts_S16_S1x16) (Finset.mem_univ z)
    rw [hz] at hw
    refine hw.trans ?_
    have hcast : shapeCast S1x16 x shapeCasts_S16_S1x16 z = x (fun a => z a.succ) := shapeCast_addUnit_apply ![16] x _ z
    show shapeCast S1x16 x shapeCasts_S16_S1x16 z = G e
    rw [hcast]
    exact hx _ e he (show (e 1).val = 16 * t + ((e 1).val - 16 * t) by omega)
  · have hnot : e ∉ (shV.access (Rect.unit (s := S2x128) ![p, 16 * t] S1x16.size inb)).setOn Finset.univ := by
      intro hmem
      obtain ⟨z, -, hz⟩ := Finset.mem_map.mp hmem
      apply hin
      have e1 : (e 1).val = 16 * t + 1 * (z 1).val := by rw [← hz]; rfl
      omega
    rw [View.write_of_not_mem (Val := Elt F) g _ Finset.univ hnot]
    exact hg e he (by omega)

/-- Lane `n`. -/
def lane (n : ℕ) (h : n < 16) : S16.Idx := fun a => match a with
  | ⟨0, _⟩ => ⟨n, h⟩

/-- Storing sixteen row numbers: the other entries stay. -/
theorem ix_store {p h t : ℕ} {g : S2x2x128.Idx → BitVec 32} {off : Fin 3 → ℕ} (hoff : off = ![p, h, 16 * t]) (inb : In3 off) (x : IVec S16 32) :
    ∀ e : S2x2x128.Idx,
      (∀ hlt : (e 0).val = p ∧ (e 1).val = h ∧ 16 * t ≤ (e 2).val ∧ (e 2).val < 16 * t + 16,
        (ixV.access (Rect.unit (s := S2x2x128) off S1x1x16.size inb)).write (Elt F) g (shapeCast S1x1x16 x shapeCasts_S16_S1x1x16) Finset.univ e
          = x (lane ((e 2).val - 16 * t) (by omega))) ∧
      (¬ ((e 0).val = p ∧ (e 1).val = h ∧ 16 * t ≤ (e 2).val ∧ (e 2).val < 16 * t + 16) →
        (ixV.access (Rect.unit (s := S2x2x128) off S1x1x16.size inb)).write (Elt F) g (shapeCast S1x1x16 x shapeCasts_S16_S1x1x16) Finset.univ e = g e) := by
  subst hoff
  intro e
  constructor
  · intro hin
    obtain ⟨h0, h1, h2, h3⟩ := hin
    let z : S1x1x16.Idx := fun a => match a with
      | ⟨0, _⟩ => ⟨0, Nat.one_pos⟩
      | ⟨1, _⟩ => ⟨0, Nat.one_pos⟩
      | ⟨2, _⟩ => ⟨(e 2).val - 16 * t, show (e 2).val - 16 * t < 16 by omega⟩
    have hz : (ixV.access (Rect.unit (s := S2x2x128) ![p, h, 16 * t] S1x1x16.size inb)).emb z = e := by
      funext a
      match a with
      | ⟨0, _⟩ => exact Fin.ext (show p + 1 * 0 = (e 0).val by omega)
      | ⟨1, _⟩ => exact Fin.ext (show h + 1 * 0 = (e 1).val by omega)
      | ⟨2, _⟩ => exact Fin.ext (show 16 * t + 1 * ((e 2).val - 16 * t) = (e 2).val by omega)
    have hw := View.write_emb_of_mem (Val := Elt F) (v := ixV.access (Rect.unit (s := S2x2x128) ![p, h, 16 * t] S1x1x16.size inb)) g
      (shapeCast S1x1x16 x shapeCasts_S16_S1x1x16) (Finset.mem_univ z)
    rw [hz] at hw
    refine hw.trans ?_
    have hcast : shapeCast S1x1x16 x shapeCasts_S16_S1x1x16 z = x (lane ((e 2).val - 16 * t) (by omega)) := by
      refine shapeCast_apply x shapeCasts_S16_S1x1x16 z (lane ((e 2).val - 16 * t) (by omega)) ?_
      rw [Shape.rowMajor_val_one, Shape.rowMajor_val_three]
      show (e 2).val - 16 * t = (0 * 1 + 0) * 16 + ((e 2).val - 16 * t)
      omega
    exact hcast
  · intro hin
    have hnot : e ∉ (ixV.access (Rect.unit (s := S2x2x128) ![p, h, 16 * t] S1x1x16.size inb)).setOn Finset.univ := by
      intro hmem
      obtain ⟨z, -, hz⟩ := Finset.mem_map.mp hmem
      apply hin
      have e0 : (e 0).val = p + 1 * (z 0).val := by rw [← hz]; rfl
      have e1 : (e 1).val = h + 1 * (z 1).val := by rw [← hz]; rfl
      have e2 : (e 2).val = 16 * t + 1 * (z 2).val := by rw [← hz]; rfl
      have z0 : (z 0).val < 1 := (z 0).isLt
      have z1 : (z 1).val < 1 := (z 1).isLt
      have z2 : (z 2).val < 16 := (z 2).isLt
      omega
    rw [View.write_of_not_mem (Val := Elt F) g _ Finset.univ hnot]

theorem lane_val {n : ℕ} (h : n < 16) : ((lane n h) 0).val = n := rfl

/-- The rectangles of a step lie in row `p`. -/
theorem sh_sub {p t : ℕ} {off : Fin 2 → ℕ} (hoff : off = ![p, 16 * t]) (inb : In2 off) :
    (shV.access (Rect.unit (s := S2x128) off S1x16.size inb)).setOn Finset.univ ⊆ srow p := by
  subst hoff
  intro e hmem
  obtain ⟨z, -, hz⟩ := Finset.mem_map.mp hmem
  have e0 : (e 0).val = p + 1 * (z 0).val := by rw [← hz]; rfl
  have z0 : (z 0).val < 1 := (z 0).isLt
  rw [mem_srow]; omega

theorem ix_sub {p h t : ℕ} {off : Fin 3 → ℕ} (hoff : off = ![p, h, 16 * t]) (inb : In3 off) :
    (ixV.access (Rect.unit (s := S2x2x128) off S1x1x16.size inb)).setOn Finset.univ ⊆ irow p := by
  subst hoff
  intro e hmem
  obtain ⟨z, -, hz⟩ := Finset.mem_map.mp hmem
  have e0 : (e 0).val = p + 1 * (z 0).val := by rw [← hz]; rfl
  have z0 : (z 0).val < 1 := (z 0).isLt
  rw [mem_irow]; omega

/-- A step prepares sixteen more rows. -/
theorem buildStep_spec {d : Dev nD} {L : grid0.Coords} {p mn mx t : ℕ} {v2 : IVec S16 32} (h2 : Iota v2) {a b : BitVec 32}
    (ha : a = BitVec.ofNat 32 mn) (hb : b = BitVec.ofNat 32 mx) (hmn : mn + 128 ≤ 4096) (hmx : mx < 4096) (ht : t < 8)
    {o1 : Fin 2 → ℕ} {o2 o3 : Fin 3 → ℕ} {i1 : In2 o1} {i2 : In3 o2} {i3 : In3 o3} (h1 : o1 = ![p, 16 * t]) (h2' : o2 = ![p, 0, 16 * t])
    (h3 : o3 = ![p, 1, 16 * t]) :
    Prep (F := F) d L p mn mx (16 * t) ⊢ WP d L (buildStep (F := F) L v2 a b t o1 o2 o3 i1 i2 i3) fun _ => Prep d L p mn mx (16 * (t + 1)) := by
  subst ha hb
  unfold Prep buildStep
  iintro ⟨⟨%g, %hg, Hg⟩, %k, %hk, Hk⟩
  iapply (wp_load_rect 𝒱₀ (thr d L) none Set.univ (m := shV) (r := Rect.unit (s := S2x128) o1 S1x16.size i1) (S := srow p) (f := g) (sh_sub h1 i1)) $$ Hg
  iintro Hg
  iapply (wp_store 𝒱₀ (thr d L) none Set.univ (m := shV) (r := Rect.unit (s := S2x128) o1 S1x16.size i1) (Mk := Finset.univ) (S := srow p) (f := g)
    (sh_sub h1 i1)) $$ Hg
  iintro Hg
  iapply (wp_load_rect 𝒱₀ (thr d L) none Set.univ (m := ixV) (r := Rect.unit (s := S2x2x128) o2 S1x1x16.size i2) (S := irow p) (f := k) (ix_sub h2' i2)) $$ Hk
  iintro Hk
  iapply (wp_store 𝒱₀ (thr d L) none Set.univ (m := ixV) (r := Rect.unit (s := S2x2x128) o2 S1x1x16.size i2) (Mk := Finset.univ) (S := irow p) (f := k)
    (ix_sub h2' i2)) $$ Hk
  iintro Hk
  iapply (wp_load_rect 𝒱₀ (thr d L) none Set.univ (m := ixV) (r := Rect.unit (s := S2x2x128) o3 S1x1x16.size i3) (S := irow p) (ix_sub h3 i3)) $$ Hk
  iintro Hk
  iapply (wp_store 𝒱₀ (thr d L) none Set.univ (m := ixV) (r := Rect.unit (s := S2x2x128) o3 S1x1x16.size i3) (Mk := Finset.univ) (S := irow p)
    (ix_sub h3 i3)) $$ Hk
  iintro Hk
  rw [wp_ret]; imodintro
  isplitl [Hg]
  · iexists _
    isplitr
    on_goal 2 => iexact Hg
    ipureintro
    refine sh_store hg h1 i1 _ fun y e h0 he => ?_
    rw [segs_val h2]
    unfold SH
    rw [he]
  · iexists _
    isplitr
    on_goal 2 => iexact Hk
    ipureintro
    intro e h0 he
    have e1 : (e 1).val < 2 := (e 1).isLt
    obtain ⟨A, B⟩ := ix_store (F := F) (g := (ixV.access (Rect.unit (s := S2x2x128) o2 S1x1x16.size i2)).write (Elt F) k
      (shapeCast S1x1x16 (fun y => aW (segs v2 (BitVec.ofNat 32 mn) (BitVec.ofNat 32 mx) t y) : IVec S16 32) shapeCasts_S16_S1x1x16) Finset.univ) h3 i3
      (fun y => a1W (segs v2 (BitVec.ofNat 32 mn) (BitVec.ofNat 32 mx) t y)) e
    obtain ⟨A', B'⟩ := ix_store (F := F) (g := k) h2' i2 (fun y => aW (segs v2 (BitVec.ofNat 32 mn) (BitVec.ofNat 32 mx) t y)) e
    by_cases c : 16 * t ≤ (e 2).val
    · by_cases c1 : (e 1).val = 1
      · refine (A ⟨h0, c1, c, by omega⟩).trans ?_
        dsimp only
        rw [segs_val h2, lane_val, a1W_seg (by omega) hmx]
        unfold IX
        rw [if_neg (by omega), show 16 * t + ((e 2).val - 16 * t) = (e 2).val by omega]
      · refine (B (by omega)).trans ((A' ⟨h0, by omega, c, by omega⟩).trans ?_)
        dsimp only
        rw [segs_val h2, lane_val, aW_seg (by omega) hmx]
        unfold IX
        rw [if_pos (by omega), show 16 * t + ((e 2).val - 16 * t) = (e 2).val by omega]
    · exact (B (by omega)).trans ((B' (by omega)).trans (hk e h0 (by omega)))

end Cert.Proof.Build

end
-- ==== Proof.Stream.lean ====
/-
  The gathers. A gather brings one 128-wide column half of a block's 128 rows: row after row, the
  row of the packed array that the row's entry of the list of row numbers names. The two gathers
  of a block signal one counter, so the 256 rows are kept as one batch. The rows travel into
  elements in write mode: the half of the share that does not travel stays with the tile, which
  reads the other half of the buffer meanwhile.
-/
module

public import proofs.«01_k».proof.Proof.Shares
public import proofs.«01_k».proof.Proof.Gather
public import proofs.«01_k».proof.Proof.Build
public import proofs.«01_k».proof.Proof.Vals

@[expose] public section

noncomputable section

namespace Cert.Proof.Stream

open Cert.KernelIdeal Cert.KernelIdeal.Gen
open Cert.Proof Cert.Proof.Base Cert.Proof.Vals Cert.Proof.Build Cert.Proof.Arith Cert.Proof.Shares
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Where a subcore's waits stand. -/
abbrev ιW : HIx 1 := (default : HIx 1)

/-- The packed array as a gather names it. -/
abbrev srcM (inb : ∀ a, (![0, 0] : Fin 2 → ℕ) a + S65520x128.size a ≤ S65520x128.size a) :
    Memref sig .scVector .hbm S65520x128 .f32 :=
  xV.slice (Rect.unit (s := S65520x128) ![0, 0] S65520x128.size inb) (fun _ => rfl)
/-- The rows a gather fills, from the corner `off` of the buffer. -/
abbrev dstM (off : Fin 2 → ℕ) (inb : ∀ a, off a + S128x128.size a ≤ S256x256.size a) :
    Memref sig .scVector .vmem S128x128 .f32 :=
  sgV.slice (Rect.unit (s := S256x256) off S128x128.size inb) (fun _ => rfl)
/-- The row numbers a gather is given. -/
abbrev ofsM (off : Fin 3 → ℕ) (inb : ∀ a, off a + S1x1x128.size a ≤ S2x2x128.size a) :
    Memref sig .scVector .vmem S128 .i32 :=
  (ixV.slice (Rect.unit (s := S2x2x128) off S1x1x128.size inb) (fun _ => rfl)).squeeze S128 squeezes_S1x1x128_S128

/-- What one row of a gather signals. -/
abbrev NR : ℕ := (sgV.slice (Rect.unit (s := S256x256) ![0, 0] (S128x128.rowShape 0).size (by decide)) (fun _ => rfl)).view.dmaCredit

/-- The elements row `t` of a block's 256 rows fills. -/
def rowSet (p t : ℕ) : Finset S256x256.Idx :=
  Finset.univ.filter fun e => (e 0).val = 128 * p + t % 128 ∧ (e 1).val / 128 = t / 128
/-- The row number that row is given. -/
def ixSet (p t : ℕ) : Finset S2x2x128.Idx :=
  Finset.univ.filter fun e => (e 0).val = p ∧ (e 1).val = t / 128 ∧ (e 2).val = t % 128

theorem mem_rowSet {p t : ℕ} {e : S256x256.Idx} : e ∈ rowSet p t ↔ (e 0).val = 128 * p + t % 128 ∧ (e 1).val / 128 = t / 128 := by
  simp [rowSet]
theorem mem_ixSet {p t : ℕ} {e : S2x2x128.Idx} : e ∈ ixSet p t ↔ (e 0).val = p ∧ (e 1).val = t / 128 ∧ (e 2).val = t % 128 := by
  simp [ixSet]

section defs
variable (d : Dev nD) (L : grid0.Coords) (X : XBuf F) (qx : PosShare TreeShare) (p mn mx : ℕ) (f0 : SBuf F)

/-- A row's part of the buffer it is gathered into, in write mode, with the marks `W`. -/
abbrev rowTok (t : Fin 256) (W : Finset S256x256.Idx) : sProp (MM F) :=
  willBeTo (wmE (F := F)) (sgLoc d L) (half p) (pieceOf fullShare.right 256 (by decide) t) f0 (fun e => some (stagePay X mn mx e)) W

/-- What a row needs: its part of the buffer, its row number, its share of the packed array. -/
def rowRes0 (t : Fin 256) : sProp (MM F) :=
  iprop((rowTok d L X p mn mx f0 t ∅ ∗ (ixLoc d L ↦[ixSet p t]{fullShare} IX mn mx))
    ∗ (xLoc d ↦[Finset.univ]{pieceOf qx 256 (by decide) t} X))
/-- What a row brings back: the same, its elements marked. -/
def rowRes1 (t : Fin 256) : sProp (MM F) :=
  iprop((rowTok d L X p mn mx f0 t (∅ ∪ rowSet p t) ∗ (ixLoc d L ↦[ixSet p t]{fullShare} IX mn mx))
    ∗ (xLoc d ↦[Finset.univ]{pieceOf qx 256 (by decide) t} X))

instance (t : Fin 256) : Storable (upEmb : UEmb _ (MM F)) (rowRes1 d L X qx p mn mx f0 t) := by
  unfold rowRes1 rowTok; infer_instance

/-- A block's gathers on their way: `n` rows issued, `u` units consumed. -/
def Fly (sm : DmaSem sig) (n u : ℕ) : sProp (MM F) :=
  iprop(∃ f0 : SBuf F, (Transfers.Batch countersEmb (thr d L) (.dma sm) ιW NR (rowRes1 d L X qx p mn mx f0) n u
      ∗ bigSep (Transfers.pending n) (rowRes0 d L X qx p mn mx f0))
    ∗ willBeTo (wmE (F := F)) (sgLoc d L) (half p) fullShare.left f0 (fun e => some (stagePay X mn mx e)) ∅)
end defs

/-! ## What a gather's rows are -/

theorem src_set (inb) : (srcM inb).view.set = Finset.univ := by
  refine Finset.eq_univ_iff_forall.mpr fun e => ?_
  refine Finset.mem_map.mpr ⟨e, Finset.mem_univ _, ?_⟩
  funext a
  refine Fin.ext ?_
  match a with
  | ⟨0, _⟩ => show 0 + 1 * (e 0).val = (e 0).val; omega
  | ⟨1, _⟩ => show 0 + 1 * (e 1).val = (e 1).val; omega

abbrev gax : Fin 2 := Shape.Gathers.axis' gathers_S65520x128_S128x128

/-- An element of row `j` of a gather's destination. -/
theorem dst_emb {p h : ℕ} (inb : ∀ a, (![128 * p, 128 * h] : Fin 2 → ℕ) a + S128x128.size a ≤ S256x256.size a) (j : Fin 128)
    (i : (S128x128.rowShape gax).Idx) :
    (((dstM ![128 * p, 128 * h] inb).view.slice (S128x128.rowRect gax j)).emb i (0 : Fin 2)).val = 128 * p + j.val
      ∧ (((dstM ![128 * p, 128 * h] inb).view.slice (S128x128.rowRect gax j)).emb i (1 : Fin 2)).val = 128 * h + (i (1 : Fin 2)).val
      ∧ (i (1 : Fin 2)).val < 128 := by
  have i0 : (i (0 : Fin 2)).val < 1 := (i (0 : Fin 2)).isLt
  have i1 : (i (1 : Fin 2)).val < 128 := (i (1 : Fin 2)).isLt
  have h0 : (((dstM ![128 * p, 128 * h] inb).view.slice (S128x128.rowRect gax j)).emb i (0 : Fin 2)).val
      = 128 * p + 1 * (j.val + 1 * (i (0 : Fin 2)).val) := rfl
  have h1 : (((dstM ![128 * p, 128 * h] inb).view.slice (S128x128.rowRect gax j)).emb i (1 : Fin 2)).val
      = 128 * h + 1 * (0 + 1 * (i (1 : Fin 2)).val) := rfl
  exact ⟨by omega, by omega, i1⟩

theorem row_set {p h : ℕ} (inb : ∀ a, (![128 * p, 128 * h] : Fin 2 → ℕ) a + S128x128.size a ≤ S256x256.size a) (j : Fin 128) :
    ((dstM ![128 * p, 128 * h] inb).view.slice (S128x128.rowRect gax j)).set = rowSet p (128 * h + j.val) := by
  have hj := j.isLt
  ext e
  rw [mem_rowSet]
  constructor
  · intro hm
    obtain ⟨i, -, hi⟩ := Finset.mem_map.mp hm
    obtain ⟨h0, h1, h2⟩ := dst_emb inb j i
    rw [hi] at h0 h1
    exact ⟨by omega, by omega⟩
  · rintro ⟨h0, h1⟩
    let i : (S128x128.rowShape gax).Idx := fun a => match a with
      | ⟨0, _⟩ => ⟨0, Nat.one_pos⟩
      | ⟨1, _⟩ => ⟨(e 1).val % 128, Nat.mod_lt _ (by decide)⟩
    refine Finset.mem_map.mpr ⟨i, Finset.mem_univ _, ?_⟩
    obtain ⟨h0', h1', -⟩ := dst_emb inb j i
    have h2 : (i (1 : Fin 2)).val = (e 1).val % 128 := rfl
    funext a
    refine Fin.ext ?_
    match a with
    | ⟨0, _⟩ => exact h0'.trans (show 128 * p + j.val = (e 0).val by omega)
    | ⟨1, _⟩ => exact h1'.trans (show 128 * h + (i (1 : Fin 2)).val = (e 1).val by omega)

theorem rowSet_sub {p t : ℕ} : rowSet p t ⊆ half p := fun e he => by
  rw [mem_half]; have := (mem_rowSet.mp he).1; have := Nat.mod_lt t (show 128 > 0 by decide); omega

/-- An entry of the list of row numbers. -/
theorem ofs_emb {p h : ℕ} (inb : ∀ a, (![p, h, 0] : Fin 3 → ℕ) a + S1x1x128.size a ≤ S2x2x128.size a) (x : S128.Idx) :
    ((ofsM ![p, h, 0] inb).view.emb x (0 : Fin 3)).val = p ∧ ((ofsM ![p, h, 0] inb).view.emb x (1 : Fin 3)).val = h
      ∧ ((ofsM ![p, h, 0] inb).view.emb x (2 : Fin 3)).val = (x 0).val := by
  let z : S1x1x128.Idx := fun a => match a with
    | ⟨0, _⟩ => ⟨0, Nat.one_pos⟩
    | ⟨1, _⟩ => ⟨0, Nat.one_pos⟩
    | ⟨2, _⟩ => x 0
  have hz : Shape.reshapeEquiv squeezes_S1x1x128_S128.numel_eq x = z := by
    refine Shape.reshapeEquiv_eq_of_rowMajor _ ?_
    rw [Shape.rowMajor_val_one, Shape.rowMajor_val_three]
    show (0 * 1 + 0) * 128 + (x 0).val = (x 0).val
    omega
  have he : (ofsM ![p, h, 0] inb).view.emb x = (Rect.unit (s := S2x2x128) ![p, h, 0] S1x1x128.size inb).emb z := by
    rw [← hz]; rfl
  rw [he]
  refine ⟨?_, ?_, ?_⟩
  · show p + 1 * 0 = p; omega
  · show h + 1 * 0 = h; omega
  · show 0 + 1 * (x 0).val = (x 0).val; omega

theorem entry_val (j : Fin 128) (hn : S128.numel = 128) : (S128.rowMajor.symm (Fin.cast hn.symm j) 0).val = j.val := by
  have := Shape.rowMajor_val_one (d := ![128]) (S128.rowMajor.symm (Fin.cast hn.symm j))
  rw [← this]
  exact congrArg Fin.val (S128.rowMajor.apply_symm_apply _)

theorem ix_set {p h : ℕ} (inb : ∀ a, (![p, h, 0] : Fin 3 → ℕ) a + S1x1x128.size a ≤ S2x2x128.size a) (x : S128.Idx) {j : ℕ} (hj : j < 128)
    (hx : (x 0).val = j) : ({(ofsM ![p, h, 0] inb).view.emb x} : Finset S2x2x128.Idx) = ixSet p (128 * h + j) := by
  obtain ⟨h0, h1, h2⟩ := ofs_emb inb x
  ext e
  rw [Finset.mem_singleton, mem_ixSet]
  constructor
  · rintro rfl
    exact ⟨h0, by omega, by omega⟩
  · rintro ⟨a0, a1, a2⟩
    funext a
    refine Fin.ext ?_
    match a with
    | ⟨0, _⟩ => exact a0.trans h0.symm
    | ⟨1, _⟩ => exact (show (e 1).val = h by omega).trans h1.symm
    | ⟨2, _⟩ => exact (show (e 2).val = (x 0).val by omega).trans h2.symm

/-- The row number read there. -/
theorem ofs_read {p h mn mx : ℕ} (inb : ∀ a, (![p, h, 0] : Fin 3 → ℕ) a + S1x1x128.size a ≤ S2x2x128.size a) (x : S128.Idx) :
    ((ofsM ![p, h, 0] inb).view.read (Elt F) (IX mn mx) x)
      = (if h = 0 then BitVec.ofNat 32 (rowA (mn + (x 0).val) mx) else BitVec.ofNat 32 (rowA1 (mn + (x 0).val) mx) : BitVec 32) := by
  obtain ⟨h0, h1, h2⟩ := ofs_emb inb x
  show IX mn mx ((ofsM ![p, h, 0] inb).view.emb x) = _
  unfold IX
  rw [h1, h2]

variable {d : Dev nD} {L : grid0.Coords} {X : XBuf F} {qx : PosShare TreeShare} {p mn mx : ℕ} {ιw : ℕ}

/-- Row `j`, column `c` of the packed array as a gather reads it. -/
theorem src_read (inb) (r : Fin 65520) (i : (S128x128.rowShape gax).Idx) :
    (srcM inb).view.read (Elt F) X (Shape.Gathers.rowIdx gathers_S65520x128_S128x128 r i)
      = X (xIdx r.val (i (1 : Fin 2)).val r.isLt (i (1 : Fin 2)).isLt) := by
  show X _ = X _
  refine congrArg X ?_
  funext a
  refine Fin.ext ?_
  match a with
  | ⟨0, _⟩ =>
    show 0 + 1 * r.val = r.val
    omega
  | ⟨1, _⟩ =>
    show 0 + 1 * (i (1 : Fin 2)).val = (i (1 : Fin 2)).val
    omega

/-- The row number an entry names. -/
theorem entry_row {h : ℕ} (inb : ∀ a, (![p, h, 0] : Fin 3 → ℕ) a + S1x1x128.size a ≤ S2x2x128.size a) (hmn : mn + 128 ≤ 4096) (hmx : mx < 4096)
    (x : S128.Idx) : ((ofsM ![p, h, 0] inb).view.read (Elt F) (IX mn mx) x).toNat
      = (if h = 0 then rowA (mn + (x 0).val) mx else rowA1 (mn + (x 0).val) mx) := by
  rw [ofs_read (F := F) inb x]
  have hx : (x 0).val < 128 := (x 0).isLt
  have h1 := rowA_lt (g := mn + (x 0).val) (m := mx) (by omega) hmx
  have h2 := rowA1_lt (mn + (x 0).val) mx
  split
  · rw [BitVec.toNat_ofNat, Nat.mod_eq_of_lt (h1.trans (by decide))]
  · rw [BitVec.toNat_ofNat, Nat.mod_eq_of_lt (h2.trans (by decide))]

/-- What the block's half holds in an element of one row. -/
theorem pay_row (X : XBuf F) {h j c : ℕ} (hh : h < 2) (hj : j < 128) (hc : c < 128) (hmn : mn + 128 ≤ 4096) (hmx : mx < 4096) {e : S256x256.Idx}
    (h0 : (e 0).val = 128 * p + j) (h1 : (e 1).val = 128 * h + c) {n : ℕ} (hn : n < 65520)
    (hr : n = if h = 0 then rowA (mn + j) mx else rowA1 (mn + j) mx) :
    stagePay X mn mx e = X (xIdx n c hn hc) := by
  have e0 : (e 0).val % 128 = j := by omega
  have e1 : (e 1).val % 128 = c := by omega
  unfold stagePay
  by_cases h' : h = 0
  · rw [if_pos h'] at hr
    rw [if_pos (by omega)]
    refine congrArg X (xIdx_congr ?_ e1)
    rw [e0, hr]
    have := rowA_lt (g := mn + j) (m := mx) (by omega) hmx
    omega
  · rw [if_neg h'] at hr
    rw [if_neg (by omega)]
    exact congrArg X (xIdx_congr (by rw [e0, hr]) e1)

/-- A gather is issued: its 128 rows join the batch. -/
theorem fire {sm : DmaSem sig} {h : ℕ} (hh : h < 2) (hmn : mn + 128 ≤ 4096) (hmx : mx < 4096)
    {α : Type} {Q : α → sProp (MM F)} {k : PUnit → TProg F L α}
    (i1) {o2 : Fin 2 → ℕ} (i2) {o3 : Fin 3 → ℕ} (i3) (ho2 : o2 = ![128 * p, 128 * h]) (ho3 : o3 = ![p, h, 0])
    {pf1 pf2 pf3 pf4 pf5 pf6} :
    iprop(wmInv (wmE (F := F)) ιw ∗ Fly d L X qx p mn mx sm (128 * h) 0)
      ⊢ iprop((Fly d L X qx p mn mx sm (128 * (h + 1)) 0 -∗ WP d L (k ⟨⟩) Q)
        -∗ WP d L (SparseCore.enqueueIndirectGather (F := F) pf1 (srcM i1) (dstM o2 i2) gathers_S65520x128_S128x128 (ofsM o3 i3) pf2 sm pf3 pf6 pf4 pf5 >>= k) Q) := by
  subst ho2 ho3
  have hin : ∀ x, ((ofsM ![p, h, 0] i3).view.read (Elt F) (IX mn mx) x).toNat < 65520 := fun x => by
    rw [entry_row (F := F) i3 hmn hmx]
    have hx : (x 0).val < 128 := (x 0).isLt
    have h1 := rowA_lt (g := mn + (x 0).val) (m := mx) (by omega) hmx
    have h2 := rowA1_lt (mn + (x 0).val) mx
    split <;> assumption
  have hentry : ∀ j : Fin 128, ((Gather.entry (hg := gathers_S65520x128_S128x128) pf2 j) 0).val = j.val := fun j => entry_val j pf2
  have hix : ∀ j : Fin 128, ({(ofsM ![p, h, 0] i3).view.emb (Gather.entry (hg := gathers_S65520x128_S128x128) pf2 j)} : Finset S2x2x128.Idx) = ixSet p (128 * h + j.val) := fun j =>
    ix_set i3 _ j.isLt (hentry j)
  have hw : ∀ (j : Fin 128) i, (srcM i1).view.read (Elt F) X (Shape.Gathers.rowIdx gathers_S65520x128_S128x128 (SparseCore.rows ((ofsM ![p, h, 0] i3).view.read (Elt F) (IX mn mx)) pf2 hin j) i)
      = stagePay X mn mx (((dstM ![128 * p, 128 * h] i2).view.slice (S128x128.rowRect gax j)).emb i) := fun j i => by
    obtain ⟨e0, e1, hc⟩ := dst_emb i2 j i
    refine (src_read i1 _ i).trans ?_
    refine (pay_row X hh j.isLt hc hmn hmx e0 e1 (Fin.isLt _) ?_).symm
    refine (entry_row (F := F) i3 hmn hmx _).trans ?_
    exact (congrArg (fun z => if h = 0 then rowA (mn + z) mx else rowA1 (mn + z) mx) (hentry j))
  have hN : ∀ j : Fin 128, ((dstM ![128 * p, 128 * h] i2).slice (S128x128.rowRect gax j) (S128x128.stride_rowRect gax j)).view.dmaCredit = NR := fun j => rfl
  have key := fun f0 => Gather.wp_gatherBatch (F := F) (defs := defs₀ (F := F)) (U := UU F) (Name := ℕ) (Lvl := ℕ) countersEmb 𝒱₀ (thr d L) none (src := srcM i1) (dst := dstM ![128 * p, 128 * h] i2) (hg := gathers_S65520x128_S128x128)
    (offs := ofsM ![p, h, 0] i3) (hn := pf2) (sem := sm) (hp := pf1) (hsrc := pf3) (he := pf6) (hsp := pf4) (hr := pf5) (k := k) (Q := Q)
    (D := rowRes1 d L X qx p mn mx f0) ιW NR hN hin (128 * h) (by show 128 * h + 128 ≤ 256; omega)
    (Rw := fun j => iprop(wmInv (wmE (F := F)) ιw ∗ rowTok d L X p mn mx f0 ⟨128 * h + j.val, by have : j.val < 128 := j.isLt; omega⟩ ∅))
    (Rw' := fun j => rowTok d L X p mn mx f0 ⟨128 * h + j.val, by have : j.val < 128 := j.isLt; omega⟩ (∅ ∪ rowSet p (128 * h + j.val)))
    (q := fun j => pieceOf qx 256 (by decide) ⟨128 * h + j.val, by have : j.val < 128 := j.isLt; omega⟩) (qo := fullShare)
    (fs := X) (fo := IX mn mx)
  have hwr : ∀ (f0 : SBuf F) (j : Fin 128), iprop(wmInv (wmE (F := F)) ιw ∗ rowTok d L X p mn mx f0 ⟨128 * h + j.val, by have : j.val < 128 := j.isLt; omega⟩ ∅)
      ⊢ writeUpdate (thr d L) ((dstM ![128 * p, 128 * h] i2).view.slice (S128x128.rowRect gax j))
        (fun i => (srcM i1).view.read (Elt F) X (Shape.Gathers.rowIdx gathers_S65520x128_S128x128 (SparseCore.rows ((ofsM ![p, h, 0] i3).view.read (Elt F) (IX mn mx)) pf2 hin j) i))
        (rowTok d L X p mn mx f0 ⟨128 * h + j.val, by have : j.val < 128 := j.isLt; omega⟩ (∅ ∪ rowSet p (128 * h + j.val))) := fun f0 j => by
    have h1 := row_set i2 j
    have h2 : ((dstM ![128 * p, 128 * h] i2).view.slice (S128x128.rowRect gax j)).set ⊆ half p := h1 ▸ rowSet_sub
    rw [← h1]
    refine willBeTo_writeUpdate (thr d L) (v := (dstM ![128 * p, 128 * h] i2).view.slice (S128x128.rowRect gax j)) h2 ?_
    intro i _ u hu
    exact (hw j i).trans (Option.some.inj hu)
  have hD : ∀ (f0 : SBuf F) (j : Fin 128), iprop((rowTok d L X p mn mx f0 ⟨128 * h + j.val, by have : j.val < 128 := j.isLt; omega⟩ (∅ ∪ rowSet p (128 * h + j.val))
        ∗ ((ofsM ![p, h, 0] i3).view.loc (thr d L) ↦[{(ofsM ![p, h, 0] i3).view.emb (Gather.entry (hg := gathers_S65520x128_S128x128) pf2 j)}]{fullShare} IX mn mx))
        ∗ ((srcM i1).view.loc (thr d L) ↦[(srcM i1).view.set]{pieceOf qx 256 (by decide) ⟨128 * h + j.val, by have : j.val < 128 := j.isLt; omega⟩} X))
      ⊢ rowRes1 d L X qx p mn mx f0 ⟨128 * h + j.val, by have : j.val < 128 := j.isLt; omega⟩ := fun f0 j => by
    unfold rowRes1
    iintro ⟨⟨H1, H2⟩, H3⟩
    isplitl [H1 H2]
    · isplitl [H1]; · iexact H1
      iapply (Entails.of_eq (congrArg (fun I => (ixLoc d L ↦[I]{fullShare} IX mn mx : sProp (MM F))) (hix j))) $$ H2
    · iapply (Entails.of_eq (congrArg (fun I => (xLoc d ↦[I]{_} X : sProp (MM F))) (src_set i1))) $$ H3
  have hin' : ∀ (f0 : SBuf F) (j : Fin 128), iprop(wmInv (wmE (F := F)) ιw ∗ rowRes0 d L X qx p mn mx f0 ⟨128 * h + j.val, by have : j.val < 128 := j.isLt; omega⟩)
      ⊢ iprop(((wmInv (wmE (F := F)) ιw ∗ rowTok d L X p mn mx f0 ⟨128 * h + j.val, by have : j.val < 128 := j.isLt; omega⟩ ∅)
        ∗ ((ofsM ![p, h, 0] i3).view.loc (thr d L) ↦[{(ofsM ![p, h, 0] i3).view.emb (Gather.entry (hg := gathers_S65520x128_S128x128) pf2 j)}]{fullShare} IX mn mx))
        ∗ ((srcM i1).view.loc (thr d L) ↦[(srcM i1).view.set]{pieceOf qx 256 (by decide) ⟨128 * h + j.val, by have : j.val < 128 := j.isLt; omega⟩} X)) := fun f0 j => by
    unfold rowRes0
    iintro ⟨H0, ⟨H1, H2⟩, H3⟩
    isplitl [H0 H1 H2]
    · isplitl [H0 H1]
      · isplitl [H0] <;> iassumption
      iapply (Entails.of_eq (congrArg (fun I => (ixLoc d L ↦[I]{fullShare} IX mn mx : sProp (MM F))) (hix j).symm)) $$ H2
    · iapply (Entails.of_eq (congrArg (fun I => (xLoc d ↦[I]{_} X : sProp (MM F))) (src_set i1).symm)) $$ H3
  unfold Fly
  iintro ⟨#Hwm, %f0, ⟨Hb, Hp⟩, Hl⟩ Hk
  ihave Hp := (Gather.pending_take _ 128 (128 * h) (by omega)) $$ Hp
  icases Hp with ⟨Hnow, Hrest⟩
  iapply (key f0 (hwr f0) (hD f0)) $$ [Hb Hnow]
  · isplitl [Hb]; · iexact Hb
    iapply (Transfers.bigSep_mono_pers Finset.univ _ _ _ fun j _ => hin' f0 j)
    isplitr; · iexact Hwm
    iexact Hnow
  · iintro Hb
    iapply Hk
    iexists f0
    isplitr [Hl]
    · isplitl [Hb]
      · iexact Hb
      · iexact Hrest
    · iexact Hl

end Cert.Proof.Stream

end
-- ==== Proof.Halves.lean ====
/-
  A half of the gathered rows over time: free, being filled, filled. Starting to fill it puts its
  elements in write mode and cuts them, their row numbers and the share of the packed array into
  the 256 rows of the two gathers; the second wait puts everything together again.
-/
module

public import proofs.«01_k».proof.Proof.Stream
public import proofs.«01_k».proof.Proof.StageLoad

@[expose] public section

noncomputable section

namespace Cert.Proof.Halves

open Cert.KernelIdeal Cert.KernelIdeal.Gen
open Cert.Proof Cert.Proof.Base Cert.Proof.Vals Cert.Proof.Build Cert.Proof.Arith Cert.Proof.Shares Cert.Proof.Stream Cert.Proof.StageLoad
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

section defs
variable (d : Dev nD) (L : grid0.Coords) (X : XBuf F) (qx : PosShare TreeShare) (p mn mx : ℕ) (sm : DmaSem sig)

/-- What goes with a half while no gather is under way: its row numbers, its share of the packed array, its counter at zero. -/
def Rest : sProp (MM F) :=
  iprop((∃ g : S2x2x128.Idx → BitVec 32, ixLoc d L ↦[irow p]{fullShare} g) ∗ (xLoc d ↦[Finset.univ]{qx} X) ∗ semVal (thr d L, .dma sm) 0)

/-- The half free. -/
def Idle : sProp (MM F) := iprop((∃ g : SBuf F, sgLoc d L ↦[half p]{fullShare} g) ∗ Rest d L X qx p sm)
/-- The half filled with the rows of the block with corner `(mn, mx)`. -/
def Ready : sProp (MM F) := iprop((sgLoc d L ↦[half p]{fullShare} stagePay X mn mx) ∗ Rest d L X qx p sm)

/-- What the subcore owes while it waits: the units of its launch, and waits at the index of its copies only. -/
def Ow (O : CellTallies nD τ sig (HIx 1)) (W : Waits sig (HIx 1)) : sProp (MM F) :=
  iprop(∃ W', ⌜∀ p ∈ W', p ∈ W ∨ p.2 = none⌝ ∗ owes (thr d L) O W')
end defs

variable {d : Dev nD} {L : grid0.Coords} {X : XBuf F} {qx : PosShare TreeShare} {p mn mx : ℕ} {ιw : ℕ} {sm : DmaSem sig}
variable {O : CellTallies nD τ sig (HIx 1)} {W : Waits sig (HIx 1)}

theorem ready_idle : Ready d L X qx p mn mx sm ⊢ Idle d L X qx p sm := by
  unfold Ready Idle
  iintro ⟨H, HR⟩
  isplitl [H]
  · iexists _; iexact H
  · iexact HR

theorem ow_insert {W' : Waits sig (HIx 1)} {sl : SemLoc sig} (h : ∀ p ∈ W', p ∈ W ∨ p.2 = none) :
    owes (thr d L) O (insert (sl, ιW) W') ⊢ Ow (F := F) d L O W := by
  unfold Ow
  iintro H
  iexists (insert (sl, ιW) W')
  isplitr
  · ipureintro
    intro q hq
    rcases Finset.mem_insert.mp hq with rfl | hq
    · exact Or.inr rfl
    · exact h q hq
  · iexact H

theorem ix_cover (p : ℕ) : (Finset.univ : Finset (Fin 256)).biUnion (fun t => ixSet p t.val) = irow p := by
  ext e
  have h1 : (e 1).val < 2 := (e 1).isLt
  have h2 : (e 2).val < 128 := (e 2).isLt
  simp only [Finset.mem_biUnion, Finset.mem_univ, true_and, mem_ixSet, mem_irow]
  constructor
  · rintro ⟨t, h, -⟩; exact h
  · intro h
    exact ⟨⟨128 * (e 1).val + (e 2).val, by omega⟩, h, by show (e 1).val = (128 * (e 1).val + (e 2).val) / 128; omega,
      by show (e 2).val = (128 * (e 1).val + (e 2).val) % 128; omega⟩

theorem ix_disj (p : ℕ) (t : Fin 256) (t' : Fin 256) (h : t ≠ t') : Disjoint (ixSet p t.val) (ixSet p t'.val) := by
  refine Finset.disjoint_left.mpr fun e h1 h2 => h (Fin.ext ?_)
  obtain ⟨-, a1, a2⟩ := mem_ixSet.mp h1
  obtain ⟨-, b1, b2⟩ := mem_ixSet.mp h2
  omega

theorem row_cover (p : ℕ) : half p ⊆ (Finset.univ : Finset (Fin 256)).biUnion (fun t => (∅ : Finset S256x256.Idx) ∪ rowSet p t.val) := by
  intro e he
  have h0 : (e 0).val < 256 := (e 0).isLt
  have h1 : (e 1).val < 256 := (e 1).isLt
  have hp := mem_half.mp he
  refine Finset.mem_biUnion.mpr ⟨⟨128 * ((e 1).val / 128) + (e 0).val % 128, by omega⟩, Finset.mem_univ _, ?_⟩
  refine Finset.mem_union_right _ (mem_rowSet.mpr ⟨?_, ?_⟩)
  · show (e 0).val = 128 * p + (128 * ((e 1).val / 128) + (e 0).val % 128) % 128; omega
  · show (e 1).val / 128 = (128 * ((e 1).val / 128) + (e 0).val % 128) / 128; omega

/-- Filling starts: nothing issued yet. -/
theorem launch : iprop(wmInv (wmE (F := F)) ιw ∗ ((∃ g : SBuf F, sgLoc d L ↦[half p]{fullShare} g)
      ∗ (∃ g : S2x2x128.Idx → BitVec 32, ⌜∀ e, (e 0).val = p → g e = IX mn mx e⌝ ∗ (ixLoc d L ↦[irow p]{fullShare} g))
      ∗ (xLoc d ↦[Finset.univ]{qx} X) ∗ semVal (thr d L, .dma sm) 0))
    ⊢ |={Set.univ}=> Fly d L X qx p mn mx sm 0 0 := by
  iintro ⟨#Hwm, ⟨%f0, Hs⟩, ⟨%g, %hg, Hi⟩, Hx, Hv⟩
  imod (pointsTo_castIn (emb := wmE (F := F)) (ιwm := ιw) (E := Set.univ) (ℓ := sgLoc d L) (fun e => some (stagePay X mn mx e)) (Set.mem_univ _)) $$ [Hs] with Hs
  · isplitr; · iexact Hwm
    iexact Hs
  ihave Hs := willBeTo_halves $$ Hs
  icases Hs with ⟨Hl, Hr⟩
  ihave Hr := (willBeTo_piecesOf (o := 256) (by decide) fullShare.right) $$ Hr
  ihave Hx := (Entails.of_eq (pointsTo_piecesOf Finset.univ X (show 0 < 256 by decide) qx)) $$ Hx
  ihave Hi := (Entails.of_eq (pointsTo_congr (g := IX mn mx) fun e he => hg e (mem_irow.mp he))) $$ Hi
  ihave Hi := (Entails.of_eq (congrArg (fun I => (ixLoc d L ↦[I]{fullShare} IX mn mx : sProp (MM F))) (ix_cover p).symm)) $$ Hi
  ihave Hi := (Entails.of_eq (pointsTo_biUnion Finset.univ _ fun t _ t' _ h => ix_disj p t t' h)) $$ Hi
  imod (Transfers.batch_alloc' countersEmb (thr d L) (sm := .dma sm) ιW NR (rowRes1 d L X qx p mn mx f0)) $$ Hv with Hb
  imodintro
  unfold Fly
  iexists f0
  isplitr [Hl]
  · isplitl [Hb]; · iexact Hb
    rw [Transfers.pending_zero]
    unfold rowRes0
    ihave H1 := Transfers.bigSep_sep_in _ _ _ $$ [Hr Hi]; · isplitl [Hr] <;> iassumption
    ihave H2 := Transfers.bigSep_sep_in _ _ _ $$ [H1 Hx]; · isplitl [H1] <;> iassumption
    iexact H2
  · iexact Hl

/-- Everything the 256 rows bring back, put together. -/
theorem landed {f0 : SBuf F} : iprop(wmInv (wmE (F := F)) ιw ∗ (bigSep Finset.univ (rowRes1 d L X qx p mn mx f0)
      ∗ willBeTo (wmE (F := F)) (sgLoc d L) (half p) fullShare.left f0 (fun e => some (stagePay X mn mx e)) ∅) ∗ semVal (thr d L, .dma sm) 0)
    ⊢ |={Set.univ}=> Ready d L X qx p mn mx sm := by
  unfold rowRes1
  iintro ⟨#Hwm, ⟨H, Hl⟩, Hv⟩
  ihave H := Transfers.bigSep_sep_out _ _ _ $$ H
  icases H with ⟨H, Hx⟩
  ihave H := Transfers.bigSep_sep_out _ _ _ $$ H
  icases H with ⟨Hr, Hi⟩
  ihave Hx := (Entails.of_eq (pointsTo_piecesOf Finset.univ X (show 0 < 256 by decide) qx).symm) $$ Hx
  ihave Hi := (Entails.of_eq (pointsTo_biUnion Finset.univ _ fun t _ t' _ h => ix_disj p t t' h).symm) $$ Hi
  ihave Hi := (Entails.of_eq (congrArg (fun I => (ixLoc d L ↦[I]{fullShare} IX mn mx : sProp (MM F))) (ix_cover p))) $$ Hi
  ihave Hr := (willBeTo_piecesOf_join (o := 256) _ fullShare.right _) $$ Hr
  ihave Hs := willBeTo_halves_join $$ [Hl Hr]
  · isplitl [Hl] <;> iassumption
  imod (willBeTo_castOut_some (E := Set.univ) (Set.mem_univ ιw)) $$ [Hs] with Hs
  · isplitr; · iexact Hwm
    iexact Hs
  imodintro
  unfold Ready Rest
  isplitl [Hs]
  · iapply (Entails.of_eq (pointsTo_congr fun e he => ?_)) $$ Hs
    exact Finset.piecewise_eq_of_mem _ _ _ (Finset.mem_union_right _ (row_cover p he))
  isplitl [Hi]
  · iexists _; iexact Hi
  isplitl [Hx] <;> iassumption

/-- What a wait for one of the two gathers consumes. -/
theorem credit_dst {off : Fin 2 → ℕ} (inb) : (dstM off inb).view.dmaCredit = 128 * NR := by
  have h : (dstM off inb).view.dmaCredit = (dstM ![0, 0] (by decide)).view.dmaCredit := rfl
  rw [h]
  decide

/-- The first wait. -/
theorem await1 {α : Type} {Q : α → sProp (MM F)} {k : PUnit → TProg F L α} {i1} {o2 : Fin 2 → ℕ} {i2} {pf1 pf2} :
    iprop(Transfers.MayWaits (thr d L) ιW O ∗ Fly d L X qx p mn mx sm 256 0 ∗ Ow d L O W)
      ⊢ iprop((Fly d L X qx p mn mx sm 256 (128 * NR) -∗ Ow d L O W -∗ WP d L (k ⟨⟩) Q)
        -∗ WP d L (SparseCore.waitIndirectGather (F := F) sm (srcM i1) (dstM o2 i2) pf1 pf2 >>= k) Q) := by
  rw [SparseCore.waitIndirectGather_bind (c := thr d L)]
  unfold Fly Ow
  iintro ⟨#Hmw, ⟨%f0, ⟨Hb, Hp⟩, Hl⟩, %W', %hW, HO⟩ Hk
  iapply (Transfers.wp_waitBatchMulO countersEmb 𝒱₀ (thr d L) none ιW 128 (credit_dst i2) (D := rowRes1 d L X qx p mn mx f0) (j := 256) (u := 0) (by omega)) $$ [Hb HO]
  · isplitl [Hb]; · iexact Hb
    isplitl [HO]; · iexact HO
    iapply (Transfers.MayWaits.elim (SemLoc.dma sm)) $$ Hmw
  iintro ⟨Hb, HO⟩
  iapply Hk $$ [Hb Hp Hl]
  · iexists f0
    isplitr [Hl]
    · isplitl [Hb]
      · rw [Nat.zero_add]; iexact Hb
      · iexact Hp
    · iexact Hl
  ihave HO := (ow_insert hW) $$ HO
  unfold Ow
  iexact HO

/-- The second wait: the half is filled. -/
theorem await2 {α : Type} {Q : α → sProp (MM F)} {k : PUnit → TProg F L α} {i1} {o2 : Fin 2 → ℕ} {i2} {pf1 pf2} :
    iprop((wmInv (wmE (F := F)) ιw ∗ Transfers.MayWaits (thr d L) ιW O) ∗ Fly d L X qx p mn mx sm 256 (128 * NR) ∗ Ow d L O W)
      ⊢ iprop((Ready d L X qx p mn mx sm -∗ Ow d L O W -∗ WP d L (k ⟨⟩) Q)
        -∗ WP d L (SparseCore.waitIndirectGather (F := F) sm (srcM i1) (dstM o2 i2) pf1 pf2 >>= k) Q) := by
  rw [SparseCore.waitIndirectGather_bind (c := thr d L)]
  unfold Fly Ow
  iintro ⟨⟨#Hwm, #Hmw⟩, ⟨%f0, ⟨Hb, Hp⟩, Hl⟩, %W', %hW, HO⟩ Hk
  iapply (Transfers.wp_waitBatchAllO countersEmb 𝒱₀ (thr d L) none ιW (credit_dst i2) (show 0 < NR by decide) (D := rowRes1 d L X qx p mn mx f0) (u := 128 * NR) (by omega)) $$ [Hb HO]
  · isplitl [Hb]; · iexact Hb
    isplitl [HO]; · iexact HO
    iapply (Transfers.MayWaits.elim (SemLoc.dma sm)) $$ Hmw
  iintro ⟨HD, Hv, HO⟩
  imod landed $$ [HD Hl Hv] with H
  · isplitr; · iexact Hwm
    isplitl [HD Hl]
    · isplitl [HD] <;> iassumption
    · iexact Hv
  iapply Hk $$ H
  ihave HO := (ow_insert hW) $$ HO
  unfold Ow
  iexact HO

end Cert.Proof.Halves

end
-- ==== Proof.Loops.lean ====
/-
  The loops of a tile other than the one over its units: filling a block row by row, preparing the
  row numbers and shifts of a half, and reading the shifts back. Each is stated for a program that
  goes on after it.
-/
module

public import proofs.«01_k».proof.Proof.Halves
public import proofs.«01_k».proof.Proof.Vals
public import proofs.«01_k».proof.Proof.Build

@[expose] public section

noncomputable section

namespace Cert.Proof.Loops

open Cert.KernelIdeal Cert.KernelIdeal.Gen
open Cert.Proof Cert.Proof.Base Cert.Proof.Vals Cert.Proof.Build Cert.Proof.Row Cert.Proof.Piece Cert.Proof.Arith Cert.Proof.StageLoad Cert.Proof.Halves Cert.Proof.Stream
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {d : Dev nD} {L : grid0.Coords} {X : XBuf F} {qx : PosShare TreeShare} {α : Type} {Q : α → sProp (MM F)}

/-- A loop over an invariant. -/
theorem run_loop {l : Scf.Loop 32} {hok : l.OK} {body : Fin l.trips → Unit → TProg F L Unit} (I : ℕ → sProp (MM F)) {n : ℕ} (hn : l.trips = n)
    (hbody : ∀ t u, I t.val ⊢ WP d L (body t u) fun _ => I (t.val + 1)) {kk : Unit → TProg F L α} :
    I 0 ⊢ iprop((I n -∗ WP d L (kk ⟨⟩) Q) -∗ WP d L (Scf.Loop.for l hok ⟨⟩ body >>= kk) Q) := by
  subst hn
  iintro HI Hk
  iapply (Scf.wp_for_bind frame (wpE (defs₀ (F := F)) 𝒱₀ (thr d L) none) Set.univ l.lb l.ub l.st hok ⟨⟩ body (fun n _ => I n) hbody) $$ HI
  iintro %acc HI
  iapply Hk $$ HI

/-- The half that is being read is owned; the other one is reached, whatever its state. -/
theorem reach_fly {p mn mx n u ιw : ℕ} {sm : DmaSem sig} :
    Reach (sgLoc d L) (half p) (Set.univ \ {ιw}) (iprop(wmInv (wmE (F := F)) ιw ∗ Fly d L X qx p mn mx sm n u) : sProp (MM F)) := by
  unfold Fly Reach
  iintro ⟨#Hwm, %f0, Hb, Hl⟩
  have h := reach_willBeTo (Ix := HIx 1) (Val := Elt F) (Lvl := ℕ) (emb := wmE (F := F)) (ιwm := ιw) (ℓ := sgLoc d L) (I := half p) (q := fullShare.left) (f := f0)
    (g := fun e => some (stagePay X mn mx e)) (W := ∅)
  unfold Reach at h
  imod h $$ [Hl] with ⟨%cur, Hp, Hc⟩
  · isplitr; · iexact Hwm
    iexact Hl
  imodintro
  iexists cur
  isplitl [Hp]; · iexact Hp
  iintro Hp
  ihave H := Hc $$ Hp
  imod H with ⟨-, Hl⟩
  imodintro
  isplitr; · iexact Hwm
  iexists f0
  isplitl [Hb] <;> iassumption

theorem reach_idle {p ιw : ℕ} {sm : DmaSem sig} :
    Reach (sgLoc d L) (half p) Set.univ (iprop(wmInv (wmE (F := F)) ιw ∗ Idle d L X qx p sm) : sProp (MM F)) := by
  unfold Idle Reach
  iintro ⟨#Hwm, ⟨%g, Hg⟩, HR⟩
  imodintro
  iexists g
  isplitl [Hg]; · iexact Hg
  iintro Hg; imodintro
  isplitr; · iexact Hwm
  isplitl [Hg]
  · iexists g; iexact Hg
  · iexact HR

variable {p p' mn mx : ℕ} {R : sProp (MM F)} {E' : Set ℕ}

/-- A block's filling, from the gathered rows and any contents of the slot, to the slot full. -/
def Full (d : Dev nD) (L : grid0.Coords) (X : XBuf F) (p s mn mx i0 j0 : ℕ) (R : sProp (MM F)) : sProp (MM F) :=
  Fill d L p s (stagePay X mn mx) R (Block X i0 j0) (128 * 128)

theorem fill_start {s : ℕ} {f : SBuf F} {G : OBuf F} :
    iprop((sgLoc d L ↦[half p]{fullShare} f) ∗ R ∗ ∃ g : OBuf F, obLoc d L ↦[slot s]{fullShare} g) ⊢ Fill d L p s f R G 0 := by
  unfold Fill
  iintro ⟨H1, H2, %g, H3⟩
  isplitl [H1]; · iexact H1
  isplitl [H2]; · iexact H2
  iexists g
  isplitr
  · ipureintro; exact filled_zero _ _ _
  · iexact H3

theorem rv_add {mn t : ℕ} : Scalar.addi (BitVec.ofNat 32 mn) (rv t) = BitVec.ofNat 32 (mn + t) := by
  rw [rv_val, addi_ofNat]

/-- Filling an upper block. -/
theorem upLoop (hR : Reach (sgLoc d L) (half p') E' R) (hp : p + p' = 1) (hmn : mn + 128 ≤ mx) (hmx : mx + 128 ≤ 4096)
    {q : Fin 8 → IVec S16 32} (hq : Lanes q) {b g m : BitVec 32} (hb : b = BitVec.ofNat 32 (128 * p)) (hg : g = BitVec.ofNat 32 mn)
    (hm : m = BitVec.ofNat 32 mx) {l : Scf.Loop 32} {hok : l.OK} {body : Fin l.trips → Unit → TProg F L Unit} (hl : l.trips = 128)
    {offs : Fin l.trips → Fin 8 → Fin 2 → ℕ} (ht : ∀ t : Fin l.trips, t.val < 256) (hoff : ∀ t c, offs t c = ![t.val, 16 * c.val])
    (hbody : ∀ t u, body t u = upRow L b t.val (ht t) (Scalar.addi g (rv t.val)) m q (offs t) (hoff t)) {kk : Unit → TProg F L α} :
    iprop((sgLoc d L ↦[half p]{fullShare} stagePay X mn mx) ∗ R ∗ ∃ g : OBuf F, obLoc d L ↦[slot 0]{fullShare} g)
      ⊢ iprop((Full d L X p 0 mn mx mn mx R -∗ WP d L (kk ⟨⟩) Q) -∗ WP d L (Scf.Loop.for l hok ⟨⟩ body >>= kk) Q) := by
  iintro H Hk
  ihave H := (fill_start (G := Block X mn mx)) $$ H
  iapply (run_loop (fun n => Fill d L p 0 (stagePay X mn mx) R (Block X mn mx) (128 * n)) hl fun t u => ?_) $$ H
  · rw [hbody]
    exact upRow_spec hR hp (hl ▸ t.isLt) hmn hmx hq hb (hg ▸ rv_add) hm
  · iexact Hk

/-- Filling a lower block. -/
theorem lowLoop (hR : Reach (sgLoc d L) (half p') E' R) (hp : p + p' = 1) (hmn : mn + 128 ≤ mx) (hmx : mx + 128 ≤ 4096)
    {q sh : Fin 8 → IVec S16 32} (hq : Lanes q) (hs : Shifts mn mx sh) {b : BitVec 32} (hb : b = BitVec.ofNat 32 (128 * p))
    {l : Scf.Loop 32} {hok : l.OK} {body : Fin l.trips → Unit → TProg F L Unit} (hl : l.trips = 128)
    {offs : Fin l.trips → Fin 8 → Fin 2 → ℕ} (ht : ∀ t : Fin l.trips, t.val + 128 < 256) (hoff : ∀ t c, offs t c = ![t.val + 128, 16 * c.val])
    (hbody : ∀ t u, body t u = lowRow L b t.val (ht t) sh q (offs t) (hoff t)) {kk : Unit → TProg F L α} :
    iprop((sgLoc d L ↦[half p]{fullShare} stagePay X mn mx) ∗ R ∗ ∃ g : OBuf F, obLoc d L ↦[slot 1]{fullShare} g)
      ⊢ iprop((Full d L X p 1 mn mx mx mn R -∗ WP d L (kk ⟨⟩) Q) -∗ WP d L (Scf.Loop.for l hok ⟨⟩ body >>= kk) Q) := by
  iintro H Hk
  ihave H := (fill_start (G := Block X mx mn)) $$ H
  iapply (run_loop (fun n => Fill d L p 1 (stagePay X mn mx) R (Block X mx mn) (128 * n)) hl fun t u => ?_) $$ H
  · rw [hbody]
    exact lowRow_spec hR hp (hl ▸ t.isLt) hmn hmx hq hs hb
  · iexact Hk

/-- Filling the diagonal block. -/
theorem diagLoop (hR : Reach (sgLoc d L) (half p') E' R) (hp : 0 + p' = 1) (hmn : mn + 128 ≤ 4096)
    {q sh : Fin 8 → IVec S16 32} (hq : Lanes q) (hs : Shifts mn mn sh) {g : BitVec 32} (hg : g = BitVec.ofNat 32 mn)
    {l : Scf.Loop 32} {hok : l.OK} {body : Fin l.trips → Unit → TProg F L Unit} (hl : l.trips = 128)
    {offs : Fin l.trips → Fin 8 → Fin 2 → ℕ} (ht : ∀ t : Fin l.trips, t.val < 256) (hoff : ∀ t c, offs t c = ![t.val, 16 * c.val])
    (hbody : ∀ t u, body t u = diagRow L t.val (ht t) (Scalar.addi g (rv t.val)) g sh q (offs t) (hoff t)) {kk : Unit → TProg F L α} :
    iprop((sgLoc d L ↦[half 0]{fullShare} stagePay X mn mn) ∗ R ∗ ∃ g : OBuf F, obLoc d L ↦[slot 0]{fullShare} g)
      ⊢ iprop((Full d L X 0 0 mn mn mn mn R -∗ WP d L (kk ⟨⟩) Q) -∗ WP d L (Scf.Loop.for l hok ⟨⟩ body >>= kk) Q) := by
  iintro H Hk
  ihave H := (fill_start (G := Block X mn mn)) $$ H
  iapply (run_loop (fun n => Fill d L 0 0 (stagePay X mn mn) R (Block X mn mn) (128 * n)) hl fun t u => ?_) $$ H
  · rw [hbody]
    exact diagRow_spec hR hp (hl ▸ t.isLt) hmn hq hs (hg ▸ rv_add) hg
  · iexact Hk

/-- The row numbers and shifts of a half, free to be overwritten. -/
def Lists (d : Dev nD) (L : grid0.Coords) (p : ℕ) : sProp (MM F) :=
  iprop((∃ g : S2x128.Idx → BitVec 32, shLoc d L ↦[srow p]{fullShare} g) ∗ ∃ g : S2x2x128.Idx → BitVec 32, ixLoc d L ↦[irow p]{fullShare} g)

theorem prep_start : Lists (F := F) d L p ⊢ Prep d L p mn mx 0 := by
  unfold Lists Prep
  iintro ⟨⟨%g, Hg⟩, %k, Hk⟩
  isplitl [Hg]
  · iexists g
    isplitr
    · ipureintro; exact fun e _ h => absurd h (Nat.not_lt_zero _)
    · iexact Hg
  · iexists k
    isplitr
    · ipureintro; exact fun e _ h => absurd h (Nat.not_lt_zero _)
    · iexact Hk

/-- Preparing a half. -/
theorem buildLoop {v2 : IVec S16 32} (h2 : Iota v2) {a b : BitVec 32} (ha : a = BitVec.ofNat 32 mn) (hb : b = BitVec.ofNat 32 mx)
    (hmn : mn + 128 ≤ 4096) (hmx : mx < 4096) {l : Scf.Loop 32} {hok : l.OK} {body : Fin l.trips → Unit → TProg F L Unit} (hl : l.trips = 8)
    {o1 : Fin l.trips → Fin 2 → ℕ} {o2 o3 : Fin l.trips → Fin 3 → ℕ} {i1 : ∀ t, In2 (o1 t)} {i2 : ∀ t, In3 (o2 t)} {i3 : ∀ t, In3 (o3 t)}
    (h1 : ∀ t, o1 t = ![p, 16 * t.val]) (h2' : ∀ t, o2 t = ![p, 0, 16 * t.val]) (h3 : ∀ t, o3 t = ![p, 1, 16 * t.val])
    (hbody : ∀ t u, body t u = buildStep L v2 a b t.val (o1 t) (o2 t) (o3 t) (i1 t) (i2 t) (i3 t)) {kk : Unit → TProg F L α} :
    Lists (F := F) d L p
      ⊢ iprop((Prep d L p mn mx 128 -∗ WP d L (kk ⟨⟩) Q) -∗ WP d L (Scf.Loop.for l hok ⟨⟩ body >>= kk) Q) := by
  iintro H Hk
  ihave H := (prep_start (mn := mn) (mx := mx)) $$ H
  iapply (run_loop (fun n => Prep d L p mn mx (16 * n)) hl fun t u => ?_) $$ H
  · rw [hbody]
    exact buildStep_spec h2 ha hb hmn hmx (hl ▸ t.isLt) (h1 t) (h2' t) (h3 t)
  · iexact Hk

/-- The shifts of a half, prepared. -/
def ShRow (d : Dev nD) (L : grid0.Coords) (p mn mx : ℕ) : sProp (MM F) :=
  iprop(∃ g : S2x128.Idx → BitVec 32, ⌜∀ e, (e 0).val = p → g e = SH mn mx e⌝ ∗ (shLoc d L ↦[srow p]{fullShare} g))

theorem prep_done : Prep (F := F) d L p mn mx 128
    ⊢ iprop(ShRow d L p mn mx ∗ ∃ g : S2x2x128.Idx → BitVec 32, ⌜∀ e, (e 0).val = p → g e = IX mn mx e⌝ ∗ (ixLoc d L ↦[irow p]{fullShare} g)) := by
  unfold Prep ShRow
  iintro ⟨⟨%g, %hg, Hg⟩, %k, %hk, Hk⟩
  isplitl [Hg]
  · iexists g
    isplitr
    · ipureintro; exact fun e h => hg e h (e 1).isLt
    · iexact Hg
  · iexists k
    isplitr
    · ipureintro; exact fun e h => hk e h (e 2).isLt
    · iexact Hk

/-- Sixteen shifts as loaded. -/
def Shift16 (mn mx c : ℕ) (w : Vec F S1x16 .i32) : Prop :=
  ∀ y, (shapeCast S16 w shapeCasts_S1x16_S16 : IVec S16 32) y = shW (seg (BitVec.ofNat 32 (mn + (16 * c + (y 0).val))) (BitVec.ofNat 32 mx))

/-- Reading sixteen of a half's shifts. -/
theorem shiftLoad {off : Fin 2 → ℕ} {inb : In2 off} {pf} (c : ℕ) (hoff : off = ![p, 16 * c]) {k : Vec F S1x16 .i32 → TProg F L α} :
    ShRow (F := F) d L p mn mx
      ⊢ iprop((∀ w, ⌜Shift16 mn mx c w⌝ -∗ ShRow d L p mn mx -∗ WP d L (k w) Q)
        -∗ WP d L (.op (.load shV (Rect.unit (s := S2x128) off S1x16.size inb).toLoadRect pf) k) Q) := by
  unfold ShRow
  iintro ⟨%g, %hg, Hg⟩ Hk
  iapply (wp_load_rect 𝒱₀ (thr d L) none Set.univ (m := shV) (r := Rect.unit (s := S2x128) off S1x16.size inb) (S := srow p) (f := g)
    (sh_sub hoff inb)) $$ Hg
  iintro Hg
  iapply Hk
  · ipureintro
    subst hoff
    intro y
    have hcast : shapeCast S16 ((shV.access (Rect.unit (s := S2x128) ![p, 16 * c] S1x16.size inb)).read (Elt F) g) shapeCasts_S1x16_S16 y
        = (shV.access (Rect.unit (s := S2x128) ![p, 16 * c] S1x16.size inb)).read (Elt F) g (fun a => match a with
          | ⟨0, _⟩ => ⟨0, Nat.one_pos⟩
          | ⟨1, _⟩ => ⟨(y 0).val, (y 0).isLt⟩) := by
      refine shapeCast_apply _ _ _ _ ?_
      rw [Shape.rowMajor_val_one, Shape.rowMajor_val_two]
      show 0 * 16 + (y 0).val = (y 0).val
      omega
    refine hcast.trans ((hg _ (show p + 1 * 0 = p by omega)).trans ?_)
    unfold SH
    have e : ((shV.access (Rect.unit (s := S2x128) ![p, 16 * c] S1x16.size inb)).emb (fun a => match a with
          | ⟨0, _⟩ => ⟨0, Nat.one_pos⟩
          | ⟨1, _⟩ => ⟨(y 0).val, (y 0).isLt⟩) (1 : Fin 2)).val = 16 * c + (y 0).val := by
      show 16 * c + 1 * (y 0).val = _; omega
    rw [e]
  · iexists g
    isplitr
    · ipureintro; exact hg
    · iexact Hg

/-- All eight. -/
theorem shifts_of {w0 w1 w2 w3 w4 w5 w6 w7 : Vec F S1x16 .i32} {s0 s1 s2 s3 s4 s5 s6 s7 : Vec F S16 .i32}
    (h0 : Shift16 mn mx 0 w0) (h1 : Shift16 mn mx 1 w1) (h2 : Shift16 mn mx 2 w2) (h3 : Shift16 mn mx 3 w3)
    (h4 : Shift16 mn mx 4 w4) (h5 : Shift16 mn mx 5 w5) (h6 : Shift16 mn mx 6 w6) (h7 : Shift16 mn mx 7 w7)
    (e0 : s0 = shapeCast S16 w0 shapeCasts_S1x16_S16) (e1 : s1 = shapeCast S16 w1 shapeCasts_S1x16_S16)
    (e2 : s2 = shapeCast S16 w2 shapeCasts_S1x16_S16) (e3 : s3 = shapeCast S16 w3 shapeCasts_S1x16_S16)
    (e4 : s4 = shapeCast S16 w4 shapeCasts_S1x16_S16) (e5 : s5 = shapeCast S16 w5 shapeCasts_S1x16_S16)
    (e6 : s6 = shapeCast S16 w6 shapeCasts_S1x16_S16) (e7 : s7 = shapeCast S16 w7 shapeCasts_S1x16_S16) :
    Shifts mn mx ![s0, s1, s2, s3, s4, s5, s6, s7] := by
  subst e0 e1 e2 e3 e4 e5 e6 e7
  intro c y
  fin_cases c
  · exact h0 y
  · exact h1 y
  · exact h2 y
  · exact h3 y
  · exact h4 y
  · exact h5 y
  · exact h6 y
  · exact h7 y

end Cert.Proof.Loops

end
-- ==== Proof.Coords.lean ====
/-
  Which block pair a tile's unit is: the kernel's closed-form search for the pair, read as numbers, and
  the fact that the units of all tiles name every pair of blocks above the diagonal.
-/
module

public import proofs.«01_k».proof.Proof.Build

@[expose] public section

noncomputable section

namespace Cert.Proof.Coords

open Cert.KernelIdeal Cert.KernelIdeal.Gen
open Cert.Proof Cert.Proof.Base Cert.Proof.Arith
open Idealize.ShloMosaic

/-- The first unit whose row block is `q`. -/
def st (q : ℕ) : ℕ := 31 * q - q * (q - 1) / 2

/-- How many of the first `m` row blocks start at unit `n` or before. -/
def below (n : ℕ) : ℕ → ℕ
  | 0 => 0
  | m + 1 => below n m + if st m ≤ n then 1 else 0

/-- Row block of a unit. -/
def bi (n : ℕ) : ℕ := below n 32 - 1

/-- Column block of a unit. -/
def bj (n : ℕ) : ℕ := bi n + 1 + (n - st (bi n))

theorem bi_lt {n : ℕ} (h : n < 496) : bi n < bj n ∧ bj n < 32 := by
  revert n; decide +kernel

theorem pair_unit {a b : ℕ} (ha : a < b) (hb : b < 32) : ∃ n, n < 496 ∧ bi n = a ∧ bj n = b := by
  have h : ∀ b < 32, ∀ a < b, st a + (b - a - 1) < 496 ∧ bi (st a + (b - a - 1)) = a ∧ bj (st a + (b - a - 1)) = b := by
    decide +kernel
  exact ⟨_, h b hb a ha⟩

/-- The lane numbers. -/
def lanes : IVec S16 32 := iota .scVector S16 32 [0] iota_S16_d0_w32_scVector

/-- Ones at the row blocks `base + lane` that start at unit `u` or before. -/
def marks (v : IVec S16 32) (u base : BitVec 32) : IVec S16 32 :=
  let q := addi (broadcast S16 base) v
  select (cmpi .sle (subi (muli (broadcast S16 31#32) q) (shrui (muli q (subi q (broadcast S16 1#32))) (broadcast S16 1#32))) (broadcast S16 u))
    (broadcast S16 1#32) (broadcast S16 0#32)

/-- The last running sum. -/
def total (w : IVec S16 32) : BitVec 32 := extractAt ![15] (scan .sum w) inpos_S16_p15

/-- The row block, as the kernel finds it. -/
def biW (u : BitVec 32) : BitVec 32 :=
  Scalar.addi (Scalar.addi 4294967295#32 (total (marks lanes u 0#32))) (total (marks lanes u 16#32))

/-- The column block, as the kernel finds it. -/
def bjW (u b : BitVec 32) : BitVec 32 :=
  Scalar.addi (Scalar.addi b 1#32) (Scalar.subi u (Scalar.subi (Scalar.muli 31#32 b) (Scalar.shrui (Scalar.muli b (Scalar.subi b 1#32)) 1#32)))

theorem biW_val {n : ℕ} (h : n < 496) : biW (BitVec.ofNat 32 n) = BitVec.ofNat 32 (bi n) := by
  revert n; decide +kernel

theorem bjW_val {n : ℕ} (h : n < 496) : bjW (BitVec.ofNat 32 n) (BitVec.ofNat 32 (bi n)) = BitVec.ofNat 32 (bj n) := by
  revert n; decide +kernel

theorem lanes_iota : Build.Iota lanes := by
  intro y
  have h : ∀ l : Fin 16, lanes (Shape.ofLane l) = BitVec.ofNat 32 l.val := by decide +kernel
  have e : y = Shape.ofLane (d := S16.size) (y 0) := by
    funext a; exact (Fin.fin_one_eq_zero a) ▸ rfl
  rw [e]; exact h (y 0)

/-- The tile's number. -/
def wid (L : grid0.Coords) : ℕ := 2 * (L 1).val + (L 0).val

theorem wid_lt (L : grid0.Coords) : wid L < 32 := by
  have h1 : (L 1).val < 16 := (L 1).isLt
  have h0 : (L 0).val < 2 := (L 0).isLt
  unfold wid; omega

/-- The tile's number, as the kernel computes it. -/
def widW (L : grid0.Coords) : BitVec 32 := Scalar.addi (Scalar.muli (BitVec.ofNat 32 (L 1).val) 2#32) (BitVec.ofNat 32 (L 0).val)

theorem muli_ofNat (a b : ℕ) : Scalar.muli (BitVec.ofNat 32 a) (BitVec.ofNat 32 b) = BitVec.ofNat 32 (a * b) := by
  show BitVec.ofNat 32 a * BitVec.ofNat 32 b = _
  rw [BitVec.ofNat_mul]

theorem widW_val (L : grid0.Coords) : widW L = BitVec.ofNat 32 (wid L) := by
  unfold widW wid
  rw [show (2#32) = BitVec.ofNat 32 2 from rfl, muli_ofNat, addi_ofNat, Nat.mul_comm]

/-- The tile's `k`-th unit. -/
def unit (L : grid0.Coords) (k : ℕ) : ℕ := min (32 * k + wid L) 495

theorem unit_lt (L : grid0.Coords) (k : ℕ) : unit L k < 496 := by unfold unit; omega

/-- First row and first column of the tile's `k`-th block pair. -/
def mn (L : grid0.Coords) (k : ℕ) : ℕ := 128 * bi (unit L k)
def mx (L : grid0.Coords) (k : ℕ) : ℕ := 128 * bj (unit L k)

theorem mn_le (L : grid0.Coords) (k : ℕ) : mn L k + 128 ≤ mx L k ∧ mx L k + 128 ≤ 4096 := by
  have := bi_lt (unit_lt L k)
  unfold mn mx; omega

/-- A tile's unit word. -/
theorem unit_word (L : grid0.Coords) {k : ℕ} (hk : k < 16) {w : BitVec 32} (hw : w = BitVec.ofNat 32 (32 * k)) :
    Scalar.minsi (Scalar.addi w (widW L)) 495#32 = BitVec.ofNat 32 (unit L k) := by
  have := wid_lt L
  rw [hw, widW_val, addi_ofNat, show (495#32) = BitVec.ofNat 32 495 from rfl, minsi_ofNat (by omega) (by omega)]
  rfl

variable {L : grid0.Coords} {k : ℕ} {u : BitVec 32}

theorem mn_word (hu : u = BitVec.ofNat 32 (unit L k)) : Scalar.muli (biW u) 128#32 = BitVec.ofNat 32 (mn L k) := by
  subst hu
  rw [biW_val (unit_lt L k), show (128#32) = BitVec.ofNat 32 128 from rfl, muli_ofNat, Nat.mul_comm]; rfl

theorem mx_word (hu : u = BitVec.ofNat 32 (unit L k)) : Scalar.muli (bjW u (biW u)) 128#32 = BitVec.ofNat 32 (mx L k) := by
  subst hu
  rw [biW_val (unit_lt L k), bjW_val (unit_lt L k), show (128#32) = BitVec.ofNat 32 128 from rfl, muli_ofNat, Nat.mul_comm]; rfl

theorem off_up (hu : u = BitVec.ofNat 32 (unit L k)) {o : Fin 2 → ℕ}
    (ho : o = ![(Scalar.muli (biW u) 128#32).toNat, (Scalar.muli (bjW u (biW u)) 128#32).toNat]) : o = ![mn L k, mx L k] := by
  have := mn_le L k
  rw [ho, mn_word hu, mx_word hu, BitVec.toNat_ofNat, BitVec.toNat_ofNat, Nat.mod_eq_of_lt (by omega), Nat.mod_eq_of_lt (by omega)]

theorem off_low (hu : u = BitVec.ofNat 32 (unit L k)) {o : Fin 2 → ℕ}
    (ho : o = ![(Scalar.muli (bjW u (biW u)) 128#32).toNat, (Scalar.muli (biW u) 128#32).toNat]) : o = ![mx L k, mn L k] := by
  have := mn_le L k
  rw [ho, mn_word hu, mx_word hu, BitVec.toNat_ofNat, BitVec.toNat_ofNat, Nat.mod_eq_of_lt (by omega), Nat.mod_eq_of_lt (by omega)]

theorem inb_of {o : Fin 2 → ℕ} {a b : ℕ} (ho : o = ![a, b]) (ha : a + 128 ≤ 4096) (hb : b + 128 ≤ 4096) :
    ∀ x, o x + S128x128.size x ≤ S4096x4096.size x := by
  subst ho; intro x
  fin_cases x
  · exact ha
  · exact hb

/-- The diagonal block's first row. -/
def dn (L : grid0.Coords) : ℕ := 128 * wid L

theorem dn_le (L : grid0.Coords) : dn L + 128 ≤ 4096 := by have := wid_lt L; unfold dn; omega

theorem dn_word (L : grid0.Coords) : Scalar.muli (widW L) 128#32 = BitVec.ofNat 32 (dn L) := by
  rw [widW_val, show (128#32) = BitVec.ofNat 32 128 from rfl, muli_ofNat, Nat.mul_comm]; rfl

theorem off12_val (L : grid0.Coords) : k0_off12 L = ![dn L, dn L] := by
  have h : k0_off12 L = ![(Scalar.muli (widW L) 128#32).toNat, (Scalar.muli (widW L) 128#32).toNat] := rfl
  have := dn_le L
  rw [h, dn_word, BitVec.toNat_ofNat, Nat.mod_eq_of_lt (by omega)]

/-- The block of an entry: on the diagonal, or one of a unit's two. -/
theorem cover {i j : ℕ} (hi : i < 4096) (hj : j < 4096) :
    ∃ L : grid0.Coords, ((dn L ≤ i ∧ i < dn L + 128) ∧ (dn L ≤ j ∧ j < dn L + 128))
      ∨ ∃ k < 16, ((mn L k ≤ i ∧ i < mn L k + 128) ∧ (mx L k ≤ j ∧ j < mx L k + 128))
        ∨ ((mx L k ≤ i ∧ i < mx L k + 128) ∧ (mn L k ≤ j ∧ j < mn L k + 128)) := by
  have tile : ∀ w < 32, ∃ L : grid0.Coords, wid L = w := fun w hw =>
    ⟨fun a => match a with
      | ⟨0, _⟩ => (⟨w % 2, Nat.mod_lt _ (by omega)⟩ : Fin 2)
      | ⟨1, _⟩ => (⟨w / 2, by omega⟩ : Fin 16), by show 2 * (w / 2) + w % 2 = w; omega⟩
  have units : ∀ a b, a < b → b < 32 → ∃ L : grid0.Coords, ∃ k < 16, mn L k = 128 * a ∧ mx L k = 128 * b := by
    intro a b hab hb
    obtain ⟨n, hn, e1, e2⟩ := pair_unit hab hb
    obtain ⟨L, hL⟩ := tile (n % 32) (by omega)
    have hu : unit L (n / 32) = n := by unfold unit; omega
    exact ⟨L, n / 32, by omega, by unfold mn; rw [hu, e1], by unfold mx; rw [hu, e2]⟩
  rcases Nat.lt_trichotomy (i / 128) (j / 128) with h | h | h
  · obtain ⟨L, k, hk, e1, e2⟩ := units _ _ h (by omega)
    exact ⟨L, .inr ⟨k, hk, .inl (by rw [e1, e2]; omega)⟩⟩
  · obtain ⟨L, hL⟩ := tile (i / 128) (by omega)
    exact ⟨L, .inl (by unfold dn; rw [hL]; omega)⟩
  · obtain ⟨L, k, hk, e1, e2⟩ := units _ _ h (by omega)
    exact ⟨L, .inr ⟨k, hk, .inr (by rw [e1, e2]; omega)⟩⟩

end Cert.Proof.Coords

end
-- ==== Proof.Out.lean ====
/-
  Copies of finished blocks into the matrix. Several tiles write the last pair of blocks, always
  the same values, so the matrix is in write mode: a copy in flight holds a share of the whole
  matrix and marks the elements of its block as written.
-/
module

public import proofs.«01_k».proof.Proof.Halves

@[expose] public section

noncomputable section

namespace Cert.Proof.Out

open Cert.KernelIdeal Cert.KernelIdeal.Gen
open Cert.Proof Cert.Proof.Base Cert.Proof.Vals Cert.Proof.Stream Cert.Proof.Halves
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev outM (off : Fin 2 → ℕ) (inb : ∀ a, off a + S128x128.size a ≤ S4096x4096.size a) : Memref sig .scVector .hbm S128x128 .f32 :=
  oV.slice (Rect.unit (s := S4096x4096) off S128x128.size inb) (fun _ => rfl)
abbrev obM (off : Fin 2 → ℕ) (inb : ∀ a, off a + S128x128.size a ≤ S256x128.size a) : Memref sig .scVector .vmem S128x128 .f32 :=
  obV.slice (Rect.unit (s := S256x128) off S128x128.size inb) (fun _ => rfl)

/-- What a copy of a block is worth to its counter. -/
abbrev NO : ℕ := (outM ![0, 0] (by decide)).view.dmaCredit

/-- The block of the matrix with corner `(i0, j0)`. -/
def blk (i0 j0 : ℕ) : Finset S4096x4096.Idx :=
  Finset.univ.filter fun e => (i0 ≤ (e 0).val ∧ (e 0).val < i0 + 128) ∧ j0 ≤ (e 1).val ∧ (e 1).val < j0 + 128

theorem mem_blk {i0 j0 : ℕ} {e : S4096x4096.Idx} :
    e ∈ blk i0 j0 ↔ (i0 ≤ (e 0).val ∧ (e 0).val < i0 + 128) ∧ j0 ≤ (e 1).val ∧ (e 1).val < j0 + 128 := by simp [blk]

section defs
variable (d : Dev nD) (L : grid0.Coords) (X : XBuf F) (qo : PosShare TreeShare) (f0 : MBuf F) (sm : DmaSem sig) (s : ℕ)

/-- A share of the matrix in write mode, the elements `M` known written. -/
def Share (M : Finset S4096x4096.Idx) : sProp (MM F) :=
  iprop(∃ Mk, ⌜M ⊆ Mk⌝ ∗ willBeTo (wmE (F := F)) (oLoc d) Finset.univ qo f0 (fun e => some (OUT X e)) Mk)

/-- Slot `s` free, with its share of the matrix. -/
def Free (M : Finset S4096x4096.Idx) : sProp (MM F) :=
  iprop((Share d X qo f0 M ∗ ∃ g : OBuf F, obLoc d L ↦[slot s]{fullShare} g) ∗ semVal (thr d L, .dma sm) 0)

/-- Slot `s` on its way into the matrix. -/
def Sent (M : Finset S4096x4096.Idx) : sProp (MM F) :=
  Transfers.Flight countersEmb (thr d L) (.dma sm) ιW NO iprop(Share d X qo f0 M ∗ ∃ g : OBuf F, obLoc d L ↦[slot s]{fullShare} g)
end defs

variable {d : Dev nD} {L : grid0.Coords} {X : XBuf F} {qo : PosShare TreeShare} {f0 : MBuf F} {sm : DmaSem sig} {s i0 j0 : ℕ} {ιw : ℕ}
variable {O : CellTallies nD τ sig (HIx 1)} {W : Waits sig (HIx 1)}

theorem ob_emb (inb : ∀ a, (![128 * s, 0] : Fin 2 → ℕ) a + S128x128.size a ≤ S256x128.size a) (i : S128x128.Idx) :
    ((obM ![128 * s, 0] inb).view.emb i (0 : Fin 2)).val = 128 * s + (i 0).val ∧ ((obM ![128 * s, 0] inb).view.emb i (1 : Fin 2)).val = (i 1).val := by
  constructor
  · show 128 * s + 1 * (i 0).val = _; omega
  · show 0 + 1 * (i 1).val = _; omega

theorem out_emb (inb : ∀ a, (![i0, j0] : Fin 2 → ℕ) a + S128x128.size a ≤ S4096x4096.size a) (i : S128x128.Idx) :
    ((outM ![i0, j0] inb).view.emb i (0 : Fin 2)).val = i0 + (i 0).val ∧ ((outM ![i0, j0] inb).view.emb i (1 : Fin 2)).val = j0 + (i 1).val := by
  constructor
  · show i0 + 1 * (i 0).val = _; omega
  · show j0 + 1 * (i 1).val = _; omega

theorem ob_set (inb : ∀ a, (![128 * s, 0] : Fin 2 → ℕ) a + S128x128.size a ≤ S256x128.size a) : (obM ![128 * s, 0] inb).view.set = slot s := by
  ext e
  rw [mem_slot]
  constructor
  · intro hm
    obtain ⟨i, -, hi⟩ := Finset.mem_map.mp hm
    have h0 := (ob_emb inb i).1
    rw [hi] at h0
    have : (i 0).val < 128 := (i 0).isLt
    omega
  · intro h
    have hr : (e 0).val % 128 < 128 := Nat.mod_lt _ (by decide)
    have hc : (e 1).val < 128 := (e 1).isLt
    let i : S128x128.Idx := fun a => match a with
      | ⟨0, _⟩ => ⟨(e 0).val % 128, hr⟩
      | ⟨1, _⟩ => ⟨(e 1).val, hc⟩
    refine Finset.mem_map.mpr ⟨i, Finset.mem_univ _, ?_⟩
    obtain ⟨h0', h1'⟩ := ob_emb inb i
    funext a
    refine Fin.ext ?_
    match a with
    | ⟨0, _⟩ => exact h0'.trans (show 128 * s + (e 0).val % 128 = (e 0).val by omega)
    | ⟨1, _⟩ => exact h1'

theorem out_set (inb : ∀ a, (![i0, j0] : Fin 2 → ℕ) a + S128x128.size a ≤ S4096x4096.size a) : (outM ![i0, j0] inb).view.set = blk i0 j0 := by
  ext e
  rw [mem_blk]
  constructor
  · intro hm
    obtain ⟨i, -, hi⟩ := Finset.mem_map.mp hm
    obtain ⟨h0, h1⟩ := out_emb inb i
    rw [hi] at h0 h1
    have : (i 0).val < 128 := (i 0).isLt
    have : (i 1).val < 128 := (i 1).isLt
    omega
  · rintro ⟨⟨a0, a1⟩, b0, b1⟩
    have hr : (e 0).val - i0 < 128 := by omega
    have hc : (e 1).val - j0 < 128 := by omega
    let i : S128x128.Idx := fun a => match a with
      | ⟨0, _⟩ => ⟨(e 0).val - i0, hr⟩
      | ⟨1, _⟩ => ⟨(e 1).val - j0, hc⟩
    refine Finset.mem_map.mpr ⟨i, Finset.mem_univ _, ?_⟩
    obtain ⟨h0', h1'⟩ := out_emb inb i
    funext a
    refine Fin.ext ?_
    match a with
    | ⟨0, _⟩ => exact h0'.trans (show i0 + ((e 0).val - i0) = (e 0).val by omega)
    | ⟨1, _⟩ => exact h1'.trans (show j0 + ((e 1).val - j0) = (e 1).val by omega)

/-- The block leaving the slot is what the matrix is to hold there. -/
theorem admitted (i1 : ∀ a, (![128 * s, 0] : Fin 2 → ℕ) a + S128x128.size a ≤ S256x128.size a)
    (i2 : ∀ a, (![i0, j0] : Fin 2 → ℕ) a + S128x128.size a ≤ S4096x4096.size a) :
    (outM ![i0, j0] i2).view.Admitted (Elt F) (fun e => some (OUT X e)) ((obM ![128 * s, 0] i1).view.read (Elt F) (Block X i0 j0)) Finset.univ := by
  intro i _ u hu
  obtain ⟨a0, a1⟩ := ob_emb i1 i
  obtain ⟨b0, b1⟩ := out_emb i2 i
  have hi : (i 0).val < 128 := (i 0).isLt
  have h : (obM ![128 * s, 0] i1).view.read (Elt F) (Block X i0 j0) i = OUT X ((outM ![i0, j0] i2).view.emb i) := by
    show Block X i0 j0 ((obM ![128 * s, 0] i1).view.emb i) = _
    unfold Block OUT
    rw [a0, a1, b0, b1, show (128 * s + (i 0).val) % 128 = (i 0).val by omega]
  exact h.trans (Option.some.inj hu)

/-- A copy starts. -/
theorem send {α : Type} {Q : α → sProp (MM F)} {k : PUnit → TProg F L α} {M : Finset S4096x4096.Idx} {o1 o2 : Fin 2 → ℕ} {i1 i2 pf1 pf2 pf3} {g : OBuf F}
    (h1 : o1 = ![128 * s, 0]) (h2 : o2 = ![i0, j0]) (hg : Base.Filled (Block X i0 j0) s g (128 * 128)) :
    iprop(wmInv (wmE (F := F)) ιw ∗ Share d X qo f0 M ∗ (obLoc d L ↦[slot s]{fullShare} g) ∗ semVal (thr d L, .dma sm) 0)
      ⊢ iprop((Sent d L X qo f0 sm s (M ∪ blk i0 j0) -∗ WP d L (k ⟨⟩) Q)
        -∗ WP d L (.op (.enqueueDma (obM o1 i1) (.here (outM o2 i2)) (.dma sm) pf1 pf2 pf3) k) Q) := by
  subst h1 h2
  have hs := ob_set i1
  have ht := out_set i2
  unfold Share Sent
  iintro ⟨#Hwm, ⟨%Mk, %hM, Hm⟩, Hg, Hv⟩ Hk
  ihave Hg := (Entails.of_eq (pointsTo_congr (g := Block X i0 j0) (filled_all hg))) $$ Hg
  ihave Hg := (Entails.of_eq (congrArg (fun I => (obLoc d L ↦[I]{fullShare} Block X i0 j0 : sProp (MM F))) hs.symm)) $$ Hg
  imod (Transfers.flight_alloc countersEmb (show 0 < NO by decide)
    iprop(willBeTo (wmE (F := F)) (oLoc d) Finset.univ qo f0 (fun e => some (OUT X e)) (Mk ∪ (outM ![i0, j0] i2).view.set)
      ∗ ((obM ![128 * s, 0] i1).view.loc (thr d L) ↦[(obM ![128 * s, 0] i1).view.set]{fullShare} Block X i0 j0))
    (g := (thr d L, .dma sm))) $$ Hv with ⟨%γ, %δ, %κ, #Hinv, Hγ, Hδ⟩
  iapply (wp_enqueueDma (src := obM ![128 * s, 0] i1) (dst := outM ![i0, j0] i2) (fs := Block X i0 j0) 𝒱₀ (thr d L) none Set.univ ιW NO rfl) $$ [Hg Hm] [Hγ]
  · isplitl [Hg]; · iexact Hg
    iapply (willBeTo_writeUpdate (emb := wmE (F := F)) (ιwm := ιw) (thr d L) (v := (outM ![i0, j0] i2).view)
      (w := (obM ![128 * s, 0] i1).view.read (Elt F) (Block X i0 j0)) (Finset.subset_univ _) (admitted i1 i2))
    isplitr; · iexact Hwm
    iexact Hm
  · iapply (Transfers.flight_creditUpdate countersEmb (δ := δ))
    isplitr; · iexact Hinv
    iexact Hγ
  iintro Hcred
  iapply Hk
  have hmono : (iprop(willBeTo (wmE (F := F)) (oLoc d) Finset.univ qo f0 (fun e => some (OUT X e)) (Mk ∪ (outM ![i0, j0] i2).view.set)
      ∗ ((obM ![128 * s, 0] i1).view.loc (thr d L) ↦[(obM ![128 * s, 0] i1).view.set]{fullShare} Block X i0 j0)) : sProp (MM F))
      ⊢ iprop(Share d X qo f0 (M ∪ blk i0 j0) ∗ ∃ g : OBuf F, obLoc d L ↦[slot s]{fullShare} g) := by
    unfold Share
    rw [hs, ht]
    iintro ⟨Hm, Hg⟩
    isplitl [Hm]
    · iexists (Mk ∪ blk i0 j0)
      isplitr
      · ipureintro; exact Finset.union_subset_union hM (Finset.Subset.refl _)
      · iexact Hm
    · iexists _; iexact Hg
  unfold Share at hmono
  iapply (Transfers.Flight_mono countersEmb (thr d L) hmono)
  iapply (Transfers.flight_intro countersEmb (thr d L) (κ := κ))
  isplitr; · iexact Hinv
  isplitl [Hδ] <;> iassumption

theorem credit_out {off : Fin 2 → ℕ} (inb) : (outM off inb).view.dmaCredit = NO := rfl

/-- A copy has ended. -/
theorem settle {α : Type} {Q : α → sProp (MM F)} {k : PUnit → TProg F L α} {M : Finset S4096x4096.Idx} {o1 o2 : Fin 2 → ℕ} {i1 i2 pf1 pf2} :
    iprop(Transfers.MayWaits (thr d L) ιW O ∗ Sent d L X qo f0 sm s M ∗ Ow d L O W)
      ⊢ iprop((Free d L X qo f0 sm s M -∗ Ow d L O W -∗ WP d L (k ⟨⟩) Q)
        -∗ WP d L (.op (.waitDma2 sm (obM o1 i1) (outM o2 i2) pf1 pf2) k) Q) := by
  unfold Sent Ow Free
  iintro ⟨#Hmw, Hb, %W', %hW, HO⟩ Hk
  iapply (Transfers.wp_waitLocalO countersEmb 𝒱₀ (thr d L) none ιW (credit_out i2)) $$ [Hb HO]
  · isplitl [Hb]; · iexact Hb
    isplitl [HO]; · iexact HO
    iapply (Transfers.MayWaits.elim (SemLoc.dma sm)) $$ Hmw
  iintro ⟨HD, Hv, HO⟩
  iapply Hk $$ [HD Hv]
  · isplitl [HD] <;> iassumption
  ihave HO := (ow_insert hW) $$ HO
  unfold Ow
  iexact HO

end Cert.Proof.Out

end
-- ==== Proof.Steps.lean ====
/-
  The steps of a tile's work, each over the state of the halves of the gathered rows and of the two slots
  of the outgoing buffer: preparing a half and starting its gathers, awaiting them, filling a slot and
  sending it, and awaiting the sending.
-/
module

public import proofs.«01_k».proof.Proof.Loops
public import proofs.«01_k».proof.Proof.Coords
public import proofs.«01_k».proof.Proof.Out

@[expose] public section

noncomputable section

namespace Cert.Proof.Steps

open Cert.KernelIdeal Cert.KernelIdeal.Gen
open Cert.Proof Cert.Proof.Base Cert.Proof.Vals Cert.Proof.Build Cert.Proof.Row Cert.Proof.Piece Cert.Proof.StageLoad Cert.Proof.Halves Cert.Proof.Stream
open Cert.Proof.Loops Cert.Proof.Out
open Cert.Proof.Coords (wid unit mn mx mn_le dn dn_le)
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {d : Dev nD} {L : grid0.Coords} {X : XBuf F} {qx qo : PosShare TreeShare} {f0 : MBuf F} {α : Type} {Q : α → sProp (MM F)}
variable {O : CellTallies nD τ sig (HIx 1)} {W : Waits sig (HIx 1)} {ιw : ℕ} {p p' a b a' b' : ℕ} {sm so : DmaSem sig} {R : sProp (MM F)} {E' : Set ℕ}

/-- A half's shifts, whatever they are. -/
def Raw (d : Dev nD) (L : grid0.Coords) (p : ℕ) : sProp (MM F) := iprop(∃ g : S2x128.Idx → BitVec 32, shLoc d L ↦[srow p]{fullShare} g)

theorem raw_of : ShRow (F := F) d L p a b ⊢ Raw d L p := by
  unfold ShRow Raw
  iintro ⟨%g, -, Hs⟩
  iexists g; iexact Hs

/-- Preparing a half and starting its two gathers, over whatever shifts it had. -/
theorem prime (hmn : a + 128 ≤ 4096) (hmx : b < 4096) {v2 : IVec S16 32} (h2 : Iota v2) {wa wb : BitVec 32} (ha : wa = BitVec.ofNat 32 a) (hb : wb = BitVec.ofNat 32 b)
    {l : Scf.Loop 32} {hok : l.OK} {body : Fin l.trips → Unit → TProg F L Unit} (hl : l.trips = 8)
    {o1 : Fin l.trips → Fin 2 → ℕ} {o2 o3 : Fin l.trips → Fin 3 → ℕ} {i1 : ∀ t, In2 (o1 t)} {i2 : ∀ t, In3 (o2 t)} {i3 : ∀ t, In3 (o3 t)}
    (h1 : ∀ t, o1 t = ![p, 16 * t.val]) (h2' : ∀ t, o2 t = ![p, 0, 16 * t.val]) (h3 : ∀ t, o3 t = ![p, 1, 16 * t.val])
    (hbody : ∀ t u, body t u = buildStep L v2 wa wb t.val (o1 t) (o2 t) (o3 t) (i1 t) (i2 t) (i3 t))
    {j1 j1'} {q2 : Fin 2 → ℕ} {j2} {q3 : Fin 3 → ℕ} {j3} {q2' : Fin 2 → ℕ} {j2'} {q3' : Fin 3 → ℕ} {j3'}
    (hq2 : q2 = ![128 * p, 0]) (hq3 : q3 = ![p, 0, 0]) (hq2' : q2' = ![128 * p, 128]) (hq3' : q3' = ![p, 1, 0])
    {pf1 pf2 pf3 pf4 pf5 pf6 qf1 qf2 qf3 qf4 qf5 qf6} {k : PUnit → TProg F L α} :
    iprop(wmInv (wmE (F := F)) ιw ∗ Raw d L p ∗ Idle d L X qx p sm)
      ⊢ iprop((ShRow d L p a b -∗ Fly d L X qx p a b sm 256 0 -∗ WP d L (k ⟨⟩) Q)
        -∗ WP d L (Scf.Loop.for l hok ⟨⟩ body >>= fun _ =>
          SparseCore.enqueueIndirectGather (F := F) pf1 (srcM j1) (dstM q2 j2) gathers_S65520x128_S128x128 (ofsM q3 j3) pf2 sm pf3 pf6 pf4 pf5 >>= fun _ =>
          SparseCore.enqueueIndirectGather (F := F) qf1 (srcM j1') (dstM q2' j2') gathers_S65520x128_S128x128 (ofsM q3' j3') qf2 sm qf3 qf6 qf4 qf5 >>= k) Q) := by
  unfold Idle Rest
  iintro ⟨#Hwm, Hs, Hg, Hi, Hx, Hv⟩ Hk
  iapply (buildLoop h2 ha hb hmn hmx hl h1 h2' h3 hbody) $$ [Hs Hi]
  · unfold Lists Raw
    isplitl [Hs] <;> iassumption
  iintro H
  ihave H := prep_done $$ H
  icases H with ⟨Hs, Hi⟩
  imod (launch (X := X) (qx := qx) (p := p) (mn := a) (mx := b) (sm := sm)) $$ [Hg Hi Hx Hv] with HF
  · isplitr; · iexact Hwm
    isplitl [Hg]; · iexact Hg
    isplitl [Hi]; · iexact Hi
    isplitl [Hx] <;> iassumption
  iapply (fire (h := 0) (by omega) hmn hmx j1 j2 j3 hq2 hq3) $$ [HF]
  · isplitr; · iexact Hwm
    iexact HF
  iintro HF
  iapply (fire (h := 1) (by omega) hmn hmx j1' j2' j3' hq2' hq3') $$ [HF]
  · isplitr; · iexact Hwm
    iexact HF
  iintro HF
  iapply Hk $$ Hs HF

/-- Preparing a half and starting its two gathers. -/
theorem start (hmn : a + 128 ≤ 4096) (hmx : b < 4096) {v2 : IVec S16 32} (h2 : Iota v2) {wa wb : BitVec 32} (ha : wa = BitVec.ofNat 32 a) (hb : wb = BitVec.ofNat 32 b)
    {l : Scf.Loop 32} {hok : l.OK} {body : Fin l.trips → Unit → TProg F L Unit} (hl : l.trips = 8)
    {o1 : Fin l.trips → Fin 2 → ℕ} {o2 o3 : Fin l.trips → Fin 3 → ℕ} {i1 : ∀ t, In2 (o1 t)} {i2 : ∀ t, In3 (o2 t)} {i3 : ∀ t, In3 (o3 t)}
    (h1 : ∀ t, o1 t = ![p, 16 * t.val]) (h2' : ∀ t, o2 t = ![p, 0, 16 * t.val]) (h3 : ∀ t, o3 t = ![p, 1, 16 * t.val])
    (hbody : ∀ t u, body t u = buildStep L v2 wa wb t.val (o1 t) (o2 t) (o3 t) (i1 t) (i2 t) (i3 t))
    {j1 j1'} {q2 : Fin 2 → ℕ} {j2} {q3 : Fin 3 → ℕ} {j3} {q2' : Fin 2 → ℕ} {j2'} {q3' : Fin 3 → ℕ} {j3'}
    (hq2 : q2 = ![128 * p, 0]) (hq3 : q3 = ![p, 0, 0]) (hq2' : q2' = ![128 * p, 128]) (hq3' : q3' = ![p, 1, 0])
    {pf1 pf2 pf3 pf4 pf5 pf6 qf1 qf2 qf3 qf4 qf5 qf6} {k : PUnit → TProg F L α} :
    iprop(wmInv (wmE (F := F)) ιw ∗ ShRow d L p a' b' ∗ Idle d L X qx p sm)
      ⊢ iprop((ShRow d L p a b -∗ Fly d L X qx p a b sm 256 0 -∗ WP d L (k ⟨⟩) Q)
        -∗ WP d L (Scf.Loop.for l hok ⟨⟩ body >>= fun _ =>
          SparseCore.enqueueIndirectGather (F := F) pf1 (srcM j1) (dstM q2 j2) gathers_S65520x128_S128x128 (ofsM q3 j3) pf2 sm pf3 pf6 pf4 pf5 >>= fun _ =>
          SparseCore.enqueueIndirectGather (F := F) qf1 (srcM j1') (dstM q2' j2') gathers_S65520x128_S128x128 (ofsM q3' j3') qf2 sm qf3 qf6 qf4 qf5 >>= k) Q) := by
  iintro ⟨#Hwm, Hs, Hv⟩ Hk
  ihave Hs := raw_of $$ Hs
  iapply (prime (X := X) (ιw := ιw) (qx := qx) (p := p) (a := a) (b := b) hmn hmx h2 ha hb hl h1 h2' h3 hbody hq2 hq3 hq2' hq3') $$ [Hs Hv]
  · isplitr; · iexact Hwm
    isplitl [Hs] <;> iassumption
  iexact Hk

/-- Awaiting a half's two gathers. -/
theorem collect {i1 i1'} {o2 o2' : Fin 2 → ℕ} {i2 i2'} {pf1 pf2 qf1 qf2} {k : PUnit → TProg F L α} :
    iprop((wmInv (wmE (F := F)) ιw ∗ Transfers.MayWaits (thr d L) ιW O) ∗ Fly d L X qx p a b sm 256 0 ∗ Ow d L O W)
      ⊢ iprop((Ready d L X qx p a b sm -∗ Ow d L O W -∗ WP d L (k ⟨⟩) Q)
        -∗ WP d L (SparseCore.waitIndirectGather (F := F) sm (srcM i1) (dstM o2 i2) pf1 pf2 >>= fun _ =>
          SparseCore.waitIndirectGather (F := F) sm (srcM i1') (dstM o2' i2') qf1 qf2 >>= k) Q) := by
  iintro ⟨⟨#Hwm, #Hmw⟩, HF, HO⟩ Hk
  iapply await1 $$ [HF HO]
  · isplitr; · iexact Hmw
    isplitl [HF] <;> iassumption
  iintro HF HO
  iapply await2 $$ [HF HO]
  · isplitr
    · isplitr; · iexact Hwm
      iexact Hmw
    isplitl [HF] <;> iassumption
  iexact Hk

/-- A filled slot is sent. -/
theorem sendOut {s i0 j0 : ℕ} {M : Finset S4096x4096.Idx} {o1 o2 : Fin 2 → ℕ} {i1 i2 pf1 pf2 pf3} (h1 : o1 = ![128 * s, 0]) (h2 : o2 = ![i0, j0])
    {k : PUnit → TProg F L α} :
    iprop(wmInv (wmE (F := F)) ιw ∗ Full d L X p s a b i0 j0 iprop(wmInv (wmE (F := F)) ιw ∗ R) ∗ Rest d L X qx p sm ∗ Share d X qo f0 M ∗ semVal (thr d L, .dma so) 0)
      ⊢ iprop((Ready d L X qx p a b sm -∗ R -∗ Sent d L X qo f0 so s (M ∪ blk i0 j0) -∗ WP d L (k ⟨⟩) Q)
        -∗ WP d L (.op (.enqueueDma (obM o1 i1) (.here (outM o2 i2)) (.dma so) pf1 pf2 pf3) k) Q) := by
  unfold Full Fill
  iintro ⟨#Hwm, ⟨Hg, ⟨-, HR⟩, %g, %hg, Ho⟩, Hr, Hsh, Hv⟩ Hk
  iapply (send h1 h2 hg) $$ [Ho Hsh Hv]
  · isplitr; · iexact Hwm
    isplitl [Hsh]; · iexact Hsh
    isplitl [Ho] <;> iassumption
  iintro HS
  iapply Hk $$ [Hg Hr] HR HS
  unfold Ready
  isplitl [Hg] <;> iassumption

/-- An upper block: filled, and sent. -/
theorem upOut (hR : Reach (sgLoc d L) (half p') E' iprop(wmInv (wmE (F := F)) ιw ∗ R)) (hp : p + p' = 1) (hmn : a + 128 ≤ b) (hmx : b + 128 ≤ 4096)
    {q : Fin 8 → IVec S16 32} (hq : Lanes q) {w g m : BitVec 32} (hw : w = BitVec.ofNat 32 (128 * p)) (hg : g = BitVec.ofNat 32 a)
    (hm : m = BitVec.ofNat 32 b) {l : Scf.Loop 32} {hok : l.OK} {body : Fin l.trips → Unit → TProg F L Unit} (hl : l.trips = 128)
    {offs : Fin l.trips → Fin 8 → Fin 2 → ℕ} (ht : ∀ t : Fin l.trips, t.val < 256) (hoff : ∀ t c, offs t c = ![t.val, 16 * c.val])
    (hbody : ∀ t u, body t u = upRow L w t.val (ht t) (Scalar.addi g (rv t.val)) m q (offs t) (hoff t))
    {M : Finset S4096x4096.Idx} {o1 o2 : Fin 2 → ℕ} {i1 i2 pf1 pf2 pf3} (h1 : o1 = ![0, 0]) (h2 : o2 = ![a, b]) {k : PUnit → TProg F L α} :
    iprop(wmInv (wmE (F := F)) ιw ∗ Ready d L X qx p a b sm ∗ R ∗ Free d L X qo f0 so 0 M)
      ⊢ iprop((Ready d L X qx p a b sm -∗ R -∗ Sent d L X qo f0 so 0 (M ∪ blk a b) -∗ WP d L (k ⟨⟩) Q)
        -∗ WP d L (Scf.Loop.for l hok ⟨⟩ body >>= fun _ => .op (.enqueueDma (obM o1 i1) (.here (outM o2 i2)) (.dma so) pf1 pf2 pf3) k) Q) := by
  unfold Ready Free
  iintro ⟨#Hwm, ⟨Hg, Hr⟩, HR, ⟨Hsh, Ho⟩, Hv⟩ Hk
  iapply (upLoop hR hp hmn hmx hq hw hg hm hl ht hoff hbody) $$ [Hg HR Ho]
  · isplitl [Hg]; · iexact Hg
    isplitl [HR]
    · isplitr; · iexact Hwm
      iexact HR
    · iexact Ho
  iintro HF
  iapply (sendOut (s := 0) h1 h2) $$ [HF Hr Hsh Hv]
  · isplitr; · iexact Hwm
    isplitl [HF]; · iexact HF
    isplitl [Hr]; · iexact Hr
    isplitl [Hsh] <;> iassumption
  unfold Ready
  iexact Hk

/-- A lower block: filled, and sent. -/
theorem lowOut (hR : Reach (sgLoc d L) (half p') E' iprop(wmInv (wmE (F := F)) ιw ∗ R)) (hp : p + p' = 1) (hmn : a + 128 ≤ b) (hmx : b + 128 ≤ 4096)
    {q sh : Fin 8 → IVec S16 32} (hq : Lanes q) (hs : Shifts a b sh) {w : BitVec 32} (hw : w = BitVec.ofNat 32 (128 * p))
    {l : Scf.Loop 32} {hok : l.OK} {body : Fin l.trips → Unit → TProg F L Unit} (hl : l.trips = 128)
    {offs : Fin l.trips → Fin 8 → Fin 2 → ℕ} (ht : ∀ t : Fin l.trips, t.val + 128 < 256) (hoff : ∀ t c, offs t c = ![t.val + 128, 16 * c.val])
    (hbody : ∀ t u, body t u = lowRow L w t.val (ht t) sh q (offs t) (hoff t))
    {M : Finset S4096x4096.Idx} {o1 o2 : Fin 2 → ℕ} {i1 i2 pf1 pf2 pf3} (h1 : o1 = ![128, 0]) (h2 : o2 = ![b, a]) {k : PUnit → TProg F L α} :
    iprop(wmInv (wmE (F := F)) ιw ∗ Ready d L X qx p a b sm ∗ R ∗ Free d L X qo f0 so 1 M)
      ⊢ iprop((Ready d L X qx p a b sm -∗ R -∗ Sent d L X qo f0 so 1 (M ∪ blk b a) -∗ WP d L (k ⟨⟩) Q)
        -∗ WP d L (Scf.Loop.for l hok ⟨⟩ body >>= fun _ => .op (.enqueueDma (obM o1 i1) (.here (outM o2 i2)) (.dma so) pf1 pf2 pf3) k) Q) := by
  unfold Ready Free
  iintro ⟨#Hwm, ⟨Hg, Hr⟩, HR, ⟨Hsh, Ho⟩, Hv⟩ Hk
  iapply (lowLoop hR hp hmn hmx hq hs hw hl ht hoff hbody) $$ [Hg HR Ho]
  · isplitl [Hg]; · iexact Hg
    isplitl [HR]
    · isplitr; · iexact Hwm
      iexact HR
    · iexact Ho
  iintro HF
  iapply (sendOut (s := 1) h1 h2) $$ [HF Hr Hsh Hv]
  · isplitr; · iexact Hwm
    isplitl [HF]; · iexact HF
    isplitl [Hr]; · iexact Hr
    isplitl [Hsh] <;> iassumption
  unfold Ready
  iexact Hk

/-- The diagonal block: filled, and sent. -/
theorem diagOut (hR : Reach (sgLoc d L) (half p') E' iprop(wmInv (wmE (F := F)) ιw ∗ R)) (hp : 0 + p' = 1) (hmn : a + 128 ≤ 4096)
    {q sh : Fin 8 → IVec S16 32} (hq : Lanes q) (hs : Shifts a a sh) {g : BitVec 32} (hg : g = BitVec.ofNat 32 a)
    {l : Scf.Loop 32} {hok : l.OK} {body : Fin l.trips → Unit → TProg F L Unit} (hl : l.trips = 128)
    {offs : Fin l.trips → Fin 8 → Fin 2 → ℕ} (ht : ∀ t : Fin l.trips, t.val < 256) (hoff : ∀ t c, offs t c = ![t.val, 16 * c.val])
    (hbody : ∀ t u, body t u = diagRow L t.val (ht t) (Scalar.addi g (rv t.val)) g sh q (offs t) (hoff t))
    {M : Finset S4096x4096.Idx} {o1 o2 : Fin 2 → ℕ} {i1 i2 pf1 pf2 pf3} (h1 : o1 = ![0, 0]) (h2 : o2 = ![a, a]) {k : PUnit → TProg F L α} :
    iprop(wmInv (wmE (F := F)) ιw ∗ Ready d L X qx 0 a a sm ∗ R ∗ Free d L X qo f0 so 0 M)
      ⊢ iprop((Ready d L X qx 0 a a sm -∗ R -∗ Sent d L X qo f0 so 0 (M ∪ blk a a) -∗ WP d L (k ⟨⟩) Q)
        -∗ WP d L (Scf.Loop.for l hok ⟨⟩ body >>= fun _ => .op (.enqueueDma (obM o1 i1) (.here (outM o2 i2)) (.dma so) pf1 pf2 pf3) k) Q) := by
  unfold Ready Free
  iintro ⟨#Hwm, ⟨Hg, Hr⟩, HR, ⟨Hsh, Ho⟩, Hv⟩ Hk
  iapply (diagLoop hR hp hmn hq hs hg hl ht hoff hbody) $$ [Hg HR Ho]
  · isplitl [Hg]; · iexact Hg
    isplitl [HR]
    · isplitr; · iexact Hwm
      iexact HR
    · iexact Ho
  iintro HF
  iapply (sendOut (s := 0) h1 h2) $$ [HF Hr Hsh Hv]
  · isplitr; · iexact Hwm
    isplitl [HF]; · iexact HF
    isplitl [Hr]; · iexact Hr
    isplitl [Hsh] <;> iassumption
  unfold Ready
  iexact Hk

/-- A half at the tile's `k`-th unit: its gathers under way, or, past the last unit, free. -/
def Half (d : Dev nD) (L : grid0.Coords) (X : XBuf F) (qx : PosShare TreeShare) (p : ℕ) (sm : DmaSem sig) (k : ℕ) : sProp (MM F) :=
  if k < 16 then Fly d L X qx p (mn L k) (mx L k) sm 256 0 else Idle d L X qx p sm

theorem reach_half (k : ℕ) : ∃ E', Reach (sgLoc d L) (half p) E' iprop(wmInv (wmE (F := F)) ιw ∗ Half d L X qx p sm k) := by
  unfold Half
  split
  · exact ⟨_, reach_fly⟩
  · exact ⟨_, reach_idle⟩

theorem half_lt {k : ℕ} (h : k < 16) : Half d L X qx p sm k = Fly d L X qx p (mn L k) (mx L k) sm 256 0 := if_pos h
theorem half_ge {k : ℕ} (h : ¬ k < 16) : Half d L X qx p sm k = Idle d L X qx p sm := if_neg h

/-- The upper blocks a tile has sent before its `k`-th unit. -/
def up (L : grid0.Coords) : ℕ → Finset S4096x4096.Idx
  | 0 => ∅ ∪ blk (dn L) (dn L)
  | k + 1 => up L k ∪ blk (mn L k) (mx L k)
/-- The lower blocks. -/
def low (L : grid0.Coords) : ℕ → Finset S4096x4096.Idx
  | 0 => ∅
  | k + 1 => low L k ∪ blk (mx L k) (mn L k)

/-- The second slot's copy before the `k`-th unit: none yet at the first. -/
def Slot1 (d : Dev nD) (L : grid0.Coords) (X : XBuf F) (qo : PosShare TreeShare) (f0 : MBuf F) (so : DmaSem sig) (k : ℕ) : sProp (MM F) :=
  if 0 < k then Sent d L X qo f0 so 1 (low L k) else Free d L X qo f0 so 1 (low L k)

theorem wp_split {β : Type} {A : TProg F L β} {kk : β → TProg F L α} : WP d L (A >>= kk) Q = WP d L A fun x => WP d L (kk x) Q := wp_bind ..

/-- The second slot's wait, left out at the first unit. -/
theorem settle_guard {c : Prop} [Decidable c] {k : ℕ} (hc : c ↔ 0 < k) {A : c → TProg F L α} {B : ¬c → TProg F L α} {r : TProg F L α} (hB : ∀ h, B h = r)
    (hA : ∀ (h : c) {Q' : α → sProp (MM F)}, iprop(Transfers.MayWaits (thr d L) ιW O ∗ Sent d L X qo f0 so 1 (low L k) ∗ Ow d L O W)
      ⊢ iprop((Free d L X qo f0 so 1 (low L k) -∗ Ow d L O W -∗ WP d L r Q') -∗ WP d L (A h) Q')) :
    iprop(Transfers.MayWaits (thr d L) ιW O ∗ Slot1 d L X qo f0 so k ∗ Ow d L O W)
      ⊢ iprop((Free d L X qo f0 so 1 (low L k) -∗ Ow d L O W -∗ WP d L r Q) -∗ WP d L (dite c A B) Q) := by
  unfold Slot1
  by_cases h : c
  · rw [dif_pos h, if_pos (hc.mp h)]
    exact hA h
  · rw [dif_neg h, if_neg (fun h' => h (hc.mpr h')), hB]
    iintro ⟨-, HF, HO⟩ Hk
    iapply Hk $$ HF HO

/-- A half's shifts: those of the tile's `k`-th unit, if it has one. -/
def Shs (d : Dev nD) (L : grid0.Coords) (p k : ℕ) : sProp (MM F) :=
  iprop(∃ a b, ⌜k < 16 → a = mn L k ∧ b = mx L k⌝ ∗ ShRow d L p a b)

theorem shs_lt {k : ℕ} (h : k < 16) : Shs (F := F) d L p k ⊢ ShRow d L p (mn L k) (mx L k) := by
  unfold Shs
  iintro ⟨%a, %b, %hab, H⟩
  obtain ⟨rfl, rfl⟩ := hab h
  iexact H

theorem shs_of {k : ℕ} : ShRow (F := F) d L p (mn L k) (mx L k) ⊢ Shs d L p k := by
  unfold Shs
  iintro H
  iexists (mn L k), (mx L k)
  isplitr
  · ipureintro; exact fun _ => ⟨rfl, rfl⟩
  · iexact H

/-- The next unit's gathers are started, if there is one. -/
theorem start_guard {c : Prop} [Decidable c] {k : ℕ} (hc : c ↔ k < 16) {A : c → TProg F L α} {B : ¬c → TProg F L α} {r : TProg F L α} (hB : ∀ h, B h = r)
    (hA : ∀ (h : c) {Q' : α → sProp (MM F)} , iprop(wmInv (wmE (F := F)) ιw ∗ ShRow d L p a' b' ∗ Idle d L X qx p sm)
      ⊢ iprop((ShRow d L p (mn L k) (mx L k) -∗ Fly d L X qx p (mn L k) (mx L k) sm 256 0 -∗ WP d L r Q') -∗ WP d L (A h) Q')) :
    iprop(wmInv (wmE (F := F)) ιw ∗ ShRow d L p a' b' ∗ Ready d L X qx p a b sm)
      ⊢ iprop((Shs d L p k -∗ Half d L X qx p sm k -∗ WP d L r Q) -∗ WP d L (dite c A B) Q) := by
  unfold Half
  by_cases h : c
  · rw [dif_pos h, if_pos (hc.mp h)]
    iintro ⟨#Hwm, Hs, HR⟩ Hk
    ihave HR := ready_idle $$ HR
    iapply (hA h) $$ [Hs HR]
    · isplitr; · iexact Hwm
      isplitl [Hs] <;> iassumption
    iintro Hs HF
    ihave Hs := shs_of $$ Hs
    iapply Hk $$ Hs HF
  · rw [dif_neg h, if_neg (fun h' => h (hc.mpr h')), hB]
    iintro ⟨-, Hs, HR⟩ Hk
    ihave HR := ready_idle $$ HR
    iapply Hk $$ [Hs] HR
    unfold Shs
    iexists a', b'
    isplitr
    · ipureintro; exact fun h' => absurd (hc.mpr h') h
    · iexact Hs

/-- Eight loads of a half's shifts. -/
theorem shiftLoads {o0 o1 o2 o3 o4 o5 o6 o7 : Fin 2 → ℕ} {i0 : In2 o0} {i1 : In2 o1} {i2 : In2 o2} {i3 : In2 o3} {i4 : In2 o4} {i5 : In2 o5} {i6 : In2 o6} {i7 : In2 o7}
    {f0 f1 f2 f3 f4 f5 f6 f7} (h0 : o0 = ![p, 16 * 0]) (h1 : o1 = ![p, 16 * 1]) (h2 : o2 = ![p, 16 * 2]) (h3 : o3 = ![p, 16 * 3])
    (h4 : o4 = ![p, 16 * 4]) (h5 : o5 = ![p, 16 * 5]) (h6 : o6 = ![p, 16 * 6]) (h7 : o7 = ![p, 16 * 7])
    {k : Vec F S1x16 .i32 → Vec F S1x16 .i32 → Vec F S1x16 .i32 → Vec F S1x16 .i32 → Vec F S1x16 .i32 → Vec F S1x16 .i32 → Vec F S1x16 .i32 → Vec F S1x16 .i32 → TProg F L α} :
    ShRow (F := F) d L p a b
      ⊢ iprop((∀ w0 w1 w2 w3 w4 w5 w6 w7, ⌜Shifts a b ![shapeCast S16 w0 shapeCasts_S1x16_S16, shapeCast S16 w1 shapeCasts_S1x16_S16, shapeCast S16 w2 shapeCasts_S1x16_S16,
            shapeCast S16 w3 shapeCasts_S1x16_S16, shapeCast S16 w4 shapeCasts_S1x16_S16, shapeCast S16 w5 shapeCasts_S1x16_S16, shapeCast S16 w6 shapeCasts_S1x16_S16,
            shapeCast S16 w7 shapeCasts_S1x16_S16]⌝ -∗ ShRow d L p a b -∗ WP d L (k w0 w1 w2 w3 w4 w5 w6 w7) Q)
        -∗ WP d L (.op (.load shV (Rect.unit (s := S2x128) o0 S1x16.size i0).toLoadRect f0) fun w0 =>
          .op (.load shV (Rect.unit (s := S2x128) o1 S1x16.size i1).toLoadRect f1) fun w1 =>
          .op (.load shV (Rect.unit (s := S2x128) o2 S1x16.size i2).toLoadRect f2) fun w2 =>
          .op (.load shV (Rect.unit (s := S2x128) o3 S1x16.size i3).toLoadRect f3) fun w3 =>
          .op (.load shV (Rect.unit (s := S2x128) o4 S1x16.size i4).toLoadRect f4) fun w4 =>
          .op (.load shV (Rect.unit (s := S2x128) o5 S1x16.size i5).toLoadRect f5) fun w5 =>
          .op (.load shV (Rect.unit (s := S2x128) o6 S1x16.size i6).toLoadRect f6) fun w6 =>
          .op (.load shV (Rect.unit (s := S2x128) o7 S1x16.size i7).toLoadRect f7) fun w7 => k w0 w1 w2 w3 w4 w5 w6 w7) Q) := by
  iintro H Hk
  iapply (shiftLoad 0 h0) $$ H
  iintro %w0 %e0 H
  iapply (shiftLoad 1 h1) $$ H
  iintro %w1 %e1 H
  iapply (shiftLoad 2 h2) $$ H
  iintro %w2 %e2 H
  iapply (shiftLoad 3 h3) $$ H
  iintro %w3 %e3 H
  iapply (shiftLoad 4 h4) $$ H
  iintro %w4 %e4 H
  iapply (shiftLoad 5 h5) $$ H
  iintro %w5 %e5 H
  iapply (shiftLoad 6 h6) $$ H
  iintro %w6 %e6 H
  iapply (shiftLoad 7 h7) $$ H
  iintro %w7 %e7 H
  iapply Hk $$ [] H
  ipureintro
  exact shifts_of e0 e1 e2 e3 e4 e5 e6 e7 rfl rfl rfl rfl rfl rfl rfl rfl

end Cert.Proof.Steps

end
-- ==== Proof.Deal.lean ====
/-
  How the packed array and the matrix are dealt: to each SparseCore a share of both, to each of its tiles
  a share of that, the matrix in write mode; and how the shares come back, each with its marks.
-/
module

public import proofs.«01_k».proof.Proof.Shares
public import proofs.«01_k».proof.Proof.Steps

@[expose] public section

noncomputable section

namespace Cert.Proof.Deal

open Cert.KernelIdeal Cert.KernelIdeal.Gen
open Cert.Proof Cert.Proof.Base Cert.Proof.Vals Cert.Proof.Shares Cert.Proof.Build Cert.Proof.Halves Cert.Proof.Out Cert.Proof.Steps
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {d : Dev nD} {X : XBuf F} {f0 : MBuf F} {q : PosShare TreeShare}

/-- A share of the packed array, and one of the matrix, of which the elements `M` are known written. -/
def Hold (d : Dev nD) (X : XBuf F) (f0 : MBuf F) (q : PosShare TreeShare) (M : Finset S4096x4096.Idx) : sProp (MM F) :=
  iprop((xLoc d ↦[Finset.univ]{q} X) ∗ Out.Share d X q f0 M)

theorem share_of {M : Finset S4096x4096.Idx} : (willBeTo (wmE (F := F)) (oLoc d) Finset.univ q f0 (fun e => some (OUT X e)) M : sProp (MM F)) ⊢ Out.Share d X q f0 M := by
  unfold Out.Share
  iintro H
  iexists M
  isplitr
  · ipureintro; exact fun _ h => h
  · iexact H

theorem share_weaken {M : Finset S4096x4096.Idx} : (willBeTo (wmE (F := F)) (oLoc d) Finset.univ q f0 (fun e => some (OUT X e)) M : sProp (MM F)) ⊢ Out.Share d X q f0 ∅ := by
  unfold Out.Share
  iintro H
  iexists M
  isplitr
  · ipureintro; exact Finset.empty_subset _
  · iexact H

/-- Cut into pieces, nothing known written; -/
theorem hold_split {o : ℕ} (ho : 0 < o) : Hold d X f0 q ∅ ⊢ bigSep Finset.univ fun k : Fin o => Hold d X f0 (pieceOf q o ho k) ∅ := by
  unfold Hold
  rw [bigSep_sep', pointsTo_piecesOf (ℓ := xLoc d) Finset.univ X ho q]
  iintro ⟨Hx, Ho⟩
  isplitl [Hx]; · iexact Hx
  unfold Out.Share
  icases Ho with ⟨%Mk, -, Ho⟩
  ihave Ho := (willBeTo_piecesOf ho q) $$ Ho
  have hw : (bigSep Finset.univ fun k : Fin o => (willBeTo (wmE (F := F)) (oLoc d) Finset.univ (pieceOf q o ho k) f0 (fun e => some (OUT X e)) Mk : sProp (MM F)))
      ⊢ bigSep Finset.univ fun k : Fin o => Out.Share d X (pieceOf q o ho k) f0 ∅ := bigSep_mono fun k _ => share_weaken
  iapply hw $$ Ho

/-- and joined again, with all that was written. -/
theorem hold_join {o : ℕ} (ho : 0 < o) (M : Fin o → Finset S4096x4096.Idx) :
    (bigSep Finset.univ fun k : Fin o => Hold d X f0 (pieceOf q o ho k) (M k)) ⊢ Hold d X f0 q (Finset.univ.biUnion M) := by
  unfold Hold
  rw [bigSep_sep', pointsTo_piecesOf (ℓ := xLoc d) Finset.univ X ho q]
  iintro ⟨Hx, Ho⟩
  isplitl [Hx]; · iexact Hx
  unfold Out.Share
  iapply (willBeTo_piecesOf_join_sub (emb := wmE (F := F)) (ℓ := oLoc d) (I := Finset.univ) (f := f0) (g := fun e => some (OUT X e)) ho q M) $$ Ho

/-- In two halves. -/
theorem hold_halves : Hold d X f0 q ∅ ⊢ iprop(((xLoc d ↦[Finset.univ]{q.left} X) ∗ (xLoc d ↦[Finset.univ]{q.right} X))
    ∗ Out.Share d X q.left f0 ∅ ∗ Out.Share d X q.right f0 ∅) := by
  unfold Hold
  iintro ⟨Hx, Ho⟩
  ihave Hx := (pointsTo_share (ℓ := xLoc d) (f := X) (PosShare.mem_left_op_right q)).1 $$ Hx
  isplitl [Hx]; · iexact Hx
  unfold Out.Share
  icases Ho with ⟨%Mk, -, Ho⟩
  ihave Ho := willBeTo_halves $$ Ho
  icases Ho with ⟨H1, H2⟩
  isplitl [H1]
  · iexists Mk
    isplitr
    · ipureintro; exact Finset.empty_subset _
    · iexact H1
  · iexists Mk
    isplitr
    · ipureintro; exact Finset.empty_subset _
    · iexact H2

theorem hold_halves_join {A B : Finset S4096x4096.Idx} : iprop(((xLoc d ↦[Finset.univ]{q.left} X) ∗ (xLoc d ↦[Finset.univ]{q.right} X))
    ∗ Out.Share d X q.left f0 A ∗ Out.Share d X q.right f0 B) ⊢ Hold d X f0 q (A ∪ B) := by
  unfold Hold
  iintro ⟨Hx, H1, H2⟩
  ihave Hx := (pointsTo_share (ℓ := xLoc d) (f := X) (PosShare.mem_left_op_right q)).2 $$ Hx
  isplitl [Hx]; · iexact Hx
  unfold Out.Share
  icases H1 with ⟨%M1, %h1, H1⟩
  icases H2 with ⟨%M2, %h2, H2⟩
  iexists M1 ∪ M2
  isplitr
  · ipureintro; exact Finset.union_subset_union h1 h2
  · iapply willBeTo_halves_join
    isplitl [H1] <;> iassumption

/-! ## What the launch carries -/

/-- The grid point of tile `i` of SparseCore `c`. -/
def tileL (c : Fin 2) (i : Fin 16) : grid0.Coords :=
  fun | 0 => (c : Fin (grid0.bound 0)) | 1 => (i : Fin (grid0.bound 1)) | ⟨_ + 2, h⟩ => absurd h (Nat.not_lt.2 (Nat.le_add_left _ _))

/-- The share of SparseCore `c`, and of its tile `i`. -/
def cq (c : Fin 2) : PosShare TreeShare := pieceOf fullShare 2 (by decide) c
def tq (c : Fin 2) (i : Fin 16) : PosShare TreeShare := pieceOf (cq c) 16 (by decide) i

/-- What a tile writes, and a SparseCore's tiles together. -/
def tileDone (L : grid0.Coords) : Finset S4096x4096.Idx := up L 16 ∪ low L 16
def coreDone (c : Fin 2) : Finset S4096x4096.Idx := Finset.univ.biUnion fun i : Fin 16 => tileDone (tileL c i)

variable (X : Dev nD → XBuf F) (f0 : Dev nD → MBuf F)

/-- The call takes the two arrays' shares, each task its own, and brings them back with what it wrote. -/
def P : (K (F := F)).Pay (nD := nD) (Val := Elt F) (Name := ℕ) (U := UU F) where
  st := fun q d c => match q with | 0 => Hold d (X d) (f0 d) (cq (Fin.cast nCore_zero c)) ∅
  dn := fun q d c => match q with | 0 => Hold d (X d) (f0 d) (cq (Fin.cast nCore_zero c)) (coreDone (Fin.cast nCore_zero c))
  go := fun q d c i => match q with | 0 => Hold d (X d) (f0 d) (tq (Fin.cast nCore_zero c) (Fin.cast nSub_zero i)) ∅
  td := fun q d c i => match q with
    | 0 => Hold d (X d) (f0 d) (tq (Fin.cast nCore_zero c) (Fin.cast nSub_zero i)) (tileDone (tileL (Fin.cast nCore_zero c) (Fin.cast nSub_zero i)))
  x := fun _ _ => WmI

instance hold_storable {d : Dev nD} {X : XBuf F} {f0 : MBuf F} {q : PosShare TreeShare} {M : Finset S4096x4096.Idx} :
    BI.Storable (upEmb : UEmb _ (MM F)) (Hold d X f0 q M) := by
  unfold Hold Out.Share; infer_instance

instance P_storable : (P (F := F) X f0).IsStorable where
  st q d c := match q with
    | 0 => (inferInstance : BI.Storable (upEmb : UEmb _ (MM F)) (Hold d (X d) (f0 d) (cq (Fin.cast nCore_zero c)) ∅))
  dn q d c := match q with
    | 0 => (inferInstance : BI.Storable (upEmb : UEmb _ (MM F)) (Hold d (X d) (f0 d) (cq (Fin.cast nCore_zero c)) (coreDone (Fin.cast nCore_zero c))))
  go q d c i := match q with
    | 0 => (inferInstance : BI.Storable (upEmb : UEmb _ (MM F)) (Hold d (X d) (f0 d) (tq (Fin.cast nCore_zero c) (Fin.cast nSub_zero i)) ∅))
  td q d c i := match q with
    | 0 => (inferInstance : BI.Storable (upEmb : UEmb _ (MM F))
      (Hold d (X d) (f0 d) (tq (Fin.cast nCore_zero c) (Fin.cast nSub_zero i)) (tileDone (tileL (Fin.cast nCore_zero c) (Fin.cast nSub_zero i)))))

theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp (MM F)) :
    (bigSep Finset.univ fun c : Fin ((K (F := F)).nCore 0) => Φ (Fin.cast nCore_zero c)) = bigSep Finset.univ Φ :=
  bigSep_congr fun _ _ => congrArg Φ (Fin.ext rfl)

/-- A SparseCore's share is its tiles' shares, and comes back from them. -/
theorem vecSplit : (K (F := F)).VecSplit' (P X f0) 0 := by
  intro d c
  show Hold d (X d) (f0 d) (cq (Fin.cast nCore_zero c)) ∅ ⊢ |={Set.univ}=> iprop(
      (bigSep Finset.univ fun i : Fin ((K (F := F)).nSub 0) => Hold d (X d) (f0 d) (tq (Fin.cast nCore_zero c) (Fin.cast nSub_zero i)) ∅)
      ∗ ((bigSep Finset.univ fun i : Fin ((K (F := F)).nSub 0) =>
          Hold d (X d) (f0 d) (tq (Fin.cast nCore_zero c) (Fin.cast nSub_zero i)) (tileDone (tileL (Fin.cast nCore_zero c) (Fin.cast nSub_zero i))))
          -∗ Hold d (X d) (f0 d) (cq (Fin.cast nCore_zero c)) (coreDone (Fin.cast nCore_zero c))))
  generalize (Fin.cast nCore_zero c : Fin 2) = c
  rw [bigSep_tasks (F := F) (fun i => Hold d (X d) (f0 d) (tq c i) ∅),
    bigSep_tasks (F := F) (fun i => Hold d (X d) (f0 d) (tq c i) (tileDone (tileL c i)))]
  have hj : (bigSep Finset.univ fun i : Fin 16 => Hold d (X d) (f0 d) (tq c i) (tileDone (tileL c i))) ⊢ Hold d (X d) (f0 d) (cq c) (coreDone c) :=
    hold_join (by decide) fun i => tileDone (tileL c i)
  iintro H; imodintro
  isplitl [H]
  · iapply (hold_split (by decide)) $$ H
  · iintro H
    iapply hj $$ H

/-- The whole arrays are the SparseCores' shares; -/
theorem cores_split (d : Dev nD) : Hold d (X d) (f0 d) fullShare ∅ ⊢ bigSep Finset.univ fun c : Fin ((K (F := F)).nCore 0) => (P X f0).st 0 d c := by
  show _ ⊢ bigSep Finset.univ fun c : Fin ((K (F := F)).nCore 0) => Hold d (X d) (f0 d) (cq (Fin.cast nCore_zero c)) ∅
  rw [bigSep_cores (F := F) (fun c => Hold d (X d) (f0 d) (cq c) ∅)]
  exact hold_split (by decide)

theorem cores_join (d : Dev nD) : (bigSep Finset.univ fun c : Fin ((K (F := F)).nCore 0) => (P X f0).dn 0 d c)
    ⊢ Hold d (X d) (f0 d) fullShare (Finset.univ.biUnion coreDone) := by
  show (bigSep Finset.univ fun c : Fin ((K (F := F)).nCore 0) => Hold d (X d) (f0 d) (cq (Fin.cast nCore_zero c)) (coreDone (Fin.cast nCore_zero c))) ⊢ _
  rw [bigSep_cores (F := F) (fun c => Hold d (X d) (f0 d) (cq c) (coreDone c))]
  exact hold_join (by decide) coreDone

/-- The tiles write the whole matrix. -/
theorem all_done (e : S4096x4096.Idx) : e ∈ Finset.univ.biUnion coreDone := by
  obtain ⟨L, h⟩ := Coords.cover (show (e 0).val < 4096 from (e 0).isLt) (show (e 1).val < 4096 from (e 1).isLt)
  have hL : L = tileL (L 0) (L 1) := by
    funext a
    match a with
    | 0 => rfl
    | 1 => rfl
  have up_mem : ∀ {n k : ℕ}, k < n → ∀ {e}, e ∈ blk (Coords.mn L k) (Coords.mx L k) → e ∈ up L n := by
    intro n
    induction n with
    | zero => intro k hk; omega
    | succ n ih =>
      intro k hk e he
      rcases Nat.lt_succ_iff_lt_or_eq.mp hk with h | h
      · exact Finset.mem_union_left _ (ih h he)
      · subst h; exact Finset.mem_union_right _ he
  have low_mem : ∀ {n k : ℕ}, k < n → ∀ {e}, e ∈ blk (Coords.mx L k) (Coords.mn L k) → e ∈ low L n := by
    intro n
    induction n with
    | zero => intro k hk; omega
    | succ n ih =>
      intro k hk e he
      rcases Nat.lt_succ_iff_lt_or_eq.mp hk with h | h
      · exact Finset.mem_union_left _ (ih h he)
      · subst h; exact Finset.mem_union_right _ he
  have dn_mem : ∀ {n : ℕ} {e}, e ∈ blk (Coords.dn L) (Coords.dn L) → e ∈ up L n := by
    intro n
    induction n with
    | zero => intro e he; exact Finset.mem_union_right _ he
    | succ n ih => intro e he; exact Finset.mem_union_left _ (ih he)
  have hm : e ∈ tileDone L := by
    rcases h with h | ⟨k, hk, h | h⟩
    · exact Finset.mem_union_left _ (dn_mem (mem_blk.mpr h))
    · exact Finset.mem_union_left _ (up_mem hk (mem_blk.mpr h))
    · exact Finset.mem_union_right _ (low_mem hk (mem_blk.mpr h))
  rw [hL] at hm
  exact Finset.mem_biUnion.mpr ⟨(L 0 : Fin 2), Finset.mem_univ _, Finset.mem_biUnion.mpr ⟨(L 1 : Fin 16), Finset.mem_univ _, hm⟩⟩

end Cert.Proof.Deal

end
-- ==== Proof.Words.lean ====
/-
  The words of the loop over a tile's units, read as numbers: the unit's number, the conditions of its
  three guards, the corners of its two blocks.
-/
module

public import proofs.«01_k».proof.Proof.Coords

@[expose] public section

noncomputable section

namespace Cert.Proof.Words

open Cert.KernelIdeal Cert.KernelIdeal.Gen
open Cert.Proof Cert.Proof.Base Cert.Proof.Arith Cert.Proof.Coords
open Idealize.ShloMosaic

theorem cond1 : ∀ t : Fin k0_t5_loop.trips, k0_cond1 t = 1#1 ↔ 0 < 2 * t.val := by decide +kernel
theorem cond2 : ∀ t : Fin k0_t5_loop.trips, k0_cond2 t = 1#1 ↔ 2 * t.val + 2 < 16 := by decide +kernel
theorem cond3 : ∀ t : Fin k0_t5_loop.trips, k0_cond3 t = 1#1 ↔ 2 * t.val + 3 < 16 := by decide +kernel
theorem t5_trips : k0_t5_loop.trips = 8 := by decide +kernel
theorem t5_lt (t : Fin k0_t5_loop.trips) : t.val < 8 := lt_of_lt_of_eq t.isLt t5_trips

/-- The number of the trip's first unit, second unit, and of the ones after them, as the kernel computes them. -/
def evenW (t : Fin k0_t5_loop.trips) : BitVec 32 := Scalar.addi (Scalar.muli 2#32 (Scf.iv 0#32 1#32 t)) 0#32
def oddW (t : Fin k0_t5_loop.trips) : BitVec 32 := Scalar.addi (Scalar.muli 2#32 (Scf.iv 0#32 1#32 t)) 1#32

theorem even_num : ∀ t : Fin k0_t5_loop.trips, Scalar.muli (evenW t) 32#32 = BitVec.ofNat 32 (32 * (2 * t.val)) := by decide +kernel
theorem odd_num : ∀ t : Fin k0_t5_loop.trips, Scalar.muli (oddW t) 32#32 = BitVec.ofNat 32 (32 * (2 * t.val + 1)) := by decide +kernel
theorem even_next : ∀ t : Fin k0_t5_loop.trips, Scalar.muli (Scalar.addi (evenW t) 2#32) 32#32 = BitVec.ofNat 32 (32 * (2 * t.val + 2)) := by decide +kernel
theorem odd_next : ∀ t : Fin k0_t5_loop.trips, Scalar.muli (Scalar.addi (oddW t) 2#32) 32#32 = BitVec.ofNat 32 (32 * (2 * t.val + 3)) := by decide +kernel

/-- A unit's word, from the word of `32 k`. -/
def unitW (L : grid0.Coords) (w : BitVec 32) : BitVec 32 := Scalar.minsi (Scalar.addi w (widW L)) 495#32

theorem unitW_val {L : grid0.Coords} {w : BitVec 32} {k : ℕ} (hk : k < 16) (hw : w = BitVec.ofNat 32 (32 * k)) :
    unitW L w = BitVec.ofNat 32 (unit L k) := unit_word L hk hw

/-- The words of a trip's two units, and of the two that follow them. -/
def unitE (L : grid0.Coords) (t : Fin k0_t5_loop.trips) : BitVec 32 := unitW L (Scalar.muli (evenW t) 32#32)
def unitO (L : grid0.Coords) (t : Fin k0_t5_loop.trips) : BitVec 32 := unitW L (Scalar.muli (oddW t) 32#32)
def unitE' (L : grid0.Coords) (t : Fin k0_t5_loop.trips) : BitVec 32 := unitW L (Scalar.muli (Scalar.addi (evenW t) 2#32) 32#32)
def unitO' (L : grid0.Coords) (t : Fin k0_t5_loop.trips) : BitVec 32 := unitW L (Scalar.muli (Scalar.addi (oddW t) 2#32) 32#32)

variable {L : grid0.Coords} {t : Fin k0_t5_loop.trips}

/-! The two sums of the trip's first unit, of its second, and of the two that follow them. -/

abbrev loE (L : grid0.Coords) (t : Fin k0_t5_loop.trips) : BitVec 32 := extractAt ![15] (k0_pay80 (widW L) lanes 0#32 1#32 t) inpos_S16_p15
abbrev hiE (L : grid0.Coords) (t : Fin k0_t5_loop.trips) : BitVec 32 := extractAt ![15] (k0_pay82 (k0_pay81 (widW L) lanes 0#32 1#32 t)) inpos_S16_p15
abbrev loO (L : grid0.Coords) (t : Fin k0_t5_loop.trips) : BitVec 32 := extractAt ![15] (k0_pay99 (widW L) lanes (Scf.iv 0#32 1#32 t)) inpos_S16_p15
abbrev hiO (L : grid0.Coords) (t : Fin k0_t5_loop.trips) : BitVec 32 := extractAt ![15] (k0_pay103 (Scalar.minsi (Scalar.addi (Scalar.muli (Scalar.addi (Scalar.muli 2#32 (Scf.iv 0#32 1#32 t)) 1#32) 32#32) (widW L)) 495#32) (k0_pay100 lanes) (k0_pay101 lanes) (k0_pay102 lanes)) inpos_S16_p15
abbrev loE' (L : grid0.Coords) (t : Fin k0_t5_loop.trips) : BitVec 32 := extractAt ![15] (k0_pay60 (widW L) lanes (Scalar.addi (Scalar.muli 2#32 (Scf.iv 0#32 1#32 t)) 0#32)) inpos_S16_p15
abbrev hiE' (L : grid0.Coords) (t : Fin k0_t5_loop.trips) : BitVec 32 := extractAt ![15] (k0_pay61 (widW L) lanes (Scalar.addi (Scalar.muli 2#32 (Scf.iv 0#32 1#32 t)) 0#32)) inpos_S16_p15
abbrev loO' (L : grid0.Coords) (t : Fin k0_t5_loop.trips) : BitVec 32 := extractAt ![15] (k0_pay78 (widW L) lanes (Scalar.addi (Scalar.muli 2#32 (Scf.iv 0#32 1#32 t)) 1#32)) inpos_S16_p15
abbrev hiO' (L : grid0.Coords) (t : Fin k0_t5_loop.trips) : BitVec 32 := extractAt ![15] (k0_pay79 (widW L) lanes (Scalar.addi (Scalar.muli 2#32 (Scf.iv 0#32 1#32 t)) 1#32)) inpos_S16_p15

set_option maxHeartbeats 4000000 in
theorem off19_val : k0_off19 L t (loE L t) (hiE L t) = ![mn L (2 * t.val), mx L (2 * t.val)] :=
  off_up (unitW_val (by have := t5_lt t; omega) (even_num t)) rfl

set_option maxHeartbeats 4000000 in
theorem off28_val : k0_off28 L t (loE L t) (hiE L t) = ![mx L (2 * t.val), mn L (2 * t.val)] :=
  off_low (unitW_val (by have := t5_lt t; omega) (even_num t)) rfl

set_option maxHeartbeats 4000000 in
theorem off37_val : k0_off37 L t (loE L t) (hiE L t) = ![mx L (2 * t.val), mn L (2 * t.val)] :=
  off_low (unitW_val (by have := t5_lt t; omega) (even_num t)) rfl

set_option maxHeartbeats 4000000 in
theorem off41_val : k0_off41 L t (loO L t) (hiO L t) = ![mn L (2 * t.val + 1), mx L (2 * t.val + 1)] :=
  off_up (unitW_val (by have := t5_lt t; omega) (odd_num t)) rfl

set_option maxHeartbeats 4000000 in
theorem off50_val : k0_off50 L t (loO L t) (hiO L t) = ![mx L (2 * t.val + 1), mn L (2 * t.val + 1)] :=
  off_low (unitW_val (by have := t5_lt t; omega) (odd_num t)) rfl

theorem chk17 : k0_chk17 L t (loE L t) (hiE L t) := by
  have h := mn_le L (2 * t.val)
  exact ⟨inb_of off19_val (by omega) (by omega), fun _ => inb_of off28_val (by omega) (by omega), inb_of off37_val (by omega) (by omega)⟩

theorem chk34 : k0_chk34 L t (loO L t) (hiO L t) := by
  have h := mn_le L (2 * t.val + 1)
  exact ⟨inb_of off41_val (by omega) (by omega), inb_of off50_val (by omega) (by omega)⟩

/-! Where the two preparing loops of a trip store. -/

theorem t8_trips : k0_t8_loop.trips = 8 := by decide +kernel
theorem t11_trips : k0_t11_loop.trips = 8 := by decide +kernel
theorem off38_val : ∀ t, k0_off38 t = ![0, 16 * t.val] := by decide +kernel
theorem off39_val : ∀ t, k0_off39 t = ![0, 0, 16 * t.val] := by decide +kernel
theorem off40_val : ∀ t, k0_off40 t = ![0, 1, 16 * t.val] := by decide +kernel
theorem off59_val : ∀ t, k0_off59 t = ![1, 16 * t.val] := by decide +kernel
theorem off60_val : ∀ t, k0_off60 t = ![1, 0, 16 * t.val] := by decide +kernel
theorem off61_val : ∀ t, k0_off61 t = ![1, 1, 16 * t.val] := by decide +kernel

/-! Each unit's two first rows, from its two sums. -/

theorem mn_even : Scalar.muli (Scalar.addi (Scalar.addi 4294967295#32 (loE L t)) (hiE L t)) 128#32 = BitVec.ofNat 32 (mn L (2 * t.val)) :=
  mn_word (unitW_val (by have := t5_lt t; omega) (even_num t))
theorem mx_even : Scalar.muli (Scalar.addi (Scalar.addi (Scalar.addi (Scalar.addi 4294967295#32 (loE L t)) (hiE L t)) 1#32) (Scalar.subi (Scalar.minsi (Scalar.addi (Scalar.muli (Scalar.addi (Scalar.muli 2#32 (Scf.iv 0#32 1#32 t)) 0#32) 32#32) (widW L)) 495#32) (Scalar.subi (Scalar.muli 31#32 (Scalar.addi (Scalar.addi 4294967295#32 (loE L t)) (hiE L t))) (Scalar.shrui (Scalar.muli (Scalar.addi (Scalar.addi 4294967295#32 (loE L t)) (hiE L t)) (Scalar.subi (Scalar.addi (Scalar.addi 4294967295#32 (loE L t)) (hiE L t)) 1#32)) 1#32)))) 128#32 = BitVec.ofNat 32 (mx L (2 * t.val)) :=
  mx_word (unitW_val (by have := t5_lt t; omega) (even_num t))
theorem mn_odd : Scalar.muli (Scalar.addi (Scalar.addi 4294967295#32 (loO L t)) (hiO L t)) 128#32 = BitVec.ofNat 32 (mn L (2 * t.val + 1)) :=
  mn_word (unitW_val (by have := t5_lt t; omega) (odd_num t))
theorem mx_odd : Scalar.muli (Scalar.addi (Scalar.addi (Scalar.addi (Scalar.addi 4294967295#32 (loO L t)) (hiO L t)) 1#32) (Scalar.subi (Scalar.minsi (Scalar.addi (Scalar.muli (Scalar.addi (Scalar.muli 2#32 (Scf.iv 0#32 1#32 t)) 1#32) 32#32) (widW L)) 495#32) (Scalar.subi (Scalar.muli 31#32 (Scalar.addi (Scalar.addi 4294967295#32 (loO L t)) (hiO L t))) (Scalar.shrui (Scalar.muli (Scalar.addi (Scalar.addi 4294967295#32 (loO L t)) (hiO L t)) (Scalar.subi (Scalar.addi (Scalar.addi 4294967295#32 (loO L t)) (hiO L t)) 1#32)) 1#32)))) 128#32 = BitVec.ofNat 32 (mx L (2 * t.val + 1)) :=
  mx_word (unitW_val (by have := t5_lt t; omega) (odd_num t))
theorem mn_even' (h : 2 * t.val + 2 < 16) : Scalar.muli (Scalar.addi (Scalar.addi 4294967295#32 (loE' L t)) (hiE' L t)) 128#32 = BitVec.ofNat 32 (mn L (2 * t.val + 2)) :=
  mn_word (unitW_val h (even_next t))
theorem mx_even' (h : 2 * t.val + 2 < 16) : Scalar.muli (Scalar.addi (Scalar.addi (Scalar.addi (Scalar.addi 4294967295#32 (loE' L t)) (hiE' L t)) 1#32) (Scalar.subi (Scalar.minsi (Scalar.addi (Scalar.muli (Scalar.addi (Scalar.addi (Scalar.muli 2#32 (Scf.iv 0#32 1#32 t)) 0#32) 2#32) 32#32) (widW L)) 495#32) (Scalar.subi (Scalar.muli 31#32 (Scalar.addi (Scalar.addi 4294967295#32 (loE' L t)) (hiE' L t))) (Scalar.shrui (Scalar.muli (Scalar.addi (Scalar.addi 4294967295#32 (loE' L t)) (hiE' L t)) (Scalar.subi (Scalar.addi (Scalar.addi 4294967295#32 (loE' L t)) (hiE' L t)) 1#32)) 1#32)))) 128#32 = BitVec.ofNat 32 (mx L (2 * t.val + 2)) :=
  mx_word (unitW_val h (even_next t))
theorem mn_odd' (h : 2 * t.val + 3 < 16) : Scalar.muli (Scalar.addi (Scalar.addi 4294967295#32 (loO' L t)) (hiO' L t)) 128#32 = BitVec.ofNat 32 (mn L (2 * t.val + 3)) :=
  mn_word (unitW_val h (odd_next t))
theorem mx_odd' (h : 2 * t.val + 3 < 16) : Scalar.muli (Scalar.addi (Scalar.addi (Scalar.addi (Scalar.addi 4294967295#32 (loO' L t)) (hiO' L t)) 1#32) (Scalar.subi (Scalar.minsi (Scalar.addi (Scalar.muli (Scalar.addi (Scalar.addi (Scalar.muli 2#32 (Scf.iv 0#32 1#32 t)) 1#32) 2#32) 32#32) (widW L)) 495#32) (Scalar.subi (Scalar.muli 31#32 (Scalar.addi (Scalar.addi 4294967295#32 (loO' L t)) (hiO' L t))) (Scalar.shrui (Scalar.muli (Scalar.addi (Scalar.addi 4294967295#32 (loO' L t)) (hiO' L t)) (Scalar.subi (Scalar.addi (Scalar.addi 4294967295#32 (loO' L t)) (hiO' L t)) 1#32)) 1#32)))) 128#32 = BitVec.ofNat 32 (mx L (2 * t.val + 3)) :=
  mx_word (unitW_val h (odd_next t))

/-! ## The units outside the loop -/

/-! The two sums of a tile's first unit, of its second, and of its last. -/

abbrev loA (L : grid0.Coords) : BitVec 32 := extractAt ![15] (k0_pay136 (widW L) lanes) inpos_S16_p15
abbrev hiA (L : grid0.Coords) : BitVec 32 := extractAt ![15] (k0_pay139 (Scalar.minsi (Scalar.addi 0#32 (widW L)) 495#32) (k0_pay137 lanes) (k0_pay138 lanes) 1#32) inpos_S16_p15
abbrev loB (L : grid0.Coords) : BitVec 32 := extractAt ![15] (k0_pay140 (widW L) lanes) inpos_S16_p15
abbrev hiB (L : grid0.Coords) : BitVec 32 := extractAt ![15] (k0_pay142 (k0_pay141 (widW L) lanes)) inpos_S16_p15
abbrev loZ (L : grid0.Coords) : BitVec 32 := extractAt ![15] (k0_pay151 lanes (Scalar.addi 480#32 (widW L)) 495#32) inpos_S16_p15
abbrev hiZ (L : grid0.Coords) : BitVec 32 := extractAt ![15] (k0_pay152 lanes (Scalar.addi 480#32 (widW L)) 495#32) inpos_S16_p15

theorem mn_first : Scalar.muli (Scalar.addi (Scalar.addi 4294967295#32 (loA L)) (hiA L)) 128#32 = BitVec.ofNat 32 (mn L 0) :=
  mn_word (unitW_val (w := 0#32) (by omega) rfl)
theorem mx_first : Scalar.muli (Scalar.addi (Scalar.addi (Scalar.addi (Scalar.addi 4294967295#32 (loA L)) (hiA L)) 1#32) (Scalar.subi (Scalar.minsi (Scalar.addi 0#32 (widW L)) 495#32) (Scalar.subi (Scalar.muli 31#32 (Scalar.addi (Scalar.addi 4294967295#32 (loA L)) (hiA L))) (Scalar.shrui (Scalar.muli (Scalar.addi (Scalar.addi 4294967295#32 (loA L)) (hiA L)) (Scalar.subi (Scalar.addi (Scalar.addi 4294967295#32 (loA L)) (hiA L)) 1#32)) 1#32)))) 128#32 = BitVec.ofNat 32 (mx L 0) :=
  mx_word (unitW_val (w := 0#32) (by omega) rfl)
theorem mn_second : Scalar.muli (Scalar.addi (Scalar.addi 4294967295#32 (loB L)) (hiB L)) 128#32 = BitVec.ofNat 32 (mn L 1) :=
  mn_word (unitW_val (w := 32#32) (by omega) rfl)
theorem mx_second : Scalar.muli (Scalar.addi (Scalar.addi (Scalar.addi (Scalar.addi 4294967295#32 (loB L)) (hiB L)) 1#32) (Scalar.subi (Scalar.minsi (Scalar.addi 32#32 (widW L)) 495#32) (Scalar.subi (Scalar.muli 31#32 (Scalar.addi (Scalar.addi 4294967295#32 (loB L)) (hiB L))) (Scalar.shrui (Scalar.muli (Scalar.addi (Scalar.addi 4294967295#32 (loB L)) (hiB L)) (Scalar.subi (Scalar.addi (Scalar.addi 4294967295#32 (loB L)) (hiB L)) 1#32)) 1#32)))) 128#32 = BitVec.ofNat 32 (mx L 1) :=
  mx_word (unitW_val (w := 32#32) (by omega) rfl)

set_option maxHeartbeats 4000000 in
theorem off62_val : k0_off62 L (loZ L) (hiZ L) = ![mn L 15, mx L 15] :=
  off_up (unitW_val (w := 480#32) (by omega) rfl) rfl

set_option maxHeartbeats 4000000 in
theorem off63_val : k0_off63 L (loZ L) (hiZ L) = ![mx L 15, mn L 15] :=
  off_low (unitW_val (w := 480#32) (by omega) rfl) rfl

theorem chk51 : k0_chk51 L (loZ L) (hiZ L) := by
  have h := mn_le L 15
  exact ⟨inb_of off62_val (by omega) (by omega), inb_of off63_val (by omega) (by omega)⟩

/-! Where the preparing loops outside the loop over the units store. -/

theorem t1_trips : k0_t1_loop.trips = 8 := by decide +kernel
theorem t3_trips : k0_t3_loop.trips = 8 := by decide +kernel
theorem t4_trips : k0_t4_loop.trips = 8 := by decide +kernel
theorem off1_val : ∀ t, k0_off1 t = ![0, 16 * t.val] := by decide +kernel
theorem off2_val : ∀ t, k0_off2 t = ![0, 0, 16 * t.val] := by decide +kernel
theorem off3_val : ∀ t, k0_off3 t = ![0, 1, 16 * t.val] := by decide +kernel
theorem off13_val : ∀ t, k0_off13 t = ![0, 16 * t.val] := by decide +kernel
theorem off14_val : ∀ t, k0_off14 t = ![0, 0, 16 * t.val] := by decide +kernel
theorem off15_val : ∀ t, k0_off15 t = ![0, 1, 16 * t.val] := by decide +kernel
theorem off16_val : ∀ t, k0_off16 t = ![1, 16 * t.val] := by decide +kernel
theorem off17_val : ∀ t, k0_off17 t = ![1, 0, 16 * t.val] := by decide +kernel
theorem off18_val : ∀ t, k0_off18 t = ![1, 1, 16 * t.val] := by decide +kernel

end Cert.Proof.Words

end
-- ==== Proof.Unit.lean ====
/-
  One trip of a tile's loop over its units: two units, each awaited, written out as its two blocks, and
  replaced by the unit two further on.
-/
module

public import proofs.«01_k».proof.Proof.Steps
public import proofs.«01_k».proof.Proof.Words

@[expose] public section

noncomputable section

namespace Cert.Proof.Unit

open Cert.KernelIdeal Cert.KernelIdeal.Gen
open Cert.Proof Cert.Proof.Base Cert.Proof.Vals Cert.Proof.Build Cert.Proof.Row Cert.Proof.Piece Cert.Proof.StageLoad Cert.Proof.Halves Cert.Proof.Stream
open Cert.Proof.Loops Cert.Proof.Out Cert.Proof.Steps Cert.Proof.Words
open Cert.Proof.Coords (wid unit mn mx mn_le dn dn_le widW lanes lanes_iota mn_word mx_word)
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {d : Dev nD} {L : grid0.Coords} {X : XBuf F} {qx0 qx1 qo0 qo1 : PosShare TreeShare} {f0 : MBuf F}
variable {O : CellTallies nD τ sig (HIx 1)} {W : Waits sig (HIx 1)} {ιw : ℕ}

attribute [local irreducible] widW lanes Scalar.addi Scalar.muli Scalar.subi Scalar.minsi Scalar.shrui Scf.iv k0_pay100 k0_pay101 k0_pay102 k0_pay103 k0_pay60 k0_pay61 k0_pay78 k0_pay79 k0_pay80 k0_pay81 k0_pay82 k0_pay99 extractAt

/-- A tile before its `k`-th unit, `k` even. -/
def Turn (d : Dev nD) (L : grid0.Coords) (X : XBuf F) (qx0 qx1 qo0 qo1 : PosShare TreeShare) (f0 : MBuf F)
    (O : CellTallies nD τ sig (HIx 1)) (W : Waits sig (HIx 1)) (k : ℕ) : sProp (MM F) :=
  iprop(Shs d L 0 k ∗ Shs d L 1 (k + 1) ∗ Half d L X qx0 0 cc0_scratch4.sem k ∗ Half d L X qx1 1 cc0_scratch5.sem (k + 1)
    ∗ Sent d L X qo0 f0 cc0_scratch6.sem 0 (up L k) ∗ Slot1 d L X qo1 f0 cc0_scratch7.sem k ∗ Ow d L O W)

set_option maxHeartbeats 16000000 in
set_option maxRecDepth 65536 in
/-- A trip takes a tile two units further. -/
theorem turn {v4 v6 v8 v10 v12 v14 v16 v18 : IVec S16 32} (hq : Lanes ![v4, v6, v8, v10, v12, v14, v16, v18])
    (t : Fin k0_t5_loop.trips) (u : Unit) (v118 v137 : BitVec 32) (v152 : IVec S16 32) :
    iprop((wmInv (wmE (F := F)) ιw ∗ Transfers.MayWaits (thr d L) ιW O) ∗ Turn d L X qx0 qx1 qo0 qo1 f0 O W (2 * t.val))
      ⊢ WP d L (k0_t5_body (F := F) L xV (Memref.isWhole_whole _) oV (Memref.isWhole_whole _) ixV (Memref.isWhole_whole _) sgV (Memref.isWhole_whole _)
        obV (Memref.isWhole_whole _) shV (Memref.isWhole_whole _) cc0_scratch4 cc0_scratch5 cc0_scratch6 cc0_scratch7 (widW L) lanes
        v4 v6 v8 v10 v12 v14 v16 v18 v118 v137 v152 t u) fun _ => Turn d L X qx0 qx1 qo0 qo1 f0 O W (2 * t.val + 2) := by
  have hk := t5_lt t
  have hm0 := mn_le L (2 * t.val)
  have hm1 := mn_le L (2 * t.val + 1)
  obtain ⟨E1, hR1⟩ := reach_half (d := d) (L := L) (X := X) (qx := qx1) (p := 1) (ιw := ιw) (sm := cc0_scratch5.sem) (2 * t.val + 1)
  obtain ⟨E0, hR0⟩ := reach_half (d := d) (L := L) (X := X) (qx := qx0) (p := 0) (ιw := ιw) (sm := cc0_scratch4.sem) (2 * t.val + 2)
  unfold k0_t5_body
  simp only [k0_part16_eq_skeleton, k0_part17_eq_skeleton, k0_part18_eq_skeleton, k0_part19_eq_skeleton, k0_part20_eq_skeleton, k0_part21_eq_skeleton]
  unfold k0_part16_skel k0_part17_skel k0_part18_skel k0_part19_skel k0_part20_skel k0_part21_skel
  simp only [k0_part11_eq_skeleton, k0_part15_eq_skeleton]
  unfold k0_part11_skel k0_part15_skel
  simp only [Prog.lift, Prog.bind_op, Prog.bind_ret, Prog.pure_eq_ret, Prog.bind_assoc]
  unfold Turn
  iintro ⟨⟨#Hwm, #Hmw⟩, Hs0, Hs1, Hf0, Hf1, Ho0, Ho1, HO⟩
  ihave Hs0 := (shs_lt (k := 2 * t.val) (by omega)) $$ Hs0
  ihave Hs1 := (shs_lt (k := 2 * t.val + 1) (by omega)) $$ Hs1
  -- the first unit
  iapply (wp_assume 𝒱₀ (thr d L) none Set.univ chk17)
  ihave Hf0 := (Entails.of_eq (half_lt (k := 2 * t.val) (by omega))) $$ Hf0
  iapply (collect (O := O) (W := W)) $$ [Hf0 HO]
  · isplitr
    · isplitr; · iexact Hwm
      iexact Hmw
    isplitl [Hf0] <;> iassumption
  iintro Hr0 HO
  iapply (shiftLoads (p := 0) rfl rfl rfl rfl rfl rfl rfl rfl) $$ Hs0
  iintro %w0 %w1 %w2 %w3 %w4 %w5 %w6 %w7 %hsh Hs0
  iapply (settle (O := O) (W := W)) $$ [Ho0 HO]
  · isplitr; · iexact Hmw
    isplitl [Ho0] <;> iassumption
  iintro Ho0 HO
  iapply (upOut (p := 0) hR1 rfl hm0.1 hm0.2 hq rfl mn_even mx_even (by decide +kernel) (fun t => Nat.lt_trans (t6_trips t) (by decide)) t6_off
    (fun t u => t6_eq L _ _ _ _ _ _ _ _ _ _ _ _ _ _ _ _ _ _ _ t u) rfl off19_val) $$ [Hr0 Hf1 Ho0]
  · isplitr; · iexact Hwm
    isplitl [Hr0]; · iexact Hr0
    isplitl [Hf1] <;> iassumption
  iintro Hr0 Hf1 Ho0
  iapply (Entails.of_eq (wp_split (F := F) ..).symm)
  iapply (settle_guard (d := d) (L := L) (X := X) (qo := qo1) (f0 := f0) (so := cc0_scratch7.sem) (O := O) (W := W) (cond1 t) ?_ ?_) $$ [Ho1 HO]
  · intro h; rfl
  · intro h Q'
    iintro ⟨#Hm, H, HO⟩ Hk
    iapply (settle (O := O) (W := W)) $$ [H HO]
    · isplitr; · iexact Hm
      isplitl [H] <;> iassumption
    iexact Hk
  · isplitr; · iexact Hmw
    isplitl [Ho1] <;> iassumption
  iintro Ho1 HO
  iapply (Entails.of_eq (wp_split (F := F) ..))
  simp only [Prog.bind_op, Prog.bind_ret, Prog.bind_assoc]
  iapply (lowOut (p := 0) hR1 rfl hm0.1 hm0.2 hq hsh rfl (by decide +kernel) (fun t => Nat.add_lt_add_right (t7_trips t) 128) t7_off
    (fun t u => t7_eq L _ _ _ _ _ _ _ _ _ _ _ _ _ _ _ _ _ _ _ _ _ _ _ _ t u) rfl off37_val) $$ [Hr0 Hf1 Ho1]
  · isplitr; · iexact Hwm
    isplitl [Hr0]; · iexact Hr0
    isplitl [Hf1] <;> iassumption
  iintro Hr0 Hf1 Ho1
  iapply (Entails.of_eq (wp_split (F := F) ..).symm)
  iapply (start_guard (d := d) (L := L) (X := X) (ιw := ιw) (qx := qx0) (p := 0) (sm := cc0_scratch4.sem) (a' := mn L (2 * t.val))
    (b' := mx L (2 * t.val)) (a := mn L (2 * t.val)) (b := mx L (2 * t.val)) (cond2 t) ?_ ?_) $$ [Hs0 Hr0]
  · intro h; rfl
  · intro h Q'
    have hn := mn_le L (2 * t.val + 2)
    iintro H Hk
    iapply (start (d := d) (L := L) (X := X) (ιw := ιw) (qx := qx0) (p := 0) (a := mn L (2 * t.val + 2)) (b := mx L (2 * t.val + 2)) (by omega) (by omega) lanes_iota (mn_even' (L := L) ((cond2 t).mp h)) (mx_even' (L := L) ((cond2 t).mp h)) t8_trips off38_val off39_val
      off40_val (fun u v => t8_eq L _ _ _ _ _ _ _ _ _ _ _ u v) rfl rfl rfl rfl) $$ H
    iexact Hk
  · isplitr; · iexact Hwm
    isplitl [Hs0] <;> iassumption
  iintro Hs0 Hf0
  iapply (Entails.of_eq (wp_split (F := F) ..))
  simp only [Prog.bind_op, Prog.bind_ret, Prog.bind_assoc]
  -- the second unit
  iapply (wp_assume 𝒱₀ (thr d L) none Set.univ chk34)
  ihave Hf1 := (Entails.of_eq (half_lt (k := 2 * t.val + 1) (by omega))) $$ Hf1
  iapply (collect (O := O) (W := W)) $$ [Hf1 HO]
  · isplitr
    · isplitr; · iexact Hwm
      iexact Hmw
    isplitl [Hf1] <;> iassumption
  iintro Hr1 HO
  iapply (shiftLoads (p := 1) rfl rfl rfl rfl rfl rfl rfl rfl) $$ Hs1
  iintro %x0 %x1 %x2 %x3 %x4 %x5 %x6 %x7 %hsh' Hs1
  iapply (settle (O := O) (W := W)) $$ [Ho0 HO]
  · isplitr; · iexact Hmw
    isplitl [Ho0] <;> iassumption
  iintro Ho0 HO
  iapply (upOut (p := 1) hR0 rfl hm1.1 hm1.2 hq rfl mn_odd mx_odd (by decide +kernel) (fun t => Nat.lt_trans (t9_trips t) (by decide)) t9_off
    (fun t u => t9_eq L _ _ _ _ _ _ _ _ _ _ _ _ _ _ t u) rfl off41_val) $$ [Hr1 Hf0 Ho0]
  · isplitr; · iexact Hwm
    isplitl [Hr1]; · iexact Hr1
    isplitl [Hf0] <;> iassumption
  iintro Hr1 Hf0 Ho0
  iapply (settle (O := O) (W := W)) $$ [Ho1 HO]
  · isplitr; · iexact Hmw
    isplitl [Ho1] <;> iassumption
  iintro Ho1 HO
  iapply (lowOut (p := 1) hR0 rfl hm1.1 hm1.2 hq hsh' rfl (by decide +kernel) (fun t => Nat.add_lt_add_right (t10_trips t) 128) t10_off
    (fun t u => t10_eq L _ _ _ _ _ _ _ _ _ _ _ _ _ _ _ _ _ _ _ _ _ t u) rfl off50_val) $$ [Hr1 Hf0 Ho1]
  · isplitr; · iexact Hwm
    isplitl [Hr1]; · iexact Hr1
    isplitl [Hf0] <;> iassumption
  iintro Hr1 Hf0 Ho1
  iapply (start_guard (d := d) (L := L) (X := X) (ιw := ιw) (qx := qx1) (p := 1) (sm := cc0_scratch5.sem) (a' := mn L (2 * t.val + 1))
    (b' := mx L (2 * t.val + 1)) (a := mn L (2 * t.val + 1)) (b := mx L (2 * t.val + 1)) (cond3 t) ?_ ?_) $$ [Hs1 Hr1]
  · intro h; rfl
  · intro h Q'
    have hn := mn_le L (2 * t.val + 3)
    iintro H Hk
    iapply (start (d := d) (L := L) (X := X) (ιw := ιw) (qx := qx1) (p := 1) (a := mn L (2 * t.val + 3)) (b := mx L (2 * t.val + 3)) (by omega) (by omega) lanes_iota (mn_odd' (L := L) ((cond3 t).mp h)) (mx_odd' (L := L) ((cond3 t).mp h)) t11_trips off59_val off60_val
      off61_val (fun u v => t11_eq L _ _ _ _ _ _ _ _ _ _ _ _ _ _ _ _ _ u v) rfl rfl rfl rfl) $$ H
    iexact Hk
  · isplitr; · iexact Hwm
    isplitl [Hs1] <;> iassumption
  iintro Hs1 Hf1
  unfold WP
  rw [wp_ret]
  imodintro
  isplitl [Hs0]; · iexact Hs0
  isplitl [Hs1]; · iexact Hs1
  isplitl [Hf0]; · iexact Hf0
  isplitl [Hf1]; · iexact Hf1
  isplitl [Ho0]; · iexact Ho0
  isplitr [HO]
  · unfold Slot1
    rw [if_pos (by omega)]
    iexact Ho1
  · iexact HO

end Cert.Proof.Unit

end
-- ==== Proof.Tile.lean ====
/-
  A tile's whole work: its diagonal block, then its sixteen units, of which the first two are started
  before the loop and the last is awaited after it.
-/
module

public import proofs.«01_k».proof.Proof.Unit

@[expose] public section

noncomputable section

namespace Cert.Proof.Tile

open Cert.KernelIdeal Cert.KernelIdeal.Gen
open Cert.Proof Cert.Proof.Base Cert.Proof.Vals Cert.Proof.Build Cert.Proof.Row Cert.Proof.Piece Cert.Proof.StageLoad Cert.Proof.Halves Cert.Proof.Stream
open Cert.Proof.Loops Cert.Proof.Out Cert.Proof.Steps Cert.Proof.Words Cert.Proof.Unit
open Cert.Proof.Coords (wid unit mn mx mn_le dn dn_le dn_word off12_val widW lanes lanes_iota)
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {d : Dev nD} {L : grid0.Coords} {X : XBuf F} {qx0 qx1 qo0 qo1 : PosShare TreeShare} {f0 : MBuf F}
variable {O : CellTallies nD τ sig (HIx 1)} {W : Waits sig (HIx 1)} {ιw : ℕ}

/-- The eight column numbers of a row, as the kernel computes them. -/
theorem lanes_cols : Lanes ![k0_pay116, k0_pay117, k0_pay118, k0_pay119, k0_pay120, k0_pay121, k0_pay122, k0_pay123] := by
  intro c y
  have h : ∀ (c : Fin 8) (l : Fin 16), (![k0_pay116, k0_pay117, k0_pay118, k0_pay119, k0_pay120, k0_pay121, k0_pay122, k0_pay123] : Fin 8 → IVec S16 32) c
      (Shape.ofLane l) = BitVec.ofNat 32 (16 * c.val + l.val) := by decide +kernel
  have e : y = Shape.ofLane (d := S16.size) (y 0) := by
    funext a; exact (Fin.fin_one_eq_zero a) ▸ rfl
  rw [e]
  exact h c (y 0)

set_option maxRecDepth 65536 in
/-- The first part of a tile's work, over its number and the lanes' numbers. -/
theorem part22 (L : grid0.Coords) :
    k0_part22_skel (F := F) L xV (Memref.isWhole_whole _) oV (Memref.isWhole_whole _) ixV (Memref.isWhole_whole _) sgV (Memref.isWhole_whole _)
        obV (Memref.isWhole_whole _) shV (Memref.isWhole_whole _) cc0_scratch4 cc0_scratch5 cc0_scratch6 cc0_scratch7
      = ((Scf.Loop.for k0_t1_loop k0_t1_ok ⟨⟩ (k0_t1_body (F := F) L xV (Memref.isWhole_whole _) oV (Memref.isWhole_whole _) ixV (Memref.isWhole_whole _) sgV (Memref.isWhole_whole _)
        obV (Memref.isWhole_whole _) shV (Memref.isWhole_whole _) cc0_scratch4 cc0_scratch5 cc0_scratch6 cc0_scratch7 lanes (Scalar.muli (widW L) 128#32))) >>= fun _ =>
        SparseCore.enqueueIndirectGather (F := F) rfl (srcM inb_S65520x128_S65520x128_0_0) (dstM ![0, 0] inb_S256x256_S128x128_0_0)
          gathers_S65520x128_S128x128 (ofsM ![0, 0, 0] inb_S2x2x128_S1x1x128_0_0_0) rfl cc0_scratch4.sem (View.wordExact_bits rfl) rfl (Or.inl rfl) >>= fun _ =>
        pure ⟨widW L, lanes, k0_pay116, k0_pay117, k0_pay118, k0_pay119, k0_pay120, k0_pay121, k0_pay122, k0_pay123, Scalar.muli (widW L) 128#32⟩) := rfl

/-- What a tile holds before its work and after it, the marks of its two slots apart. -/
def Own (d : Dev nD) (L : grid0.Coords) (X : XBuf F) (qx0 qx1 : PosShare TreeShare)
    (O : CellTallies nD τ sig (HIx 1)) (W : Waits sig (HIx 1)) : sProp (MM F) :=
  iprop(Raw d L 0 ∗ Raw d L 1 ∗ Idle d L X qx0 0 cc0_scratch4.sem ∗ Idle d L X qx1 1 cc0_scratch5.sem ∗ Ow d L O W)

theorem raw_of_shs {p k : ℕ} : Shs (F := F) d L p k ⊢ Raw d L p := by
  unfold Shs
  iintro ⟨%a, %b, -, H⟩
  iapply raw_of $$ H

theorem slot1_pos {qo : PosShare TreeShare} {so : DmaSem sig} {k : ℕ} (h : 0 < k) :
    Slot1 d L X qo f0 so k ⊢ Sent d L X qo f0 so 1 (low L k) := Entails.of_eq (if_pos h)

theorem slot1_zero {qo : PosShare TreeShare} {so : DmaSem sig} :
    Free d L X qo f0 so 1 ∅ ⊢ Slot1 d L X qo f0 so 0 := Entails.of_eq (if_neg (Nat.lt_irrefl 0)).symm

/-- What a program needs only to read stays. -/
theorem keep {α : Type} {p : TProg F L α} {P A : sProp (MM F)} {B : α → sProp (MM F)} [BI.Persistent P] (h : iprop(P ∗ A) ⊢ WP d L p B) :
    iprop(P ∗ A) ⊢ WP d L p fun x => iprop(P ∗ B x) := by
  iintro ⟨#Hp, H⟩
  iapply wp_frame_l
  isplitr; · iexact Hp
  iapply h
  isplitr; · iexact Hp
  iexact H

attribute [local irreducible] widW lanes Scalar.addi Scalar.muli Scalar.subi Scalar.minsi Scalar.shrui Scf.iv k0_pay136 k0_pay137 k0_pay138 k0_pay139 k0_pay140 k0_pay141 k0_pay142 k0_pay151 k0_pay152 extractAt
attribute [local irreducible] k0_pay116 k0_pay117 k0_pay118 k0_pay119 k0_pay120 k0_pay121 k0_pay122 k0_pay123

set_option maxHeartbeats 16000000 in
set_option maxRecDepth 65536 in
/-- A tile's work marks its diagonal block and both blocks of each of its units. -/
theorem tile : iprop((wmInv (wmE (F := F)) ιw ∗ Transfers.MayWaits (thr d L) ιW O) ∗ Own d L X qx0 qx1 O W
      ∗ Free d L X qo0 f0 cc0_scratch6.sem 0 ∅ ∗ Free d L X qo1 f0 cc0_scratch7.sem 1 ∅)
    ⊢ WP d L (cc0__body (F := F) L xV (Memref.isWhole_whole _) oV (Memref.isWhole_whole _) ixV (Memref.isWhole_whole _) sgV (Memref.isWhole_whole _)
        obV (Memref.isWhole_whole _) shV (Memref.isWhole_whole _) cc0_scratch4 cc0_scratch5 cc0_scratch6 cc0_scratch7)
      fun _ => iprop(Own d L X qx0 qx1 O W ∗ Free d L X qo0 f0 cc0_scratch6.sem 0 (up L 16) ∗ Free d L X qo1 f0 cc0_scratch7.sem 1 (low L 16)) := by
  have hd := dn_le L
  have hm0 := mn_le L 0
  have hm1 := mn_le L 1
  simp only [cc0__body_eq_skeleton]
  unfold cc0__body_skel
  simp only [k0_part22_eq_skeleton, k0_part23_eq_skeleton, k0_part24_eq_skeleton, k0_part25_eq_skeleton, k0_part26_eq_skeleton, k0_part27_eq_skeleton, k0_part28_eq_skeleton]
  rw [part22]
  unfold k0_part23_skel k0_part24_skel k0_part25_skel k0_part26_skel k0_part27_skel k0_part28_skel
  simp only [Prog.lift, Prog.bind_op, Prog.bind_ret, Prog.pure_eq_ret, Prog.bind_assoc]
  unfold Own
  iintro ⟨⟨#Hwm, #Hmw⟩, ⟨Hs0, Hs1, Hi0, Hi1, HO⟩, Ho0, Ho1⟩
  -- the diagonal block
  iapply (prime (d := d) (L := L) (X := X) (ιw := ιw) (qx := qx0) (p := 0) (a := dn L) (b := dn L) (by omega) (by omega) lanes_iota (dn_word L) (dn_word L) t1_trips
    off1_val off2_val off3_val (fun u v => t1_eq L _ _ u v) rfl rfl rfl rfl) $$ [Hs0 Hi0]
  · isplitr; · iexact Hwm
    isplitl [Hs0] <;> iassumption
  iintro Hs0 Hf0
  iapply (collect (O := O) (W := W)) $$ [Hf0 HO]
  · isplitr
    · isplitr; · iexact Hwm
      iexact Hmw
    isplitl [Hf0] <;> iassumption
  iintro Hr0 HO
  iapply (shiftLoads (p := 0) rfl rfl rfl rfl rfl rfl rfl rfl) $$ Hs0
  iintro %w0 %w1 %w2 %w3 %w4 %w5 %w6 %w7 %hsh Hs0
  iapply (diagOut (p' := 1) (R := Idle d L X qx1 1 cc0_scratch5.sem) reach_idle rfl hd lanes_cols hsh (dn_word L) (by decide +kernel)
    (fun t => Nat.lt_trans (t2_trips t) (by decide)) t2_off
    (fun t u => t2_eq L _ _ _ _ _ _ _ _ _ _ _ _ _ _ _ _ _ _ _ t u) rfl (off12_val L)) $$ [Hr0 Hi1 Ho0]
  · isplitr; · iexact Hwm
    isplitl [Hr0]; · iexact Hr0
    isplitl [Hi1] <;> iassumption
  iintro Hr0 Hi1 Ho0
  -- the first two units' gathers
  ihave Hi0 := ready_idle $$ Hr0
  iapply (start (d := d) (L := L) (X := X) (ιw := ιw) (qx := qx0) (p := 0) (a := mn L 0) (b := mx L 0) (by omega) (by omega) lanes_iota mn_first mx_first t3_trips
    off13_val off14_val off15_val (fun u v => t3_eq L _ _ _ _ _ _ _ _ u v) rfl rfl rfl rfl) $$ [Hs0 Hi0]
  · isplitr; · iexact Hwm
    isplitl [Hs0] <;> iassumption
  iintro Hs0 Hf0
  iapply (prime (d := d) (L := L) (X := X) (ιw := ιw) (qx := qx1) (p := 1) (a := mn L 1) (b := mx L 1) (by omega) (by omega) lanes_iota mn_second mx_second t4_trips
    off16_val off17_val off18_val (fun u v => t4_eq L _ _ _ _ _ _ _ _ _ _ _ _ _ _ _ u v) rfl rfl rfl rfl) $$ [Hs1 Hi1]
  · isplitr; · iexact Hwm
    isplitl [Hs1] <;> iassumption
  iintro Hs1 Hf1
  -- the units
  iapply (run_loop (fun j => iprop((wmInv (wmE (F := F)) ιw ∗ Transfers.MayWaits (thr d L) ιW O) ∗ Turn d L X qx0 qx1 qo0 qo1 f0 O W (2 * j))) t5_trips ?_) $$ [Hs0 Hs1 Hf0 Hf1 Ho0 Ho1 HO]
  · intro t u
    exact keep (turn lanes_cols t u _ _ _)
  · isplitr
    · isplitr; · iexact Hwm
      iexact Hmw
    unfold Turn
    isplitl [Hs0]; · iapply (shs_of (k := 0)) $$ Hs0
    isplitl [Hs1]; · iapply (shs_of (k := 1)) $$ Hs1
    isplitl [Hf0]; · iapply (Entails.of_eq (half_lt (k := 0) (by omega)).symm) $$ Hf0
    isplitl [Hf1]; · iapply (Entails.of_eq (half_lt (k := 1) (by omega)).symm) $$ Hf1
    isplitl [Ho0]; · iexact Ho0
    isplitr [HO]
    · iapply slot1_zero $$ Ho1
    · iexact HO
  iintro ⟨-, HT⟩
  unfold Turn
  icases HT with ⟨Hs0, Hs1, Hi0, Hi1, Ho0, Ho1, HO⟩
  iapply (wp_assume 𝒱₀ (thr d L) none Set.univ chk51)
  iapply (settle (O := O) (W := W)) $$ [Ho0 HO]
  · isplitr; · iexact Hmw
    isplitl [Ho0] <;> iassumption
  iintro Ho0 HO
  ihave Ho1 := (slot1_pos (by decide)) $$ Ho1
  iapply (settle (O := O) (W := W)) $$ [Ho1 HO]
  · isplitr; · iexact Hmw
    isplitl [Ho1] <;> iassumption
  iintro Ho1 HO
  unfold WP
  rw [wp_ret]
  imodintro
  isplitr [Ho0 Ho1]
  · isplitl [Hs0]; · iapply raw_of_shs $$ Hs0
    isplitl [Hs1]; · iapply raw_of_shs $$ Hs1
    isplitl [Hi0]; · iapply (Entails.of_eq (half_ge (k := 16) (by omega))) $$ Hi0
    isplitl [Hi1]; · iapply (Entails.of_eq (half_ge (k := 17) (by omega))) $$ Hi1
    iexact HO
  · isplitl [Ho0] <;> iassumption

end Cert.Proof.Tile

end
-- ==== Proof.Task.lean ====
/-
  A tile's task as the launch states it: the tile's own buffers and counters, cut as the kernel uses
  them, and its shares of the arrays, give the tile's work what it holds, and come back.
-/
module

public import proofs.«01_k».proof.Proof.Deal
public import proofs.«01_k».proof.Proof.Tile

@[expose] public section

noncomputable section

namespace Cert.Proof.Task

open Cert.KernelIdeal Cert.KernelIdeal.Gen
open Cert.Proof Cert.Proof.Base Cert.Proof.Vals Cert.Proof.Shares Cert.Proof.Build Cert.Proof.Halves Cert.Proof.Out Cert.Proof.Steps Cert.Proof.Deal
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (d : Dev nD) (L : grid0.Coords)

/-! ## A buffer in two parts -/

theorem two_parts {ℓ : Loc nD τ sig} {A B : Finset (Idx ℓ)} (hd : Disjoint A B) (hc : ∀ e, e ∈ A ∪ B) :
    (iprop(∃ f : Buf (Elt F) ℓ, ℓ ↦{fullShare} f) : sProp (MM F)) ⊢ iprop((∃ f, ℓ ↦[A]{fullShare} f) ∗ (∃ f, ℓ ↦[B]{fullShare} f)) := by
  have hu : A ∪ B = Finset.univ := Finset.eq_univ_of_forall hc
  iintro ⟨%f, H⟩
  rw [← hu]
  ihave H := (pointsTo_union hd).1 $$ H
  icases H with ⟨H1, H2⟩
  isplitl [H1]
  · iexists f; iexact H1
  · iexists f; iexact H2

theorem one_whole {ℓ : Loc nD τ sig} {A B : Finset (Idx ℓ)} (hd : Disjoint A B) (hc : ∀ e, e ∈ A ∪ B) :
    (iprop((∃ f, ℓ ↦[A]{fullShare} f) ∗ (∃ f, ℓ ↦[B]{fullShare} f)) : sProp (MM F)) ⊢ iprop(∃ f : Buf (Elt F) ℓ, ℓ ↦{fullShare} f) := by
  have hu : A ∪ B = Finset.univ := Finset.eq_univ_of_forall hc
  iintro ⟨⟨%f, H1⟩, ⟨%g, H2⟩⟩
  iexists (B.piecewise g f)
  rw [← hu]
  iapply (pointsTo_join hd)
  isplitl [H1] <;> iassumption

theorem irow_disjoint : Disjoint (irow 0) (irow 1) :=
  Finset.disjoint_left.mpr fun e h1 h2 => absurd ((mem_irow.mp h1).symm.trans (mem_irow.mp h2)) (by decide)
theorem srow_disjoint : Disjoint (srow 0) (srow 1) :=
  Finset.disjoint_left.mpr fun e h1 h2 => absurd ((mem_srow.mp h1).symm.trans (mem_srow.mp h2)) (by decide)
theorem slot_disjoint : Disjoint (slot 0) (slot 1) :=
  Finset.disjoint_left.mpr fun e h1 h2 => absurd ((mem_slot.mp h1).symm.trans (mem_slot.mp h2)) (by decide)
theorem irow_cover (e : S2x2x128.Idx) : e ∈ irow 0 ∪ irow 1 := by
  have : (e 0).val < 2 := (e 0).isLt
  rw [Finset.mem_union, mem_irow, mem_irow]; omega
theorem srow_cover (e : S2x128.Idx) : e ∈ srow 0 ∪ srow 1 := by
  have : (e 0).val < 2 := (e 0).isLt
  rw [Finset.mem_union, mem_srow, mem_srow]; omega
theorem slot_cover (e : S256x128.Idx) : e ∈ slot 0 ∪ slot 1 := by
  have : (e 0).val < 256 := (e 0).isLt
  rw [Finset.mem_union, mem_slot, mem_slot]; omega

/-! ## The tile's counters and buffers -/

/-- The four counters are among the tile's own. -/
theorem ownSems0_V :
    (ownSems0 (thr d L) : sProp (MM F))
      = iprop(semVal (cell d L cc0_scratch4) 0 ∗ semVal (cell d L cc0_scratch5) 0 ∗ semVal (cell d L cc0_scratch6) 0 ∗ semVal (cell d L cc0_scratch7) 0
          ∗ bigSep (((((ownCells (thr d L)).erase (cell d L cc0_scratch4)).erase (cell d L cc0_scratch5)).erase (cell d L cc0_scratch6)).erase (cell d L cc0_scratch7))
              fun g => semVal g 0) := by
  have hm : ∀ s : DmaSems sig S_, (SemLoc.dma s.sem : SemLoc sig).isScoped .scVector = true → cell d L s ∈ ownCells (thr d L) :=
    fun s h => (mem_ownCells (g := cell d L s)).mpr ⟨rfl, h⟩
  have hn : ∀ s t : DmaSems sig S_, (SemLoc.dma s.sem : SemLoc sig) ≠ .dma t.sem → cell d L s ≠ cell d L t :=
    fun s t h e => h (congrArg Prod.snd e)
  unfold SparseCore.Cfg.ownSems0
  rw [SparseCore.bigSep_erase' (hm cc0_scratch4 (by decide)),
    SparseCore.bigSep_erase' (Finset.mem_erase.mpr ⟨hn cc0_scratch5 cc0_scratch4 (by decide), hm cc0_scratch5 (by decide)⟩),
    SparseCore.bigSep_erase' (Finset.mem_erase.mpr ⟨hn cc0_scratch6 cc0_scratch5 (by decide),
      Finset.mem_erase.mpr ⟨hn cc0_scratch6 cc0_scratch4 (by decide), hm cc0_scratch6 (by decide)⟩⟩),
    SparseCore.bigSep_erase' (Finset.mem_erase.mpr ⟨hn cc0_scratch7 cc0_scratch6 (by decide),
      Finset.mem_erase.mpr ⟨hn cc0_scratch7 cc0_scratch5 (by decide),
        Finset.mem_erase.mpr ⟨hn cc0_scratch7 cc0_scratch4 (by decide), hm cc0_scratch7 (by decide)⟩⟩⟩)]

/-- The four buffers are among the tile's own. -/
theorem ownBufs_V :
    (ownBufs (thr d L) : sProp (MM F))
      = iprop((∃ f : Buf (Elt F) (ixLoc d L), ixLoc d L ↦{fullShare} f) ∗ (∃ f : Buf (Elt F) (sgLoc d L), sgLoc d L ↦{fullShare} f)
          ∗ (∃ f : Buf (Elt F) (obLoc d L), obLoc d L ↦{fullShare} f) ∗ (∃ f : Buf (Elt F) (shLoc d L), shLoc d L ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have hn : ∀ a b : Ref sig .scVector, a ≠ b → (Proc.scVector (cV L) (jV L)).devRef a ≠ (Proc.scVector (cV L) (jV L)).devRef b :=
    fun a b h e => h (Proc.devRef_injective _ e)
  have h0 := SparseCore.Cfg.mem_ownRefs_of_owner (p := Proc.scVector (cV L) (jV L)) (b := (Proc.scVector (cV L) (jV L)).devRef cc0_scratch0) rfl
  have h1 := SparseCore.Cfg.mem_ownRefs_of_owner (p := Proc.scVector (cV L) (jV L)) (b := (Proc.scVector (cV L) (jV L)).devRef cc0_scratch1) rfl
  have h2 := SparseCore.Cfg.mem_ownRefs_of_owner (p := Proc.scVector (cV L) (jV L)) (b := (Proc.scVector (cV L) (jV L)).devRef cc0_scratch2) rfl
  have h3 := SparseCore.Cfg.mem_ownRefs_of_owner (p := Proc.scVector (cV L) (jV L)) (b := (Proc.scVector (cV L) (jV L)).devRef cc0_scratch3) rfl
  unfold SparseCore.Cfg.ownBufs
  refine (SparseCore.bigSep_erase' h0).trans ?_
  rw [SparseCore.bigSep_erase' (Finset.mem_erase.mpr ⟨hn cc0_scratch1 cc0_scratch0 (by decide), h1⟩),
    SparseCore.bigSep_erase' (Finset.mem_erase.mpr ⟨hn cc0_scratch2 cc0_scratch1 (by decide),
      Finset.mem_erase.mpr ⟨hn cc0_scratch2 cc0_scratch0 (by decide), h2⟩⟩),
    SparseCore.bigSep_erase' (Finset.mem_erase.mpr ⟨hn cc0_scratch3 cc0_scratch2 (by decide),
      Finset.mem_erase.mpr ⟨hn cc0_scratch3 cc0_scratch1 (by decide), Finset.mem_erase.mpr ⟨hn cc0_scratch3 cc0_scratch0 (by decide), h3⟩⟩⟩)]

/-! ## The task -/

set_option maxHeartbeats 4000000 in
/-- From its own buffers and counters and its share of the arrays, a tile's task ends with all its writes known. -/
theorem tile_body {X : XBuf F} {f0 : MBuf F} {q : PosShare TreeShare} (hF : (K (F := F)).Facts) (O : CellTallies nD τ sig (HIx 1)) (W : Waits sig (HIx 1))
    (hO : ∀ g, O g none = 0) :
    iprop(levAts (K (F := F)).L (K (F := F)).lev ∗ WmI (F := F) ∗ Hold d X f0 q ∅
        ∗ scopedBufs (thr d L) ∗ scopedSems0 (thr d L) ∗ owes (thr d L) O W)
      ⊢ WP d L (cc0__body (F := F) L xV (Memref.isWhole_whole _) oV (Memref.isWhole_whole _) ixV (Memref.isWhole_whole _) sgV (Memref.isWhole_whole _)
            obV (Memref.isWhole_whole _) shV (Memref.isWhole_whole _) cc0_scratch4 cc0_scratch5 cc0_scratch6 cc0_scratch7)
          fun _ => iprop(Hold d X f0 q (tileDone L) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, ⟨%ιw, #Hwm⟩, Hh, ⟨Hix, Hsg, Hob, Hsh, Hbufs⟩, ⟨Hs4, Hs5, Hs6, Hs7, Hsems⟩, HO⟩
  ihave Hmw := (show levAts (K (F := F)).L (K (F := F)).lev ⊢ Transfers.MayWaits (thr d L) (default : HIx 1) O from
    (K (F := F)).mayWaits_none (thr := thr d L) hO) $$ Hlv
  ihave Hix := (two_parts (F := F) (ℓ := ixLoc d L) irow_disjoint irow_cover) $$ Hix
  ihave Hsg := (two_parts (F := F) (ℓ := sgLoc d L) (half_disjoint (by decide : (0 : ℕ) ≠ 1)) (half_cover rfl)) $$ Hsg
  ihave Hob := (two_parts (F := F) (ℓ := obLoc d L) slot_disjoint slot_cover) $$ Hob
  ihave Hsh := (two_parts (F := F) (ℓ := shLoc d L) srow_disjoint srow_cover) $$ Hsh
  ihave Hh := (hold_halves (d := d) (X := X) (f0 := f0) (q := q)) $$ Hh
  icases Hix with ⟨Hix0, Hix1⟩
  icases Hsg with ⟨Hsg0, Hsg1⟩
  icases Hob with ⟨Hob0, Hob1⟩
  icases Hsh with ⟨Hsh0, Hsh1⟩
  icases Hh with ⟨⟨Hx0, Hx1⟩, Ho0, Ho1⟩
  unfold WP
  iapply (wp_wand_r frame (wpE (defs₀ (F := F)) 𝒱₀ (thr d L) none) Set.univ)
  isplitl [Hmw Hix0 Hix1 Hsg0 Hsg1 Hob0 Hob1 Hsh0 Hsh1 Hx0 Hx1 Ho0 Ho1 Hs4 Hs5 Hs6 Hs7 HO]
  · iapply (Tile.tile (d := d) (L := L) (X := X) (qx0 := q.left) (qx1 := q.right) (qo0 := q.left) (qo1 := q.right) (f0 := f0) (O := O) (W := W) (ιw := ιw))
    unfold Tile.Own Raw Idle Rest Ow Free
    isplitl [Hmw]
    · isplitr; · iexact Hwm
      iexact Hmw
    isplitl [Hix0 Hix1 Hsg0 Hsg1 Hsh0 Hsh1 Hx0 Hx1 Hs4 Hs5 HO]
    · isplitl [Hsh0]; · iexact Hsh0
      isplitl [Hsh1]; · iexact Hsh1
      isplitl [Hsg0 Hix0 Hx0 Hs4]
      · isplitl [Hsg0]; · iexact Hsg0
        isplitl [Hix0]; · iexact Hix0
        isplitl [Hx0]; · iexact Hx0
        iexact Hs4
      isplitl [Hsg1 Hix1 Hx1 Hs5]
      · isplitl [Hsg1]; · iexact Hsg1
        isplitl [Hix1]; · iexact Hix1
        isplitl [Hx1]; · iexact Hx1
        iexact Hs5
      iexists W
      isplitr
      · ipureintro; exact fun p hp => .inl hp
      · iexact HO
    isplitl [Ho0 Hob0 Hs6]
    · isplitl [Ho0 Hob0]
      · isplitl [Ho0]; · iexact Ho0
        iexact Hob0
      iexact Hs6
    isplitl [Ho1 Hob1]
    · isplitl [Ho1]; · iexact Ho1
      iexact Hob1
    iexact Hs7
  iintro %_ H
  unfold Tile.Own Raw Idle Rest Ow Free
  icases H with ⟨⟨Hsh0, Hsh1, ⟨Hsg0, Hix0, Hx0, Hs4⟩, ⟨Hsg1, Hix1, Hx1, Hs5⟩, HO⟩, ⟨⟨Ho0, Hob0⟩, Hs6⟩, ⟨⟨Ho1, Hob1⟩, Hs7⟩⟩
  isplitl [Hx0 Hx1 Ho0 Ho1]
  · iapply (hold_halves_join (d := d) (X := X) (f0 := f0) (q := q) (A := up L 16) (B := low L 16))
    isplitl [Hx0 Hx1]
    · isplitl [Hx0] <;> iassumption
    isplitl [Ho0] <;> iassumption
  isplitl [Hix0 Hix1 Hsg0 Hsg1 Hob0 Hob1 Hsh0 Hsh1 Hbufs]
  · isplitl [Hix0 Hix1]
    · iapply (one_whole (F := F) (ℓ := ixLoc d L) irow_disjoint irow_cover)
      isplitl [Hix0]; · iexact Hix0
      iexact Hix1
    isplitl [Hsg0 Hsg1]
    · iapply (one_whole (F := F) (ℓ := sgLoc d L) (half_disjoint (by decide : (0 : ℕ) ≠ 1)) (half_cover rfl))
      isplitl [Hsg0]; · iexact Hsg0
      iexact Hsg1
    isplitl [Hob0 Hob1]
    · iapply (one_whole (F := F) (ℓ := obLoc d L) slot_disjoint slot_cover)
      isplitl [Hob0]; · iexact Hob0
      iexact Hob1
    isplitl [Hsh0 Hsh1]
    · iapply (one_whole (F := F) (ℓ := shLoc d L) srow_disjoint srow_cover)
      isplitl [Hsh0]; · iexact Hsh0
      iexact Hsh1
    iexact Hbufs
  isplitl [Hs4 Hs5 Hs6 Hs7 Hsems]
  · isplitl [Hs4]; · iexact Hs4
    isplitl [Hs5]; · iexact Hs5
    isplitl [Hs6]; · iexact Hs6
    isplitl [Hs7]; · iexact Hs7
    iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s) xV (Memref.isWhole_whole _) oV (Memref.isWhole_whole _)
          ixV (Memref.isWhole_whole _) sgV (Memref.isWhole_whole _) obV (Memref.isWhole_whole _) shV (Memref.isWhole_whole _)
          cc0_scratch4 cc0_scratch5 cc0_scratch6 cc0_scratch7) ⟨⟩ c s := rfl

theorem obl_post {t : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (X : Dev nD → XBuf F) (f0 : Dev nD → MBuf F) (hF : (K (F := F)).Facts) : (K (F := F)).TileObl (D (F := F)) 𝒱 (P X f0) v₀ 0 := by
  intro d c i O W hO _ _
  simp only [show (P X f0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (X := X d) (f0 := f0 d) (q := tq (Fin.cast nCore_zero c) (Fin.cast nSub_zero i)) hF O W hO).trans
    (wp_mono frame _ _ fun _ => obl_post)

end Cert.Proof.Task

end
-- ==== Proof.Launch.lean ====
/-
  The whole program: @main lays the packed array out in rows, puts the matrix in write mode, runs the
  call and takes the matrix out again, all of it written.  Hence what every run of the program ends with.
-/
module

public import proofs.«01_k».proof.Proof.Task

@[expose] public section

noncomputable section

namespace Cert.Proof.Launch

open Cert.KernelIdeal Cert.KernelIdeal.Gen
open Cert.Proof Cert.Proof.Base Cert.Proof.Vals Cert.Proof.Shares Cert.Proof.Build Cert.Proof.Halves Cert.Proof.Out Cert.Proof.Steps Cert.Proof.Deal Cert.Proof.Task
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-- The packed array of device `d`, in rows of 128. -/
def X (d : Dev nD) : XBuf F := shapeCast S65520x128 (m (aLoc d)) shapeCasts_S8386560_S65520x128

/-- The matrix's contents at the start. -/
def M0 (d : Dev nD) : MBuf F := m (oLoc d)

/-! ## What the launch starts from -/

def u₀ : UU F := (initOf (K (F := F)).hsCells (K (F := F)).hsToks, (wm₀ nD τ sig (Elt F), 1))

/-- Owning it is owning the write mode's start and the handshakes'. -/
theorem ownU_u₀ : (ownU (u₀ (F := F)) : sProp (MM F))
    ⊢ iprop(ownU (wmE (F := F) (wm₀ nD τ sig (Elt F))) ∗ BI.own (EH (F := F) (initOf (K (F := F)).hsCells (K (F := F)).hsToks))) := by
  unfold ownU u₀
  refine (BI.own_op (r := uEmb (wmE (F := F) (wm₀ nD τ sig (Elt F))))
    (r' := uEmb ((UEmb.inl : UEmb UH (UU F)) (initOf (K (F := F)).hsCells (K (F := F)).hsToks))) ?_).1
  rw [(uEmb : UEmb (UU F) (MM F)).op_eq]
  exact Part.mem_map _ (Prod.mk_mem_op (URA.mem_one_op _) (PCS.mem_op_comm.mp (URA.mem_one_op _)))

theorem wm_some {ιw : ℕ} : (wmInv (wmE (F := F)) ιw : sProp (MM F)) ⊢ WmI (F := F) := by
  iintro H
  iexists ιw
  iexact H

include ρ in
/-- At the start the write mode's invariant is made, and every task and every device has it. -/
theorem hu₀ : (ownU (u₀ (F := F)) : sProp (MM F))
    ⊢ |={Set.univ}=> iprop(BI.own (EH (F := F) (initOf (K (F := F)).hsCells (K (F := F)).hsToks)) ∗ (bigSep Finset.univ fun _ : Dev nD => WmI (F := F))
        ∗ bigSep Finset.univ fun thr : Thread nD τ => bigSep Finset.univ fun q : Fin 1 => (P (X m) (M0 m)).x q thr) := by
  iintro Hu
  ihave H := ownU_u₀ $$ Hu
  icases H with ⟨Hw, HH⟩
  imod (wmInv_alloc (emb := wmE (F := F)) (⟨m, fun _ => 0, ρ⟩ : MemSt nD τ sig (Elt F)) (E := Set.univ)) $$ Hw with ⟨%ιw, -, #Hwm⟩
  imodintro
  isplitl [HH]; · iexact HH
  ihave #HW := (wm_some (F := F) (ιw := ιw)) $$ Hwm
  isplitr
  · iapply (bigSep_of_persistent Finset.univ (WmI (F := F))) $$ HW
  · iapply (bigSep_intro_persistent (S := Finset.univ) (R := WmI (F := F)) fun _ _ => bigSep_of_persistent Finset.univ (WmI (F := F))) $$ HW

/-! ## @main on the TensorCore -/

theorem unscopedBufs_eq (d : Dev nD) (W : (b : Ref sig .tc) → Buf (Elt F) ((d.tc : Thread nD τ).loc b)) :
    (unscopedBufs d W : sProp (MM F)) = iprop((aLoc d ↦{fullShare} W main_arg0) ∗ (xLoc d ↦{fullShare} W main_v0) ∗ oLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- The change of shape at the head of @main. -/
abbrev opR : HloOp τ sig (Elt F) := StableHlo.reshape main_arg0 main_v0 (rfl : (.f32 : EltTy) = .f32) shapeCasts_S8386560_S65520x128

abbrev a' : DevRef τ sig := Proc.tc.devRef main_arg0
abbrev v' : DevRef τ sig := Proc.tc.devRef main_v0

theorem bufs_two (d : Dev nD) (V : Valuation τ sig (Elt F)) :
    (bigSep (opR (F := F)).bufs (fun b => ((d, b) : Loc nD τ sig) ↦{fullShare} V b) : sProp (MM F))
      = iprop((aLoc d ↦{fullShare} V a') ∗ xLoc d ↦{fullShare} V v') := by
  rw [show (opR (F := F)).bufs = {a', v'} by rfl, SparseCore.bigSep_insert' (by decide), bigSep_singleton]

theorem res_a (V : Valuation τ sig (Elt F)) : (opR (F := F)).result V a' = V a' :=
  StableHlo.reshape_result_ne (x := main_arg0) (y := main_v0) _ _ _ _ V (by decide)

theorem res_v (d : Dev nD) : (opR (F := F)).result (fun b => m (d, b)) v' = X m d :=
  StableHlo.reshape_result main_arg0 main_v0 _ _ _ _ _

/-- What @main leaves: the argument as it was, the matrix written. -/
abbrev FIN (d : Dev nD) : sProp (MM F) := iprop((aLoc d ↦{fullShare} m (aLoc d)) ∗ oLoc d ↦{fullShare} OUT (X m d))

/-- The matrix in write mode, all of it written, is the matrix. -/
theorem out_full {ιw : ℕ} (d : Dev nD) : iprop(wmInv (wmE (F := F)) ιw ∗ Hold d (X m d) (M0 m d) fullShare (Finset.univ.biUnion coreDone))
    ⊢ |={Set.univ}=> (oLoc d ↦{fullShare} OUT (X m d) : sProp (MM F)) := by
  unfold Hold Out.Share
  iintro ⟨#Hwm, -, %Mk, %hM, H⟩
  have hu : Mk = Finset.univ := Finset.eq_univ_of_forall fun e => hM (all_done e)
  subst hu
  imod (willBeTo_castOut_some (emb := wmE (F := F)) (ιwm := ιw) (E := Set.univ) (ℓ := oLoc d) (g := OUT (X m d)) (Set.mem_univ _)) $$ [H] with H
  · isplitr; · iexact Hwm
    iexact H
  imodintro
  iapply (Entails.of_eq (congrArg (fun f => (oLoc d ↦{fullShare} f : sProp (MM F))) (Finset.piecewise_univ (OUT (X m d)) (M0 m d)))) $$ H

set_option maxRecDepth 16384 in
theorem hmain (κ : GSem nD τ sig → ℕ) (d : Dev nD) :
    iprop((K (F := F)).ctx EH (P (X m) (M0 m)) κ ∗ (K (F := F)).tcSt EH d 0 ∗ (K (F := F)).tcRes m ρ d ∗ WmI (F := F))
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hx, Ho⟩, Hts, -⟩, ⟨%ιw, #Hwm⟩⟩
  iapply (wp_hlo 𝒱 (SparseCore.T d) none Set.univ (op := opR) (q := fun _ => fullShare) (F := fun b => m (d, b)) (fun _ _ => rfl)) $$ [Hb Ha Hx]
  · isplitl [Hb]; · iexact Hb
    iapply (Entails.of_eq (bufs_two (F := F) d _).symm)
    isplitl [Ha]; · iexact Ha
    iexact Hx
  iintro ⟨Hb, Hbufs⟩
  ihave Hbufs := (Entails.of_eq (bufs_two (F := F) d _)) $$ Hbufs
  icases Hbufs with ⟨Ha, Hx⟩
  ihave Ha := (Entails.of_eq (congrArg (fun f => (aLoc d ↦{fullShare} f : sProp (MM F))) (res_a (F := F) fun b => m (d, b)))) $$ Ha
  ihave Hx := (Entails.of_eq (congrArg (fun f => (xLoc d ↦{fullShare} f : sProp (MM F))) (res_v (F := F) m d))) $$ Hx
  rw [wp_ret]
  imod (pointsTo_castIn (emb := wmE (F := F)) (ιwm := ιw) (E := Set.univ) (ℓ := oLoc d) (fun e => some (OUT (X m d) e)) (Set.mem_univ _)) $$ [Ho] with Ho
  · isplitr; · iexact Hwm
    iexact Ho
  imodintro
  iapply ((K (F := F)).wp_run (D (F := F)) 𝒱 (EH := EH) (P := P (X m) (M0 m)) κ d 0) $$ [Hst Hx Ho Hb Hts Ha]
  isplitr; · iexact Hctx
  isplitl [Hst]; · iexact Hst
  isplitl [Hx Ho]
  · iapply (cores_split (F := F) (X m) (M0 m) d)
    unfold Hold
    isplitl [Hx]; · iexact Hx
    iapply share_of $$ Ho
  iintro ⟨Hst, Hdn⟩
  ihave Hdn := (cores_join (F := F) (X m) (M0 m) d) $$ Hdn
  imod (out_full (F := F) m (ιw := ιw) d) $$ [Hdn] with Ho
  · isplitr; · iexact Hwm
    iexact Hdn
  imodintro
  isplitl [Hst]; · iexact Hst
  isplitr [Hb Hts]
  · isplitl [Ha]; · iexact Ha
    iexact Ho
  isplitl [Hb] <;> iassumption

/-! ## What every run ends with -/

def fq (d : Dev nD) (s' : Phys nD τ sig (Elt F)) : Prop := s'.mem.mem (aLoc d) = m (aLoc d) ∧ s'.mem.mem (oLoc d) = OUT (X m d)

set_option maxRecDepth 16384 in
theorem hfin (d : Dev nD) (s' : Phys nD τ sig (Elt F)) : iprop(FIN m d ∗ SI s') ⊢ (⌜fq m d s'⌝ : sProp (MM F)) := by
  iintro ⟨⟨Ha, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := oLoc d) (I := Finset.univ) (q := fullShare) (f := OUT (X m d))) $$ [HSI Ho]
  · isplitl [HSI] <;> iassumption
  icases H with %h2
  ipureintro; exact ⟨funext fun i => h1 i (Finset.mem_univ i), funext fun i => h2 i (Finset.mem_univ i)⟩

/-- The argument is kept, the result is the matrix, and every counter is back at zero. -/
def QC : PUnit × MemSt nD τ sig (Elt F) → Prop := fun r =>
  (∀ c : Dev nD, r.2.mem (aLoc c) = m (aLoc c) ∧ r.2.mem (oLoc c) = OUT (X m c)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (X m) (M0 m)) (A := ∅) facts v₀
    (fun q hq => match q with | 0 => nomatch hq)
    (fun q _ => match q with | 0 => tileObl (X m) (M0 m) facts)
    (fun q _ => match q with | 0 => SparseCore.Cfg.VecSplit.of_plain (vecSplit (X m) (M0 m)))
    m ρ main (fun _ => WmI (F := F)) (FIN m) (u₀ (F := F)) (sep_elim_left.trans (hu₀ m ρ)) (hmain m ρ) (fq m) (hfin m) (QC m) (fun _ h hz => ⟨h, hz⟩)

end Cert.Proof.Launch

end
-- ==== Proof.RefValue.lean ====
/-
  What the reference computes, entry by entry: the packed values above the diagonal, mirrored below it, ones on it.
-/
module

public import proofs.«01_k».proof.Proof.RefWords
public import proofs.«01_k».proof.Proof.Launch
public import proofs.«01_k».proof.Proof.Gen.ReferenceIdeal.Run
public import Idealize.ShloMosaic.Lib.WordArith
public import Idealize.ShloMosaic.Lib.Routing.Ops
public import Idealize.ShloMosaic.Lib.ValueIdxCore
public import Idealize.ShloMosaic.Lib.Pipeline.Value
public import Idealize.ShloMosaic.Lib.IdealHost

@[expose] public section

noncomputable section

namespace Cert.Proof.RefValue

open Cert.ReferenceIdeal Cert.ReferenceIdeal.Gen
open Cert.Proof.RefWords Cert.Proof.Arith
open Idealize.ShloMosaic Idealize.ShloMosaic.ValueIdx

variable {F : FTy → Type} [FloatOps F]

/-- The packed array. -/
abbrev Packed (F : FTy → Type) : Type := S8386560.Idx → Elt F .f32
/-- A matrix. -/
abbrev Mat (F : FTy → Type) : Type := S4096x4096.Idx → Elt F .f32
/-- A matrix of words. -/
abbrev MatW : Type := IVec S4096x4096 32

/-! ## The reference in pieces -/

/-- A word at every entry. -/
def every (k : BitVec 32) : MatW := broadcastInDim S4096x4096 ![] bcast_S_S4096x4096 (constantI S_ 32 k)

def rows : MatW := iotaInDim S4096x4096 32 0
def cols : MatW := iotaInDim S4096x4096 32 1

/-- Where the column is past the row. -/
def above : IVec S4096x4096 1 := cmpi .sgt cols rows

/-- Ones above the diagonal, zeros elsewhere, row after row. -/
def flags : IVec S16777216 32 := extui 32 (shapeCast S16777216 above shapeCasts_S4096x4096_S16777216) natLt_1_32

/-- The running sums of `flags`. -/
def sums : IVec S16777216 32 :=
  Host.reduceWindow IntOp.addi ![16777216] ![1] ![16777215] ![0] flags (broadcastInDim S_ ![] bcast_S_S_ (constantI S_ 32 0#32))
    reduceWindows_S16777216_S16777216_w16777216s1p16777215_0 h_S_

/-- An entry's place: its running sum, less one. -/
def place : MatW := maxsi (subi (shapeCast S4096x4096 sums shapeCasts_S16777216_S4096x4096) (every 1#32)) (every 0#32)
/-- What the packed array is read at. -/
def index : MatW := select (cmpi .slt place (every 0#32)) (addi place (every 8386560#32)) place

/-- The packed values above the diagonal, zeros elsewhere. -/
def upper (x : Packed F) : Mat F :=
  select above
    (Host.gather gather_S8386560_S4096x4096x1_S4096x4096_n_0_n_n_0_2_1 x
      (broadcastInDim S4096x4096x1 ![0, 1] bcast_S4096x4096_S4096x4096x1_0_1 index))
    (broadcastInDim S4096x4096 ![] bcast_S_S4096x4096 (id (constant S_ .f32 0x00000000#32)))

/-- The numbers of the diagonal's entries. -/
def diagIx : IVec S4096 32 :=
  select (cmpi .slt (iotaInDim S4096 32 0) (broadcastInDim S4096 ![] bcast_S_S4096 (constantI S_ 32 0#32)))
    (addi (iotaInDim S4096 32 0) (broadcastInDim S4096 ![] bcast_S_S4096 (constantI S_ 32 4096#32))) (iotaInDim S4096 32 0)

def diagIx2 : IVec S4096x2 32 :=
  concatenate S4096x2 1 [⟨S4096x1, broadcastInDim S4096x1 ![0] bcast_S4096_S4096x1_0 diagIx⟩,
    ⟨S4096x1, broadcastInDim S4096x1 ![0] bcast_S4096_S4096x1_0 diagIx⟩] concatenates_S4096x1_S4096x1_S4096x2_d1

/-- A matrix's diagonal. -/
def diag (u : Mat F) : S4096.Idx → Elt F .f32 := Host.gather gather_S4096x4096_S4096x2_S4096_n_01_n_n_01_1_11 u diagIx2

def eye : Mat F := uitofp .f32 (cmpi .eq (addi rows (every 0#32)) cols)

/-- A matrix mirrored over its diagonal, the diagonal counted once, and ones added on it. -/
def mirrored (u : Mat F) : Mat F :=
  addf (subf (addf u (transpose S4096x4096 [1, 0] u transposes_S4096x4096_S4096x4096_1_0))
    (broadcastInDim S4096x4096 ![0, 1] bcast_S1x4096_S4096x4096_0_1 (broadcastInDim S1x4096 ![1] bcast_S4096_S1x4096_1 (diag u)))) eye

set_option maxRecDepth 8192 in
/-- The reference's result is these pieces put together. -/
theorem result_eq (m : (ℓ : Loc nD τ sig) → Buf (Elt F) ℓ) (c : Dev nD) :
    Value.res_out0 m c = mirrored (upper (m ((c.tc : Thread nD τ).loc main_arg0))) := by
  show Value.res_main_v45 m c = _
  unfold Value.res_main_v45
  rfl

/-! ## The pieces at an entry -/

/-- The entry at row `i` and column `j`. -/
abbrev at2 (i j : Fin 4096) : S4096x4096.Idx := ix2 i j

theorem flags_at (q : Fin 16777216) : flags (ix1 q) = BitVec.ofNat 32 (isAbove q.val) := by
  have hq := q.isLt
  have e : shapeCast S16777216 above shapeCasts_S4096x4096_S16777216 (ix1 q)
      = above (at2 ⟨q.val / 4096, by omega⟩ ⟨q.val % 4096, Nat.mod_lt _ (by decide)⟩) :=
    shapeCast_apply _ _ _ _ (by
      rw [Shape.rowMajor_val_two, Shape.rowMajor_val_one]
      show q.val / 4096 * 4096 + q.val % 4096 = q.val
      omega)
  show (shapeCast S16777216 above shapeCasts_S4096x4096_S16777216 (ix1 q)).setWidth 32 = _
  rw [e]
  show (IntOp.cmpi .sgt (BitVec.ofNat 32 (q.val % 4096)) (BitVec.ofNat 32 (q.val / 4096))).setWidth 32 = _
  rw [WordCmp.cmpi_sgt_ofNat (w := 32) (by omega) (by omega)]
  exact Routing.setWidth_ofBool _

theorem sums_at (q : Fin 16777216) : sums (ix1 q) = BitVec.ofNat 32 (count (q.val + 1)) :=
  Routing.cumsum1 (N := 16777216) (Nm1 := 16777215) rfl flags isAbove flags_at _ rfl _ _ q

theorem index_at (i j : Fin 4096) :
    index (at2 i j) = wrapW 8386560#32 (lessOne (BitVec.ofNat 32 (count (4096 * i.val + j.val + 1)))) := by
  have hi := i.isLt
  have hj := j.isLt
  have e : shapeCast S4096x4096 sums shapeCasts_S16777216_S4096x4096 (at2 i j)
      = sums (ix1 ⟨4096 * i.val + j.val, by omega⟩) :=
    shapeCast_apply _ _ _ _ (by
      rw [Shape.rowMajor_val_two, Shape.rowMajor_val_one]
      show 4096 * i.val + j.val = i.val * 4096 + j.val
      omega)
  rw [← sums_at ⟨4096 * i.val + j.val, by omega⟩, ← e]
  rfl

theorem upper_at (x : Packed F) (i j : Fin 4096) :
    upper x (at2 i j) = if h : i.val < j.val then x (ix1 ⟨pos i.val j.val, pos_lt i.isLt j.isLt⟩) else FloatOps.ofBits .f32 0x00000000#32 := by
  show Scalar.select (IntOp.cmpi .sgt (BitVec.ofNat 32 j.val) (BitVec.ofNat 32 i.val))
    (Host.gather (takeDims 8386560 4096 4096 _) x
      (broadcastInDim S4096x4096x1 ![0, 1] bcast_S4096x4096_S4096x4096x1_0_1 index) (at2 i j)) (FloatOps.ofBits .f32 0x00000000#32) = _
  have hi := i.isLt
  have hj := j.isLt
  rw [WordCmp.cmpi_sgt_ofNat (w := 32) (by omega) (by omega), select_bool]
  by_cases h : i.val < j.val
  · rw [if_pos h, dif_pos h, gather_take_apply (by decide)]
    have hp := pos_lt hi hj
    have e : broadcastInDim S4096x4096x1 ![0, 1] bcast_S4096x4096_S4096x4096x1_0_1 index (takeIdx (at2 i j))
        = BitVec.ofNat 32 (pos i.val j.val) := by
      refine Eq.trans ?_ ((index_at i j).trans (index_eq h hj))
      unfold broadcastInDim
      refine congrArg index (funext fun a => Fin.ext ?_)
      match a with
      | ⟨0, _⟩ => rfl
      | ⟨1, _⟩ => rfl
    refine congrArg x (congrArg ix1 (Fin.ext ?_))
    show min (broadcastInDim S4096x4096x1 ![0, 1] bcast_S4096x4096_S4096x4096x1_0_1 index (takeIdx (at2 i j))).toInt.toNat (8386560 - 1) = _
    rw [e, WordArith.toInt_ofNat_small _ (by omega)]
    exact Nat.min_eq_left (by omega)
  · rw [if_neg h, dif_neg h]

/-! ## The diagonal -/

/-- The number of the diagonal's entry `k`, laid twice in a row. -/
theorem diagIx_at (k : Fin 4096) : diagIx (ix1 k) = BitVec.ofNat 32 k.val := by
  have hk := k.isLt
  show wrapW 4096#32 (BitVec.ofNat 32 k.val) = _
  exact wrapW_eq _ (by omega)

theorem diagIx2_at (k : Fin 4096) (b : Fin 2) : diagIx2 (ix2 k b) = BitVec.ofNat 32 k.val := by
  have e : broadcastInDim S4096x1 ![0] bcast_S4096_S4096x1_0 diagIx (ix2 k (0 : Fin 1)) = BitVec.ofNat 32 k.val := by
    refine Eq.trans ?_ (diagIx_at k)
    unfold broadcastInDim
    refine congrArg diagIx (funext fun a => Fin.ext ?_)
    match a with
    | ⟨0, _⟩ => rfl
  unfold diagIx2
  match b with
  | ⟨0, _⟩ =>
    rw [concatenate_pair_apply_left (t := S4096x2) (s₁ := S4096x1) (s₂ := S4096x1) 1 _ _ _ _ rfl (ix2 k (0 : Fin 1))
      (fun b => by match b with | ⟨0, _⟩ => rfl | ⟨1, _⟩ => rfl)]
    exact e
  | ⟨1, _⟩ =>
    rw [concatenate_pair_apply_right (t := S4096x2) (s₁ := S4096x1) (s₂ := S4096x1) 1 _ _ _ _ rfl rfl (ix2 k (0 : Fin 1))
      (fun b hb => by match b with | ⟨0, _⟩ => rfl | ⟨1, _⟩ => exact absurd rfl hb) rfl]
    exact e

/-- Entry `k` of the diagonal is the matrix's entry at row `k` and column `k`. -/
theorem diag_at (u : Mat F) (k : Fin 4096) : diag u (ix1 k) = u (at2 k k) := by
  have hk := k.isLt
  unfold diag Host.gather
  refine congrArg u (funext fun a => Fin.ext ?_)
  have hc : a ∈ gather_S4096x4096_S4096x2_S4096_n_01_n_n_01_1_11.collapsedSliceDims := by
    match a with
    | ⟨0, _⟩ => exact List.mem_cons_self
    | ⟨1, _⟩ => exact List.mem_cons_of_mem _ List.mem_cons_self
  have hs : a ∈ gather_S4096x4096_S4096x2_S4096_n_01_n_n_01_1_11.startIndexMap := hc
  show gather_S4096x4096_S4096x2_S4096_n_01_n_n_01_1_11.start (ix1 k) diagIx2 a
    + gather_S4096x4096_S4096x2_S4096_n_01_n_n_01_1_11.batchCoord (ix1 k) a
    + gather_S4096x4096_S4096x2_S4096_n_01_n_n_01_1_11.offCoord (ix1 k) a = _
  rw [GatherDims.batchCoord_eq_zero _ _ _ List.not_mem_nil,
    GatherDims.offCoord_eq_zero _ _ _ (fun h => ((GatherDims.mem_sKept _ _).mp h).1 hc)]
  unfold GatherDims.start
  rw [dif_pos hs]
  have hx : ∀ c : Fin gather_S4096x4096_S4096x2_S4096_n_01_n_n_01_1_11.startIndexMap.length,
      gather_S4096x4096_S4096x2_S4096_n_01_n_n_01_1_11.siIdx (ix1 k) c = ix2 k (⟨c.val, c.isLt⟩ : Fin 2) := fun c => by
    funext b
    refine Fin.ext ?_
    match b with
    | ⟨0, _⟩ => rfl
    | ⟨1, _⟩ => rfl
  rw [hx, diagIx2_at, WordArith.toInt_ofNat_small _ (by omega)]
  match a with
  | ⟨0, _⟩ => show min k.val (4096 - 1) + 0 + 0 = k.val; omega
  | ⟨1, _⟩ => show min k.val (4096 - 1) + 0 + 0 = k.val; omega

/-! ## The whole at an entry, over the extended reals -/

theorem eye_at (i j : Fin 4096) : eye (F := Ideal) (at2 i j) = if i.val = j.val then (1 : EReal) else 0 := by
  have hi := i.isLt
  have hj := j.isLt
  show ((BitVec.toNat (IntOp.cmpi .eq (BitVec.ofNat 32 i.val + 0#32) (BitVec.ofNat 32 j.val)) : ℝ) : EReal) = _
  rw [BitVec.add_zero, WordCmp.cmpi_eq_ofNat (w := 32) (by omega) (by omega)]
  by_cases h : i.val = j.val
  · rw [if_pos h, decide_eq_true h]; simp
  · rw [if_neg h, decide_eq_false h]; simp

/-- The mirrored matrix at an entry, by its own entries. -/
theorem mirrored_at (u : Mat Ideal) (i j : Fin 4096) :
    mirrored u (at2 i j)
      = ((u (at2 i j) : EReal) + u (at2 j i) - u (at2 j j) + (if i.val = j.val then (1 : EReal) else 0) : EReal) := by
  have et : transpose S4096x4096 [1, 0] u transposes_S4096x4096_S4096x4096_1_0 (at2 i j) = u (at2 j i) :=
    transpose_apply _ u _ _ _ fun b => match b with | ⟨0, _⟩ => rfl | ⟨1, _⟩ => rfl
  have ed : broadcastInDim S4096x4096 ![0, 1] bcast_S1x4096_S4096x4096_0_1 (broadcastInDim S1x4096 ![1] bcast_S4096_S1x4096_1 (diag u)) (at2 i j)
      = u (at2 j j) := by
    refine Eq.trans ?_ (diag_at u j)
    unfold broadcastInDim
    refine congrArg (diag u) (funext fun a => Fin.ext ?_)
    match a with
    | ⟨0, _⟩ => rfl
  rw [← eye_at i j, ← et, ← ed]
  rfl

/-- The reference's matrix at an entry. -/
theorem value_at (x : Packed Ideal) (i j : Fin 4096) :
    mirrored (upper x) (at2 i j)
      = if h : i.val < j.val then x (ix1 ⟨pos i.val j.val, pos_lt i.isLt j.isLt⟩)
        else if h : j.val < i.val then x (ix1 ⟨pos j.val i.val, pos_lt j.isLt i.isLt⟩) else (1 : EReal) := by
  have z : (FloatOps.ofBits .f32 0x00000000#32 : Ideal .f32) = (0 : EReal) := Ideal.ofBits_zero_f32
  rw [mirrored_at, upper_at, upper_at, upper_at, z, dif_neg (Nat.lt_irrefl j.val)]
  by_cases h : i.val < j.val
  · rw [dif_pos h, dif_pos h, dif_neg (by omega), if_neg (by omega)]
    show (_ : EReal) + 0 - 0 + 0 = _
    rw [add_zero, sub_zero, add_zero]
  · rw [dif_neg h, dif_neg h]
    by_cases h' : j.val < i.val
    · rw [dif_pos h', dif_pos h', if_neg (by omega)]
      show 0 + (_ : EReal) - 0 + 0 = _
      rw [zero_add, sub_zero, add_zero]
    · rw [dif_neg h', dif_neg h', if_pos (by omega)]
      show (0 : EReal) + 0 - 0 + 1 = 1
      rw [zero_add, sub_zero, zero_add]

/-! ## The kernel's matrix is the same -/

/-- The packed array in rows of 128, read at place `n`. -/
theorem rows_at (x : Packed F) (n : ℕ) (hn : n < 8386560) :
    Vals.Xat (F := F) (shapeCast Cert.KernelIdeal.S65520x128 x Cert.KernelIdeal.Gen.shapeCasts_S8386560_S65520x128) n = x (ix1 ⟨n, hn⟩) := by
  unfold Vals.Xat
  refine shapeCast_apply x _ _ _ ?_
  rw [Shape.rowMajor_val_two, Shape.rowMajor_val_one]
  show n = min (n / 128) 65519 * 128 + n % 128
  omega

theorem same (x : Packed Ideal) :
    mirrored (upper x)
      = Vals.OUT (F := Ideal) (shapeCast Cert.KernelIdeal.S65520x128 x Cert.KernelIdeal.Gen.shapeCasts_S8386560_S65520x128) := by
  funext e
  have he : e = at2 ⟨(e 0).val, idx2_lt0 e⟩ ⟨(e 1).val, idx2_lt1 e⟩ := by
    funext a
    match a with
    | ⟨0, _⟩ => rfl
    | ⟨1, _⟩ => rfl
  rw [he, value_at]
  unfold Vals.OUT Vals.out
  show _ = if (e 0).val < (e 1).val then _ else if (e 1).val < (e 0).val then _ else _
  have h0 := idx2_lt0 e
  have h1 := idx2_lt1 e
  by_cases h : (e 0).val < (e 1).val
  · rw [dif_pos h, if_pos h]; exact (rows_at x _ (pos_lt h0 h1)).symm
  · rw [dif_neg h, if_neg h]
    by_cases h' : (e 1).val < (e 0).val
    · rw [dif_pos h', if_pos h']; exact (rows_at x _ (pos_lt h1 h0)).symm
    · rw [dif_neg h', if_neg h']; exact Ideal.ofBits_one_f32.symm

end Cert.Proof.RefValue

end
-- ==== Proof.lean ====
/- The five claims of `Cert.Claim`: the kernel's frame, as printed and idealized, the reference's frame, that the
   idealization is the kernel's own text, and that kernel and reference compute the same matrix.  The kernel's run is
   `Launch.run_main`, for any float values; the reference's is the generated `Value.run`; that their results are the
   same matrix is `RefValue.same`. -/
module

public import proofs.«01_k».proof.Defs
public import proofs.«01_k».proof.Proof.RefValue
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel runs, keeps its argument and leaves every counter at zero. -/
theorem frame_kernel : Cert.quiescent_Kernel := fun m g _ =>
  (θ_run (Cert.KernelIdeal.defs (F := Bits)) _ _).mono (fun _ h => ⟨fun c => (h.1 c).1, h.2⟩) (Launch.run_main (F := Bits) m g)

/-- So it does over the extended reals. -/
theorem frame_ideal : Cert.quiescent_KernelIdeal := fun m g _ =>
  (θ_run (Cert.KernelIdeal.defs (F := Ideal)) _ _).mono (fun _ h => ⟨fun c => (h.1 c).1, h.2⟩) (Launch.run_main (F := Ideal) m g)

/-- The reference runs and keeps its argument; it has no counters. -/
theorem frame_reference : Cert.quiescent_ReferenceIdeal := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

/-- Kernel and reference end with the same matrix. -/
theorem same_result : Cert.algebraic_KernelIdeal_ReferenceIdeal := fun m g m' g' _ hag =>
  ⟨fun c => Vals.OUT (F := Ideal) (Launch.X m c),
    (θ_run (Cert.KernelIdeal.defs (F := Ideal)) _ _).mono (fun _ h c => ⟨(h.1 c).2, (h.1 c).1⟩) (Launch.run_main (F := Ideal) m g),
    (θ_run (Cert.ReferenceIdeal.defs (F := Ideal)) _ _).mono
      (fun _ h c => ⟨(h c).1.trans ((RefValue.result_eq m' c).trans ((RefValue.same _).trans
        (congrArg (fun x => Vals.OUT (F := Ideal) (shapeCast Cert.KernelIdeal.S65520x128 x
          Cert.KernelIdeal.Gen.shapeCasts_S8386560_S65520x128)) (hag c)))), (h c).2⟩)
      (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, same_result⟩

end Cert.Proof

end
